-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelBandQkv (m : (ℓ : Loc Cert.KernelBandQkv.nD Cert.KernelBandQkv.τ Cert.KernelBandQkv.sig) → Buf (Elt Bits) ℓ) : Prop :=
  True

def Pre_KernelBandQkvIdeal (m : (ℓ : Loc Cert.KernelBandQkvIdeal.nD Cert.KernelBandQkvIdeal.τ Cert.KernelBandQkvIdeal.sig) → Buf (Elt Ideal) ℓ) : Prop :=
  True

def Pre_ReferenceBandQkvIdeal (m : (ℓ : Loc Cert.ReferenceBandQkvIdeal.nD Cert.ReferenceBandQkvIdeal.τ Cert.ReferenceBandQkvIdeal.sig) → Buf (Elt Ideal) ℓ) : Prop :=
  True

def Pre_KernelFfnSample (m : (ℓ : Loc Cert.KernelFfnSample.nD Cert.KernelFfnSample.τ Cert.KernelFfnSample.sig) → Buf (Elt Bits) ℓ) : Prop :=
  True

def Pre_KernelFfnSampleIdeal (m : (ℓ : Loc Cert.KernelFfnSampleIdeal.nD Cert.KernelFfnSampleIdeal.τ Cert.KernelFfnSampleIdeal.sig) → Buf (Elt Ideal) ℓ) : Prop :=
  True

def Pre_ReferenceFfnSampleIdeal (m : (ℓ : Loc Cert.ReferenceFfnSampleIdeal.nD Cert.ReferenceFfnSampleIdeal.τ Cert.ReferenceFfnSampleIdeal.sig) → Buf (Elt Ideal) ℓ) : Prop :=
  True

def Pre_KernelQkvSample (m : (ℓ : Loc Cert.KernelQkvSample.nD Cert.KernelQkvSample.τ Cert.KernelQkvSample.sig) → Buf (Elt Bits) ℓ) : Prop :=
  True

def Pre_KernelQkvSampleIdeal (m : (ℓ : Loc Cert.KernelQkvSampleIdeal.nD Cert.KernelQkvSampleIdeal.τ Cert.KernelQkvSampleIdeal.sig) → Buf (Elt Ideal) ℓ) : Prop :=
  True

def Pre_ReferenceQkvSampleIdeal (m : (ℓ : Loc Cert.ReferenceQkvSampleIdeal.nD Cert.ReferenceQkvSampleIdeal.τ Cert.ReferenceQkvSampleIdeal.sig) → Buf (Elt Ideal) ℓ) : Prop :=
  True

def Pre_KernelBandQkvSample (m : (ℓ : Loc Cert.KernelBandQkvSample.nD Cert.KernelBandQkvSample.τ Cert.KernelBandQkvSample.sig) → Buf (Elt Bits) ℓ) : Prop :=
  True

def Pre_KernelBandQkvSampleIdeal (m : (ℓ : Loc Cert.KernelBandQkvSampleIdeal.nD Cert.KernelBandQkvSampleIdeal.τ Cert.KernelBandQkvSampleIdeal.sig) → Buf (Elt Ideal) ℓ) : Prop :=
  True

def Pre_ReferenceBandQkvSampleIdeal (m : (ℓ : Loc Cert.ReferenceBandQkvSampleIdeal.nD Cert.ReferenceBandQkvSampleIdeal.τ Cert.ReferenceBandQkvSampleIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3)
      ∧ r.2.mem ((c.tc : Thread Cert.KernelQkv.nD Cert.KernelQkv.τ).loc Cert.KernelQkv.main_arg4) = m ((c.tc : Thread Cert.KernelQkv.nD Cert.KernelQkv.τ).loc Cert.KernelQkv.main_arg4))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4))
      ∧ r.2.sem = fun _ => 0)

def quiescent_KernelBandQkv [hKernelBandQkv : Cert.KernelBandQkv.Facts] : Prop :=
  ∀ (m : (ℓ : Loc Cert.KernelBandQkv.nD Cert.KernelBandQkv.τ Cert.KernelBandQkv.sig) → Buf (Elt Bits) ℓ) (g : Dev Cert.KernelBandQkv.nD → PrngReg), Pre_KernelBandQkv m →
    θ_run (Cert.KernelBandQkv.defs (F := Bits)) (onTc (τ := Cert.KernelBandQkv.τ) (Cert.KernelBandQkv.main (F := Bits))) ⟨m, fun _ => 0, g⟩ (fun r => (∀ c : Dev Cert.KernelBandQkv.nD,
      r.2.mem ((c.tc : Thread Cert.KernelBandQkv.nD Cert.KernelBandQkv.τ).loc Cert.KernelBandQkv.main_arg0) = m ((c.tc : Thread Cert.KernelBandQkv.nD Cert.KernelBandQkv.τ).loc Cert.KernelBandQkv.main_arg0)
      ∧ r.2.mem ((c.tc : Thread Cert.KernelBandQkv.nD Cert.KernelBandQkv.τ).loc Cert.KernelBandQkv.main_arg1) = m ((c.tc : Thread Cert.KernelBandQkv.nD Cert.KernelBandQkv.τ).loc Cert.KernelBandQkv.main_arg1)
      ∧ r.2.mem ((c.tc : Thread Cert.KernelBandQkv.nD Cert.KernelBandQkv.τ).loc Cert.KernelBandQkv.main_arg2) = m ((c.tc : Thread Cert.KernelBandQkv.nD Cert.KernelBandQkv.τ).loc Cert.KernelBandQkv.main_arg2))
      ∧ r.2.sem = fun _ => 0)

def quiescent_KernelBandQkvIdeal [hKernelBandQkvIdeal : Cert.KernelBandQkvIdeal.Facts] : Prop :=
  ∀ (m : (ℓ : Loc Cert.KernelBandQkvIdeal.nD Cert.KernelBandQkvIdeal.τ Cert.KernelBandQkvIdeal.sig) → Buf (Elt Ideal) ℓ) (g : Dev Cert.KernelBandQkvIdeal.nD → PrngReg), Pre_KernelBandQkvIdeal m →
    θ_run (Cert.KernelBandQkvIdeal.defs (F := Ideal)) (onTc (τ := Cert.KernelBandQkvIdeal.τ) (Cert.KernelBandQkvIdeal.main (F := Ideal))) ⟨m, fun _ => 0, g⟩ (fun r => (∀ c : Dev Cert.KernelBandQkvIdeal.nD,
      r.2.mem ((c.tc : Thread Cert.KernelBandQkvIdeal.nD Cert.KernelBandQkvIdeal.τ).loc Cert.KernelBandQkvIdeal.main_arg0) = m ((c.tc : Thread Cert.KernelBandQkvIdeal.nD Cert.KernelBandQkvIdeal.τ).loc Cert.KernelBandQkvIdeal.main_arg0)
      ∧ r.2.mem ((c.tc : Thread Cert.KernelBandQkvIdeal.nD Cert.KernelBandQkvIdeal.τ).loc Cert.KernelBandQkvIdeal.main_arg1) = m ((c.tc : Thread Cert.KernelBandQkvIdeal.nD Cert.KernelBandQkvIdeal.τ).loc Cert.KernelBandQkvIdeal.main_arg1)
      ∧ r.2.mem ((c.tc : Thread Cert.KernelBandQkvIdeal.nD Cert.KernelBandQkvIdeal.τ).loc Cert.KernelBandQkvIdeal.main_arg2) = m ((c.tc : Thread Cert.KernelBandQkvIdeal.nD Cert.KernelBandQkvIdeal.τ).loc Cert.KernelBandQkvIdeal.main_arg2))
      ∧ r.2.sem = fun _ => 0)

def quiescent_ReferenceBandQkvIdeal [hReferenceBandQkvIdeal : Cert.ReferenceBandQkvIdeal.Facts] : Prop :=
  ∀ (m : (ℓ : Loc Cert.ReferenceBandQkvIdeal.nD Cert.ReferenceBandQkvIdeal.τ Cert.ReferenceBandQkvIdeal.sig) → Buf (Elt Ideal) ℓ) (g : Dev Cert.ReferenceBandQkvIdeal.nD → PrngReg), Pre_ReferenceBandQkvIdeal m →
    θ_run (Cert.ReferenceBandQkvIdeal.defs (F := Ideal)) (onTc (τ := Cert.ReferenceBandQkvIdeal.τ) (Cert.ReferenceBandQkvIdeal.main (F := Ideal))) ⟨m, fun _ => 0, g⟩ (fun r => (∀ c : Dev Cert.ReferenceBandQkvIdeal.nD,
      r.2.mem ((c.tc : Thread Cert.ReferenceBandQkvIdeal.nD Cert.ReferenceBandQkvIdeal.τ).loc Cert.ReferenceBandQkvIdeal.main_arg0) = m ((c.tc : Thread Cert.ReferenceBandQkvIdeal.nD Cert.ReferenceBandQkvIdeal.τ).loc Cert.ReferenceBandQkvIdeal.main_arg0)
      ∧ r.2.mem ((c.tc : Thread Cert.ReferenceBandQkvIdeal.nD Cert.ReferenceBandQkvIdeal.τ).loc Cert.ReferenceBandQkvIdeal.main_arg1) = m ((c.tc : Thread Cert.ReferenceBandQkvIdeal.nD Cert.ReferenceBandQkvIdeal.τ).loc Cert.ReferenceBandQkvIdeal.main_arg1)
      ∧ r.2.mem ((c.tc : Thread Cert.ReferenceBandQkvIdeal.nD Cert.ReferenceBandQkvIdeal.τ).loc Cert.ReferenceBandQkvIdeal.main_arg2) = m ((c.tc : Thread Cert.ReferenceBandQkvIdeal.nD Cert.ReferenceBandQkvIdeal.τ).loc Cert.ReferenceBandQkvIdeal.main_arg2))
      ∧ r.2.sem = fun _ => 0)

def quiescent_KernelFfnSample [hKernelFfnSample : Cert.KernelFfnSample.Facts] : Prop :=
  ∀ (m : (ℓ : Loc Cert.KernelFfnSample.nD Cert.KernelFfnSample.τ Cert.KernelFfnSample.sig) → Buf (Elt Bits) ℓ) (g : Dev Cert.KernelFfnSample.nD → PrngReg), Pre_KernelFfnSample m →
    θ_run (Cert.KernelFfnSample.defs (F := Bits)) (onTc (τ := Cert.KernelFfnSample.τ) (Cert.KernelFfnSample.main (F := Bits))) ⟨m, fun _ => 0, g⟩ (fun r => (∀ c : Dev Cert.KernelFfnSample.nD,
      r.2.mem ((c.tc : Thread Cert.KernelFfnSample.nD Cert.KernelFfnSample.τ).loc Cert.KernelFfnSample.main_arg0) = m ((c.tc : Thread Cert.KernelFfnSample.nD Cert.KernelFfnSample.τ).loc Cert.KernelFfnSample.main_arg0)
      ∧ r.2.mem ((c.tc : Thread Cert.KernelFfnSample.nD Cert.KernelFfnSample.τ).loc Cert.KernelFfnSample.main_arg1) = m ((c.tc : Thread Cert.KernelFfnSample.nD Cert.KernelFfnSample.τ).loc Cert.KernelFfnSample.main_arg1)
      ∧ r.2.mem ((c.tc : Thread Cert.KernelFfnSample.nD Cert.KernelFfnSample.τ).loc Cert.KernelFfnSample.main_arg2) = m ((c.tc : Thread Cert.KernelFfnSample.nD Cert.KernelFfnSample.τ).loc Cert.KernelFfnSample.main_arg2)
      ∧ r.2.mem ((c.tc : Thread Cert.KernelFfnSample.nD Cert.KernelFfnSample.τ).loc Cert.KernelFfnSample.main_arg3) = m ((c.tc : Thread Cert.KernelFfnSample.nD Cert.KernelFfnSample.τ).loc Cert.KernelFfnSample.main_arg3)
      ∧ r.2.mem ((c.tc : Thread Cert.KernelFfnSample.nD Cert.KernelFfnSample.τ).loc Cert.KernelFfnSample.main_arg4) = m ((c.tc : Thread Cert.KernelFfnSample.nD Cert.KernelFfnSample.τ).loc Cert.KernelFfnSample.main_arg4)
      ∧ r.2.mem ((c.tc : Thread Cert.KernelFfnSample.nD Cert.KernelFfnSample.τ).loc Cert.KernelFfnSample.main_arg5) = m ((c.tc : Thread Cert.KernelFfnSample.nD Cert.KernelFfnSample.τ).loc Cert.KernelFfnSample.main_arg5)
      ∧ r.2.mem ((c.tc : Thread Cert.KernelFfnSample.nD Cert.KernelFfnSample.τ).loc Cert.KernelFfnSample.main_arg6) = m ((c.tc : Thread Cert.KernelFfnSample.nD Cert.KernelFfnSample.τ).loc Cert.KernelFfnSample.main_arg6))
      ∧ r.2.sem = fun _ => 0)

def quiescent_KernelFfnSampleIdeal [hKernelFfnSampleIdeal : Cert.KernelFfnSampleIdeal.Facts] : Prop :=
  ∀ (m : (ℓ : Loc Cert.KernelFfnSampleIdeal.nD Cert.KernelFfnSampleIdeal.τ Cert.KernelFfnSampleIdeal.sig) → Buf (Elt Ideal) ℓ) (g : Dev Cert.KernelFfnSampleIdeal.nD → PrngReg), Pre_KernelFfnSampleIdeal m →
    θ_run (Cert.KernelFfnSampleIdeal.defs (F := Ideal)) (onTc (τ := Cert.KernelFfnSampleIdeal.τ) (Cert.KernelFfnSampleIdeal.main (F := Ideal))) ⟨m, fun _ => 0, g⟩ (fun r => (∀ c : Dev Cert.KernelFfnSampleIdeal.nD,
      r.2.mem ((c.tc : Thread Cert.KernelFfnSampleIdeal.nD Cert.KernelFfnSampleIdeal.τ).loc Cert.KernelFfnSampleIdeal.main_arg0) = m ((c.tc : Thread Cert.KernelFfnSampleIdeal.nD Cert.KernelFfnSampleIdeal.τ).loc Cert.KernelFfnSampleIdeal.main_arg0)
      ∧ r.2.mem ((c.tc : Thread Cert.KernelFfnSampleIdeal.nD Cert.KernelFfnSampleIdeal.τ).loc Cert.KernelFfnSampleIdeal.main_arg1) = m ((c.tc : Thread Cert.KernelFfnSampleIdeal.nD Cert.KernelFfnSampleIdeal.τ).loc Cert.KernelFfnSampleIdeal.main_arg1)
      ∧ r.2.mem ((c.tc : Thread Cert.KernelFfnSampleIdeal.nD Cert.KernelFfnSampleIdeal.τ).loc Cert.KernelFfnSampleIdeal.main_arg2) = m ((c.tc : Thread Cert.KernelFfnSampleIdeal.nD Cert.KernelFfnSampleIdeal.τ).loc Cert.KernelFfnSampleIdeal.main_arg2)
      ∧ r.2.mem ((c.tc : Thread Cert.KernelFfnSampleIdeal.nD Cert.KernelFfnSampleIdeal.τ).loc Cert.KernelFfnSampleIdeal.main_arg3) = m ((c.tc : Thread Cert.KernelFfnSampleIdeal.nD Cert.KernelFfnSampleIdeal.τ).loc Cert.KernelFfnSampleIdeal.main_arg3)
      ∧ r.2.mem ((c.tc : Thread Cert.KernelFfnSampleIdeal.nD Cert.KernelFfnSampleIdeal.τ).loc Cert.KernelFfnSampleIdeal.main_arg4) = m ((c.tc : Thread Cert.KernelFfnSampleIdeal.nD Cert.KernelFfnSampleIdeal.τ).loc Cert.KernelFfnSampleIdeal.main_arg4)
      ∧ r.2.mem ((c.tc : Thread Cert.KernelFfnSampleIdeal.nD Cert.KernelFfnSampleIdeal.τ).loc Cert.KernelFfnSampleIdeal.main_arg5) = m ((c.tc : Thread Cert.KernelFfnSampleIdeal.nD Cert.KernelFfnSampleIdeal.τ).loc Cert.KernelFfnSampleIdeal.main_arg5)
      ∧ r.2.mem ((c.tc : Thread Cert.KernelFfnSampleIdeal.nD Cert.KernelFfnSampleIdeal.τ).loc Cert.KernelFfnSampleIdeal.main_arg6) = m ((c.tc : Thread Cert.KernelFfnSampleIdeal.nD Cert.KernelFfnSampleIdeal.τ).loc Cert.KernelFfnSampleIdeal.main_arg6))
      ∧ r.2.sem = fun _ => 0)

def quiescent_ReferenceFfnSampleIdeal [hReferenceFfnSampleIdeal : Cert.ReferenceFfnSampleIdeal.Facts] : Prop :=
  ∀ (m : (ℓ : Loc Cert.ReferenceFfnSampleIdeal.nD Cert.ReferenceFfnSampleIdeal.τ Cert.ReferenceFfnSampleIdeal.sig) → Buf (Elt Ideal) ℓ) (g : Dev Cert.ReferenceFfnSampleIdeal.nD → PrngReg), Pre_ReferenceFfnSampleIdeal m →
    θ_run (Cert.ReferenceFfnSampleIdeal.defs (F := Ideal)) (onTc (τ := Cert.ReferenceFfnSampleIdeal.τ) (Cert.ReferenceFfnSampleIdeal.main (F := Ideal))) ⟨m, fun _ => 0, g⟩ (fun r => (∀ c : Dev Cert.ReferenceFfnSampleIdeal.nD,
      r.2.mem ((c.tc : Thread Cert.ReferenceFfnSampleIdeal.nD Cert.ReferenceFfnSampleIdeal.τ).loc Cert.ReferenceFfnSampleIdeal.main_arg0) = m ((c.tc : Thread Cert.ReferenceFfnSampleIdeal.nD Cert.ReferenceFfnSampleIdeal.τ).loc Cert.ReferenceFfnSampleIdeal.main_arg0)
      ∧ r.2.mem ((c.tc : Thread Cert.ReferenceFfnSampleIdeal.nD Cert.ReferenceFfnSampleIdeal.τ).loc Cert.ReferenceFfnSampleIdeal.main_arg1) = m ((c.tc : Thread Cert.ReferenceFfnSampleIdeal.nD Cert.ReferenceFfnSampleIdeal.τ).loc Cert.ReferenceFfnSampleIdeal.main_arg1)
      ∧ r.2.mem ((c.tc : Thread Cert.ReferenceFfnSampleIdeal.nD Cert.ReferenceFfnSampleIdeal.τ).loc Cert.ReferenceFfnSampleIdeal.main_arg2) = m ((c.tc : Thread Cert.ReferenceFfnSampleIdeal.nD Cert.ReferenceFfnSampleIdeal.τ).loc Cert.ReferenceFfnSampleIdeal.main_arg2)
      ∧ r.2.mem ((c.tc : Thread Cert.ReferenceFfnSampleIdeal.nD Cert.ReferenceFfnSampleIdeal.τ).loc Cert.ReferenceFfnSampleIdeal.main_arg3) = m ((c.tc : Thread Cert.ReferenceFfnSampleIdeal.nD Cert.ReferenceFfnSampleIdeal.τ).loc Cert.ReferenceFfnSampleIdeal.main_arg3)
      ∧ r.2.mem ((c.tc : Thread Cert.ReferenceFfnSampleIdeal.nD Cert.ReferenceFfnSampleIdeal.τ).loc Cert.ReferenceFfnSampleIdeal.main_arg4) = m ((c.tc : Thread Cert.ReferenceFfnSampleIdeal.nD Cert.ReferenceFfnSampleIdeal.τ).loc Cert.ReferenceFfnSampleIdeal.main_arg4)
      ∧ r.2.mem ((c.tc : Thread Cert.ReferenceFfnSampleIdeal.nD Cert.ReferenceFfnSampleIdeal.τ).loc Cert.ReferenceFfnSampleIdeal.main_arg5) = m ((c.tc : Thread Cert.ReferenceFfnSampleIdeal.nD Cert.ReferenceFfnSampleIdeal.τ).loc Cert.ReferenceFfnSampleIdeal.main_arg5)
      ∧ r.2.mem ((c.tc : Thread Cert.ReferenceFfnSampleIdeal.nD Cert.ReferenceFfnSampleIdeal.τ).loc Cert.ReferenceFfnSampleIdeal.main_arg6) = m ((c.tc : Thread Cert.ReferenceFfnSampleIdeal.nD Cert.ReferenceFfnSampleIdeal.τ).loc Cert.ReferenceFfnSampleIdeal.main_arg6))
      ∧ r.2.sem = fun _ => 0)

def quiescent_KernelQkvSample [hKernelQkvSample : Cert.KernelQkvSample.Facts] : Prop :=
  ∀ (m : (ℓ : Loc Cert.KernelQkvSample.nD Cert.KernelQkvSample.τ Cert.KernelQkvSample.sig) → Buf (Elt Bits) ℓ) (g : Dev Cert.KernelQkvSample.nD → PrngReg), Pre_KernelQkvSample m →
    θ_run (Cert.KernelQkvSample.defs (F := Bits)) (onTc (τ := Cert.KernelQkvSample.τ) (Cert.KernelQkvSample.main (F := Bits))) ⟨m, fun _ => 0, g⟩ (fun r => (∀ c : Dev Cert.KernelQkvSample.nD,
      r.2.mem ((c.tc : Thread Cert.KernelQkvSample.nD Cert.KernelQkvSample.τ).loc Cert.KernelQkvSample.main_arg0) = m ((c.tc : Thread Cert.KernelQkvSample.nD Cert.KernelQkvSample.τ).loc Cert.KernelQkvSample.main_arg0)
      ∧ r.2.mem ((c.tc : Thread Cert.KernelQkvSample.nD Cert.KernelQkvSample.τ).loc Cert.KernelQkvSample.main_arg1) = m ((c.tc : Thread Cert.KernelQkvSample.nD Cert.KernelQkvSample.τ).loc Cert.KernelQkvSample.main_arg1)
      ∧ r.2.mem ((c.tc : Thread Cert.KernelQkvSample.nD Cert.KernelQkvSample.τ).loc Cert.KernelQkvSample.main_arg2) = m ((c.tc : Thread Cert.KernelQkvSample.nD Cert.KernelQkvSample.τ).loc Cert.KernelQkvSample.main_arg2))
      ∧ r.2.sem = fun _ => 0)

def quiescent_KernelQkvSampleIdeal [hKernelQkvSampleIdeal : Cert.KernelQkvSampleIdeal.Facts] : Prop :=
  ∀ (m : (ℓ : Loc Cert.KernelQkvSampleIdeal.nD Cert.KernelQkvSampleIdeal.τ Cert.KernelQkvSampleIdeal.sig) → Buf (Elt Ideal) ℓ) (g : Dev Cert.KernelQkvSampleIdeal.nD → PrngReg), Pre_KernelQkvSampleIdeal m →
    θ_run (Cert.KernelQkvSampleIdeal.defs (F := Ideal)) (onTc (τ := Cert.KernelQkvSampleIdeal.τ) (Cert.KernelQkvSampleIdeal.main (F := Ideal))) ⟨m, fun _ => 0, g⟩ (fun r => (∀ c : Dev Cert.KernelQkvSampleIdeal.nD,
      r.2.mem ((c.tc : Thread Cert.KernelQkvSampleIdeal.nD Cert.KernelQkvSampleIdeal.τ).loc Cert.KernelQkvSampleIdeal.main_arg0) = m ((c.tc : Thread Cert.KernelQkvSampleIdeal.nD Cert.KernelQkvSampleIdeal.τ).loc Cert.KernelQkvSampleIdeal.main_arg0)
      ∧ r.2.mem ((c.tc : Thread Cert.KernelQkvSampleIdeal.nD Cert.KernelQkvSampleIdeal.τ).loc Cert.KernelQkvSampleIdeal.main_arg1) = m ((c.tc : Thread Cert.KernelQkvSampleIdeal.nD Cert.KernelQkvSampleIdeal.τ).loc Cert.KernelQkvSampleIdeal.main_arg1)
      ∧ r.2.mem ((c.tc : Thread Cert.KernelQkvSampleIdeal.nD Cert.KernelQkvSampleIdeal.τ).loc Cert.KernelQkvSampleIdeal.main_arg2) = m ((c.tc : Thread Cert.KernelQkvSampleIdeal.nD Cert.KernelQkvSampleIdeal.τ).loc Cert.KernelQkvSampleIdeal.main_arg2))
      ∧ r.2.sem = fun _ => 0)

def quiescent_ReferenceQkvSampleIdeal [hReferenceQkvSampleIdeal : Cert.ReferenceQkvSampleIdeal.Facts] : Prop :=
  ∀ (m : (ℓ : Loc Cert.ReferenceQkvSampleIdeal.nD Cert.ReferenceQkvSampleIdeal.τ Cert.ReferenceQkvSampleIdeal.sig) → Buf (Elt Ideal) ℓ) (g : Dev Cert.ReferenceQkvSampleIdeal.nD → PrngReg), Pre_ReferenceQkvSampleIdeal m →
    θ_run (Cert.ReferenceQkvSampleIdeal.defs (F := Ideal)) (onTc (τ := Cert.ReferenceQkvSampleIdeal.τ) (Cert.ReferenceQkvSampleIdeal.main (F := Ideal))) ⟨m, fun _ => 0, g⟩ (fun r => (∀ c : Dev Cert.ReferenceQkvSampleIdeal.nD,
      r.2.mem ((c.tc : Thread Cert.ReferenceQkvSampleIdeal.nD Cert.ReferenceQkvSampleIdeal.τ).loc Cert.ReferenceQkvSampleIdeal.main_arg0) = m ((c.tc : Thread Cert.ReferenceQkvSampleIdeal.nD Cert.ReferenceQkvSampleIdeal.τ).loc Cert.ReferenceQkvSampleIdeal.main_arg0)
      ∧ r.2.mem ((c.tc : Thread Cert.ReferenceQkvSampleIdeal.nD Cert.ReferenceQkvSampleIdeal.τ).loc Cert.ReferenceQkvSampleIdeal.main_arg1) = m ((c.tc : Thread Cert.ReferenceQkvSampleIdeal.nD Cert.ReferenceQkvSampleIdeal.τ).loc Cert.ReferenceQkvSampleIdeal.main_arg1)
      ∧ r.2.mem ((c.tc : Thread Cert.ReferenceQkvSampleIdeal.nD Cert.ReferenceQkvSampleIdeal.τ).loc Cert.ReferenceQkvSampleIdeal.main_arg2) = m ((c.tc : Thread Cert.ReferenceQkvSampleIdeal.nD Cert.ReferenceQkvSampleIdeal.τ).loc Cert.ReferenceQkvSampleIdeal.main_arg2))
      ∧ r.2.sem = fun _ => 0)

def quiescent_KernelBandQkvSample [hKernelBandQkvSample : Cert.KernelBandQkvSample.Facts] : Prop :=
  ∀ (m : (ℓ : Loc Cert.KernelBandQkvSample.nD Cert.KernelBandQkvSample.τ Cert.KernelBandQkvSample.sig) → Buf (Elt Bits) ℓ) (g : Dev Cert.KernelBandQkvSample.nD → PrngReg), Pre_KernelBandQkvSample m →
    θ_run (Cert.KernelBandQkvSample.defs (F := Bits)) (onTc (τ := Cert.KernelBandQkvSample.τ) (Cert.KernelBandQkvSample.main (F := Bits))) ⟨m, fun _ => 0, g⟩ (fun r => (∀ c : Dev Cert.KernelBandQkvSample.nD,
      r.2.mem ((c.tc : Thread Cert.KernelBandQkvSample.nD Cert.KernelBandQkvSample.τ).loc Cert.KernelBandQkvSample.main_arg0) = m ((c.tc : Thread Cert.KernelBandQkvSample.nD Cert.KernelBandQkvSample.τ).loc Cert.KernelBandQkvSample.main_arg0)
      ∧ r.2.mem ((c.tc : Thread Cert.KernelBandQkvSample.nD Cert.KernelBandQkvSample.τ).loc Cert.KernelBandQkvSample.main_arg1) = m ((c.tc : Thread Cert.KernelBandQkvSample.nD Cert.KernelBandQkvSample.τ).loc Cert.KernelBandQkvSample.main_arg1)
      ∧ r.2.mem ((c.tc : Thread Cert.KernelBandQkvSample.nD Cert.KernelBandQkvSample.τ).loc Cert.KernelBandQkvSample.main_arg2) = m ((c.tc : Thread Cert.KernelBandQkvSample.nD Cert.KernelBandQkvSample.τ).loc Cert.KernelBandQkvSample.main_arg2))
      ∧ r.2.sem = fun _ => 0)

def quiescent_KernelBandQkvSampleIdeal [hKernelBandQkvSampleIdeal : Cert.KernelBandQkvSampleIdeal.Facts] : Prop :=
  ∀ (m : (ℓ : Loc Cert.KernelBandQkvSampleIdeal.nD Cert.KernelBandQkvSampleIdeal.τ Cert.KernelBandQkvSampleIdeal.sig) → Buf (Elt Ideal) ℓ) (g : Dev Cert.KernelBandQkvSampleIdeal.nD → PrngReg), Pre_KernelBandQkvSampleIdeal m →
    θ_run (Cert.KernelBandQkvSampleIdeal.defs (F := Ideal)) (onTc (τ := Cert.KernelBandQkvSampleIdeal.τ) (Cert.KernelBandQkvSampleIdeal.main (F := Ideal))) ⟨m, fun _ => 0, g⟩ (fun r => (∀ c : Dev Cert.KernelBandQkvSampleIdeal.nD,
      r.2.mem ((c.tc : Thread Cert.KernelBandQkvSampleIdeal.nD Cert.KernelBandQkvSampleIdeal.τ).loc Cert.KernelBandQkvSampleIdeal.main_arg0) = m ((c.tc : Thread Cert.KernelBandQkvSampleIdeal.nD Cert.KernelBandQkvSampleIdeal.τ).loc Cert.KernelBandQkvSampleIdeal.main_arg0)
      ∧ r.2.mem ((c.tc : Thread Cert.KernelBandQkvSampleIdeal.nD Cert.KernelBandQkvSampleIdeal.τ).loc Cert.KernelBandQkvSampleIdeal.main_arg1) = m ((c.tc : Thread Cert.KernelBandQkvSampleIdeal.nD Cert.KernelBandQkvSampleIdeal.τ).loc Cert.KernelBandQkvSampleIdeal.main_arg1)
      ∧ r.2.mem ((c.tc : Thread Cert.KernelBandQkvSampleIdeal.nD Cert.KernelBandQkvSampleIdeal.τ).loc Cert.KernelBandQkvSampleIdeal.main_arg2) = m ((c.tc : Thread Cert.KernelBandQkvSampleIdeal.nD Cert.KernelBandQkvSampleIdeal.τ).loc Cert.KernelBandQkvSampleIdeal.main_arg2))
      ∧ r.2.sem = fun _ => 0)

def quiescent_ReferenceBandQkvSampleIdeal [hReferenceBandQkvSampleIdeal : Cert.ReferenceBandQkvSampleIdeal.Facts] : Prop :=
  ∀ (m : (ℓ : Loc Cert.ReferenceBandQkvSampleIdeal.nD Cert.ReferenceBandQkvSampleIdeal.τ Cert.ReferenceBandQkvSampleIdeal.sig) → Buf (Elt Ideal) ℓ) (g : Dev Cert.ReferenceBandQkvSampleIdeal.nD → PrngReg), Pre_ReferenceBandQkvSampleIdeal m →
    θ_run (Cert.ReferenceBandQkvSampleIdeal.defs (F := Ideal)) (onTc (τ := Cert.ReferenceBandQkvSampleIdeal.τ) (Cert.ReferenceBandQkvSampleIdeal.main (F := Ideal))) ⟨m, fun _ => 0, g⟩ (fun r => (∀ c : Dev Cert.ReferenceBandQkvSampleIdeal.nD,
      r.2.mem ((c.tc : Thread Cert.ReferenceBandQkvSampleIdeal.nD Cert.ReferenceBandQkvSampleIdeal.τ).loc Cert.ReferenceBandQkvSampleIdeal.main_arg0) = m ((c.tc : Thread Cert.ReferenceBandQkvSampleIdeal.nD Cert.ReferenceBandQkvSampleIdeal.τ).loc Cert.ReferenceBandQkvSampleIdeal.main_arg0)
      ∧ r.2.mem ((c.tc : Thread Cert.ReferenceBandQkvSampleIdeal.nD Cert.ReferenceBandQkvSampleIdeal.τ).loc Cert.ReferenceBandQkvSampleIdeal.main_arg1) = m ((c.tc : Thread Cert.ReferenceBandQkvSampleIdeal.nD Cert.ReferenceBandQkvSampleIdeal.τ).loc Cert.ReferenceBandQkvSampleIdeal.main_arg1)
      ∧ r.2.mem ((c.tc : Thread Cert.ReferenceBandQkvSampleIdeal.nD Cert.ReferenceBandQkvSampleIdeal.τ).loc Cert.ReferenceBandQkvSampleIdeal.main_arg2) = m ((c.tc : Thread Cert.ReferenceBandQkvSampleIdeal.nD Cert.ReferenceBandQkvSampleIdeal.τ).loc Cert.ReferenceBandQkvSampleIdeal.main_arg2))
      ∧ r.2.sem = fun _ => 0)

def preserves_Kernel_KernelIdeal : Prop :=
  IdealRules.named_const.Statement Cert.KernelIdeal.κ "log2zero" .f32 0xC3170000#32 ⊥
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)) →
    ∃ (v0 : (c : Dev Cert.KernelFfnIdeal.nD) → Buf (Elt Ideal) ((c.tc : Thread Cert.KernelFfnIdeal.nD Cert.KernelFfnIdeal.τ).loc Cert.KernelFfnIdeal.main_v8)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v8) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v35) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6))

def preserves_KernelQkv_KernelQkvIdeal : Prop :=
  IdealRules.named_const.Statement Cert.KernelQkvIdeal.κ "sb_scale" .f32 0x3E0293EE#32 (((Real.sqrt 128)⁻¹ * (Real.log 2)⁻¹ : ℝ) : EReal)

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)
      ∧ m' ((c.tc : Thread Cert.ReferenceQkvIdeal.nD Cert.ReferenceQkvIdeal.τ).loc Cert.ReferenceQkvIdeal.main_arg4) = m ((c.tc : Thread Cert.KernelQkvIdeal.nD Cert.KernelQkvIdeal.τ).loc Cert.KernelQkvIdeal.main_arg4)) →
    ∃ (v0 : (c : Dev Cert.KernelQkvIdeal.nD) → Buf (Elt Ideal) ((c.tc : Thread Cert.KernelQkvIdeal.nD Cert.KernelQkvIdeal.τ).loc Cert.KernelQkvIdeal.main_v3_0)) (v1 : (c : Dev Cert.KernelQkvIdeal.nD) → Buf (Elt Ideal) ((c.tc : Thread Cert.KernelQkvIdeal.nD Cert.KernelQkvIdeal.τ).loc Cert.KernelQkvIdeal.main_v3_1)) (v2 : (c : Dev Cert.KernelQkvIdeal.nD) → Buf (Elt Ideal) ((c.tc : Thread Cert.KernelQkvIdeal.nD Cert.KernelQkvIdeal.τ).loc Cert.KernelQkvIdeal.main_v3_2)) (v3 : (c : Dev Cert.KernelQkvIdeal.nD) → Buf (Elt Ideal) ((c.tc : Thread Cert.KernelQkvIdeal.nD Cert.KernelQkvIdeal.τ).loc Cert.KernelQkvIdeal.main_v3_3)) (v4 : (c : Dev Cert.KernelQkvIdeal.nD) → Buf (Elt Ideal) ((c.tc : Thread Cert.KernelQkvIdeal.nD Cert.KernelQkvIdeal.τ).loc Cert.KernelQkvIdeal.main_v3_4)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v3_0) = v0 c
          ∧ r.2.mem ((c.tc : Thread Cert.KernelQkvIdeal.nD Cert.KernelQkvIdeal.τ).loc Cert.KernelQkvIdeal.main_v3_1) = v1 c
          ∧ r.2.mem ((c.tc : Thread Cert.KernelQkvIdeal.nD Cert.KernelQkvIdeal.τ).loc Cert.KernelQkvIdeal.main_v3_2) = v2 c
          ∧ r.2.mem ((c.tc : Thread Cert.KernelQkvIdeal.nD Cert.KernelQkvIdeal.τ).loc Cert.KernelQkvIdeal.main_v3_3) = v3 c
          ∧ r.2.mem ((c.tc : Thread Cert.KernelQkvIdeal.nD Cert.KernelQkvIdeal.τ).loc Cert.KernelQkvIdeal.main_v3_4) = v4 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
          ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v27) = v0 c
          ∧ r.2.mem ((c.tc : Thread Cert.ReferenceQkvIdeal.nD Cert.ReferenceQkvIdeal.τ).loc Cert.ReferenceQkvIdeal.main_v33) = v1 c
          ∧ r.2.mem ((c.tc : Thread Cert.ReferenceQkvIdeal.nD Cert.ReferenceQkvIdeal.τ).loc Cert.ReferenceQkvIdeal.main_v39) = v2 c
          ∧ r.2.mem ((c.tc : Thread Cert.ReferenceQkvIdeal.nD Cert.ReferenceQkvIdeal.τ).loc Cert.ReferenceQkvIdeal.main_v41) = v3 c
          ∧ r.2.mem ((c.tc : Thread Cert.ReferenceQkvIdeal.nD Cert.ReferenceQkvIdeal.τ).loc Cert.ReferenceQkvIdeal.main_v43) = v4 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3)
          ∧ r.2.mem ((c.tc : Thread Cert.ReferenceQkvIdeal.nD Cert.ReferenceQkvIdeal.τ).loc Cert.ReferenceQkvIdeal.main_arg4) = m' ((c.tc : Thread Cert.ReferenceQkvIdeal.nD Cert.ReferenceQkvIdeal.τ).loc Cert.ReferenceQkvIdeal.main_arg4))

def preserves_KernelBandQkv_KernelBandQkvIdeal : Prop :=
  IdealRules.named_const.Statement Cert.KernelBandQkvIdeal.κ "band_scale" .f32 0x3E38AA3B#32 (((Real.sqrt 64)⁻¹ * (Real.log 2)⁻¹ : ℝ) : EReal)

def algebraic_KernelBandQkvIdeal_ReferenceBandQkvIdeal [hKernelBandQkvIdeal : Cert.KernelBandQkvIdeal.Facts] [hReferenceBandQkvIdeal : Cert.ReferenceBandQkvIdeal.Facts] : Prop :=
  ∀ (m : (ℓ : Loc Cert.KernelBandQkvIdeal.nD Cert.KernelBandQkvIdeal.τ Cert.KernelBandQkvIdeal.sig) → Buf (Elt Ideal) ℓ) (g : Dev Cert.KernelBandQkvIdeal.nD → PrngReg)
    (m' : (ℓ : Loc Cert.ReferenceBandQkvIdeal.nD Cert.ReferenceBandQkvIdeal.τ Cert.ReferenceBandQkvIdeal.sig) → Buf (Elt Ideal) ℓ) (g' : Dev Cert.ReferenceBandQkvIdeal.nD → PrngReg), Pre_KernelBandQkvIdeal m →
    (∀ c : Dev Cert.KernelBandQkvIdeal.nD,
      m' ((c.tc : Thread Cert.ReferenceBandQkvIdeal.nD Cert.ReferenceBandQkvIdeal.τ).loc Cert.ReferenceBandQkvIdeal.main_arg0) = m ((c.tc : Thread Cert.KernelBandQkvIdeal.nD Cert.KernelBandQkvIdeal.τ).loc Cert.KernelBandQkvIdeal.main_arg0)
      ∧ m' ((c.tc : Thread Cert.ReferenceBandQkvIdeal.nD Cert.ReferenceBandQkvIdeal.τ).loc Cert.ReferenceBandQkvIdeal.main_arg1) = m ((c.tc : Thread Cert.KernelBandQkvIdeal.nD Cert.KernelBandQkvIdeal.τ).loc Cert.KernelBandQkvIdeal.main_arg1)
      ∧ m' ((c.tc : Thread Cert.ReferenceBandQkvIdeal.nD Cert.ReferenceBandQkvIdeal.τ).loc Cert.ReferenceBandQkvIdeal.main_arg2) = m ((c.tc : Thread Cert.KernelBandQkvIdeal.nD Cert.KernelBandQkvIdeal.τ).loc Cert.KernelBandQkvIdeal.main_arg2)) →
    ∃ (v0 : (c : Dev Cert.KernelBandQkvIdeal.nD) → Buf (Elt Ideal) ((c.tc : Thread Cert.KernelBandQkvIdeal.nD Cert.KernelBandQkvIdeal.τ).loc Cert.KernelBandQkvIdeal.main_v3_0)) (v1 : (c : Dev Cert.KernelBandQkvIdeal.nD) → Buf (Elt Ideal) ((c.tc : Thread Cert.KernelBandQkvIdeal.nD Cert.KernelBandQkvIdeal.τ).loc Cert.KernelBandQkvIdeal.main_v3_1)) (v2 : (c : Dev Cert.KernelBandQkvIdeal.nD) → Buf (Elt Ideal) ((c.tc : Thread Cert.KernelBandQkvIdeal.nD Cert.KernelBandQkvIdeal.τ).loc Cert.KernelBandQkvIdeal.main_v3_2)) (v3 : (c : Dev Cert.KernelBandQkvIdeal.nD) → Buf (Elt Ideal) ((c.tc : Thread Cert.KernelBandQkvIdeal.nD Cert.KernelBandQkvIdeal.τ).loc Cert.KernelBandQkvIdeal.main_v3_3)) (v4 : (c : Dev Cert.KernelBandQkvIdeal.nD) → Buf (Elt Ideal) ((c.tc : Thread Cert.KernelBandQkvIdeal.nD Cert.KernelBandQkvIdeal.τ).loc Cert.KernelBandQkvIdeal.main_v3_4)),
      θ_run (Cert.KernelBandQkvIdeal.defs (F := Ideal)) (onTc (τ := Cert.KernelBandQkvIdeal.τ) (Cert.KernelBandQkvIdeal.main (F := Ideal))) ⟨m, fun _ => 0, g⟩ (fun r => ∀ c : Dev Cert.KernelBandQkvIdeal.nD,
          r.2.mem ((c.tc : Thread Cert.KernelBandQkvIdeal.nD Cert.KernelBandQkvIdeal.τ).loc Cert.KernelBandQkvIdeal.main_v3_0) = v0 c
          ∧ r.2.mem ((c.tc : Thread Cert.KernelBandQkvIdeal.nD Cert.KernelBandQkvIdeal.τ).loc Cert.KernelBandQkvIdeal.main_v3_1) = v1 c
          ∧ r.2.mem ((c.tc : Thread Cert.KernelBandQkvIdeal.nD Cert.KernelBandQkvIdeal.τ).loc Cert.KernelBandQkvIdeal.main_v3_2) = v2 c
          ∧ r.2.mem ((c.tc : Thread Cert.KernelBandQkvIdeal.nD Cert.KernelBandQkvIdeal.τ).loc Cert.KernelBandQkvIdeal.main_v3_3) = v3 c
          ∧ r.2.mem ((c.tc : Thread Cert.KernelBandQkvIdeal.nD Cert.KernelBandQkvIdeal.τ).loc Cert.KernelBandQkvIdeal.main_v3_4) = v4 c
          ∧ r.2.mem ((c.tc : Thread Cert.KernelBandQkvIdeal.nD Cert.KernelBandQkvIdeal.τ).loc Cert.KernelBandQkvIdeal.main_arg0) = m ((c.tc : Thread Cert.KernelBandQkvIdeal.nD Cert.KernelBandQkvIdeal.τ).loc Cert.KernelBandQkvIdeal.main_arg0)
          ∧ r.2.mem ((c.tc : Thread Cert.KernelBandQkvIdeal.nD Cert.KernelBandQkvIdeal.τ).loc Cert.KernelBandQkvIdeal.main_arg1) = m ((c.tc : Thread Cert.KernelBandQkvIdeal.nD Cert.KernelBandQkvIdeal.τ).loc Cert.KernelBandQkvIdeal.main_arg1)
          ∧ r.2.mem ((c.tc : Thread Cert.KernelBandQkvIdeal.nD Cert.KernelBandQkvIdeal.τ).loc Cert.KernelBandQkvIdeal.main_arg2) = m ((c.tc : Thread Cert.KernelBandQkvIdeal.nD Cert.KernelBandQkvIdeal.τ).loc Cert.KernelBandQkvIdeal.main_arg2))
      ∧ θ_run (Cert.ReferenceBandQkvIdeal.defs (F := Ideal)) (onTc (τ := Cert.ReferenceBandQkvIdeal.τ) (Cert.ReferenceBandQkvIdeal.main (F := Ideal))) ⟨m', fun _ => 0, g'⟩ (fun r => ∀ c : Dev Cert.ReferenceBandQkvIdeal.nD,
          r.2.mem ((c.tc : Thread Cert.ReferenceBandQkvIdeal.nD Cert.ReferenceBandQkvIdeal.τ).loc Cert.ReferenceBandQkvIdeal.main_v32) = v0 c
          ∧ r.2.mem ((c.tc : Thread Cert.ReferenceBandQkvIdeal.nD Cert.ReferenceBandQkvIdeal.τ).loc Cert.ReferenceBandQkvIdeal.main_v33) = v1 c
          ∧ r.2.mem ((c.tc : Thread Cert.ReferenceBandQkvIdeal.nD Cert.ReferenceBandQkvIdeal.τ).loc Cert.ReferenceBandQkvIdeal.main_v34) = v2 c
          ∧ r.2.mem ((c.tc : Thread Cert.ReferenceBandQkvIdeal.nD Cert.ReferenceBandQkvIdeal.τ).loc Cert.ReferenceBandQkvIdeal.main_v36) = v3 c
          ∧ r.2.mem ((c.tc : Thread Cert.ReferenceBandQkvIdeal.nD Cert.ReferenceBandQkvIdeal.τ).loc Cert.ReferenceBandQkvIdeal.main_v25) = v4 c
          ∧ r.2.mem ((c.tc : Thread Cert.ReferenceBandQkvIdeal.nD Cert.ReferenceBandQkvIdeal.τ).loc Cert.ReferenceBandQkvIdeal.main_arg0) = m' ((c.tc : Thread Cert.ReferenceBandQkvIdeal.nD Cert.ReferenceBandQkvIdeal.τ).loc Cert.ReferenceBandQkvIdeal.main_arg0)
          ∧ r.2.mem ((c.tc : Thread Cert.ReferenceBandQkvIdeal.nD Cert.ReferenceBandQkvIdeal.τ).loc Cert.ReferenceBandQkvIdeal.main_arg1) = m' ((c.tc : Thread Cert.ReferenceBandQkvIdeal.nD Cert.ReferenceBandQkvIdeal.τ).loc Cert.ReferenceBandQkvIdeal.main_arg1)
          ∧ r.2.mem ((c.tc : Thread Cert.ReferenceBandQkvIdeal.nD Cert.ReferenceBandQkvIdeal.τ).loc Cert.ReferenceBandQkvIdeal.main_arg2) = m' ((c.tc : Thread Cert.ReferenceBandQkvIdeal.nD Cert.ReferenceBandQkvIdeal.τ).loc Cert.ReferenceBandQkvIdeal.main_arg2))

def preserves_KernelFfnSample_KernelFfnSampleIdeal : Prop :=
  True

def algebraic_KernelFfnSampleIdeal_ReferenceFfnSampleIdeal [hKernelFfnSampleIdeal : Cert.KernelFfnSampleIdeal.Facts] [hReferenceFfnSampleIdeal : Cert.ReferenceFfnSampleIdeal.Facts] : Prop :=
  ∀ (m : (ℓ : Loc Cert.KernelFfnSampleIdeal.nD Cert.KernelFfnSampleIdeal.τ Cert.KernelFfnSampleIdeal.sig) → Buf (Elt Ideal) ℓ) (g : Dev Cert.KernelFfnSampleIdeal.nD → PrngReg)
    (m' : (ℓ : Loc Cert.ReferenceFfnSampleIdeal.nD Cert.ReferenceFfnSampleIdeal.τ Cert.ReferenceFfnSampleIdeal.sig) → Buf (Elt Ideal) ℓ) (g' : Dev Cert.ReferenceFfnSampleIdeal.nD → PrngReg), Pre_KernelFfnSampleIdeal m →
    (∀ c : Dev Cert.KernelFfnSampleIdeal.nD,
      m' ((c.tc : Thread Cert.ReferenceFfnSampleIdeal.nD Cert.ReferenceFfnSampleIdeal.τ).loc Cert.ReferenceFfnSampleIdeal.main_arg0) = m ((c.tc : Thread Cert.KernelFfnSampleIdeal.nD Cert.KernelFfnSampleIdeal.τ).loc Cert.KernelFfnSampleIdeal.main_arg0)
      ∧ m' ((c.tc : Thread Cert.ReferenceFfnSampleIdeal.nD Cert.ReferenceFfnSampleIdeal.τ).loc Cert.ReferenceFfnSampleIdeal.main_arg1) = m ((c.tc : Thread Cert.KernelFfnSampleIdeal.nD Cert.KernelFfnSampleIdeal.τ).loc Cert.KernelFfnSampleIdeal.main_arg1)
      ∧ m' ((c.tc : Thread Cert.ReferenceFfnSampleIdeal.nD Cert.ReferenceFfnSampleIdeal.τ).loc Cert.ReferenceFfnSampleIdeal.main_arg2) = m ((c.tc : Thread Cert.KernelFfnSampleIdeal.nD Cert.KernelFfnSampleIdeal.τ).loc Cert.KernelFfnSampleIdeal.main_arg2)
      ∧ m' ((c.tc : Thread Cert.ReferenceFfnSampleIdeal.nD Cert.ReferenceFfnSampleIdeal.τ).loc Cert.ReferenceFfnSampleIdeal.main_arg3) = m ((c.tc : Thread Cert.KernelFfnSampleIdeal.nD Cert.KernelFfnSampleIdeal.τ).loc Cert.KernelFfnSampleIdeal.main_arg3)
      ∧ m' ((c.tc : Thread Cert.ReferenceFfnSampleIdeal.nD Cert.ReferenceFfnSampleIdeal.τ).loc Cert.ReferenceFfnSampleIdeal.main_arg4) = m ((c.tc : Thread Cert.KernelFfnSampleIdeal.nD Cert.KernelFfnSampleIdeal.τ).loc Cert.KernelFfnSampleIdeal.main_arg4)
      ∧ m' ((c.tc : Thread Cert.ReferenceFfnSampleIdeal.nD Cert.ReferenceFfnSampleIdeal.τ).loc Cert.ReferenceFfnSampleIdeal.main_arg5) = m ((c.tc : Thread Cert.KernelFfnSampleIdeal.nD Cert.KernelFfnSampleIdeal.τ).loc Cert.KernelFfnSampleIdeal.main_arg5)
      ∧ m' ((c.tc : Thread Cert.ReferenceFfnSampleIdeal.nD Cert.ReferenceFfnSampleIdeal.τ).loc Cert.ReferenceFfnSampleIdeal.main_arg6) = m ((c.tc : Thread Cert.KernelFfnSampleIdeal.nD Cert.KernelFfnSampleIdeal.τ).loc Cert.KernelFfnSampleIdeal.main_arg6)) →
    ∃ (v0 : (c : Dev Cert.KernelFfnSampleIdeal.nD) → Buf (Elt Ideal) ((c.tc : Thread Cert.KernelFfnSampleIdeal.nD Cert.KernelFfnSampleIdeal.τ).loc Cert.KernelFfnSampleIdeal.main_v8)),
      θ_run (Cert.KernelFfnSampleIdeal.defs (F := Ideal)) (onTc (τ := Cert.KernelFfnSampleIdeal.τ) (Cert.KernelFfnSampleIdeal.main (F := Ideal))) ⟨m, fun _ => 0, g⟩ (fun r => ∀ c : Dev Cert.KernelFfnSampleIdeal.nD,
          r.2.mem ((c.tc : Thread Cert.KernelFfnSampleIdeal.nD Cert.KernelFfnSampleIdeal.τ).loc Cert.KernelFfnSampleIdeal.main_v8) = v0 c
          ∧ r.2.mem ((c.tc : Thread Cert.KernelFfnSampleIdeal.nD Cert.KernelFfnSampleIdeal.τ).loc Cert.KernelFfnSampleIdeal.main_arg0) = m ((c.tc : Thread Cert.KernelFfnSampleIdeal.nD Cert.KernelFfnSampleIdeal.τ).loc Cert.KernelFfnSampleIdeal.main_arg0)
          ∧ r.2.mem ((c.tc : Thread Cert.KernelFfnSampleIdeal.nD Cert.KernelFfnSampleIdeal.τ).loc Cert.KernelFfnSampleIdeal.main_arg1) = m ((c.tc : Thread Cert.KernelFfnSampleIdeal.nD Cert.KernelFfnSampleIdeal.τ).loc Cert.KernelFfnSampleIdeal.main_arg1)
          ∧ r.2.mem ((c.tc : Thread Cert.KernelFfnSampleIdeal.nD Cert.KernelFfnSampleIdeal.τ).loc Cert.KernelFfnSampleIdeal.main_arg2) = m ((c.tc : Thread Cert.KernelFfnSampleIdeal.nD Cert.KernelFfnSampleIdeal.τ).loc Cert.KernelFfnSampleIdeal.main_arg2)
          ∧ r.2.mem ((c.tc : Thread Cert.KernelFfnSampleIdeal.nD Cert.KernelFfnSampleIdeal.τ).loc Cert.KernelFfnSampleIdeal.main_arg3) = m ((c.tc : Thread Cert.KernelFfnSampleIdeal.nD Cert.KernelFfnSampleIdeal.τ).loc Cert.KernelFfnSampleIdeal.main_arg3)
          ∧ r.2.mem ((c.tc : Thread Cert.KernelFfnSampleIdeal.nD Cert.KernelFfnSampleIdeal.τ).loc Cert.KernelFfnSampleIdeal.main_arg4) = m ((c.tc : Thread Cert.KernelFfnSampleIdeal.nD Cert.KernelFfnSampleIdeal.τ).loc Cert.KernelFfnSampleIdeal.main_arg4)
          ∧ r.2.mem ((c.tc : Thread Cert.KernelFfnSampleIdeal.nD Cert.KernelFfnSampleIdeal.τ).loc Cert.KernelFfnSampleIdeal.main_arg5) = m ((c.tc : Thread Cert.KernelFfnSampleIdeal.nD Cert.KernelFfnSampleIdeal.τ).loc Cert.KernelFfnSampleIdeal.main_arg5)
          ∧ r.2.mem ((c.tc : Thread Cert.KernelFfnSampleIdeal.nD Cert.KernelFfnSampleIdeal.τ).loc Cert.KernelFfnSampleIdeal.main_arg6) = m ((c.tc : Thread Cert.KernelFfnSampleIdeal.nD Cert.KernelFfnSampleIdeal.τ).loc Cert.KernelFfnSampleIdeal.main_arg6))
      ∧ θ_run (Cert.ReferenceFfnSampleIdeal.defs (F := Ideal)) (onTc (τ := Cert.ReferenceFfnSampleIdeal.τ) (Cert.ReferenceFfnSampleIdeal.main (F := Ideal))) ⟨m', fun _ => 0, g'⟩ (fun r => ∀ c : Dev Cert.ReferenceFfnSampleIdeal.nD,
          r.2.mem ((c.tc : Thread Cert.ReferenceFfnSampleIdeal.nD Cert.ReferenceFfnSampleIdeal.τ).loc Cert.ReferenceFfnSampleIdeal.main_v35) = v0 c
          ∧ r.2.mem ((c.tc : Thread Cert.ReferenceFfnSampleIdeal.nD Cert.ReferenceFfnSampleIdeal.τ).loc Cert.ReferenceFfnSampleIdeal.main_arg0) = m' ((c.tc : Thread Cert.ReferenceFfnSampleIdeal.nD Cert.ReferenceFfnSampleIdeal.τ).loc Cert.ReferenceFfnSampleIdeal.main_arg0)
          ∧ r.2.mem ((c.tc : Thread Cert.ReferenceFfnSampleIdeal.nD Cert.ReferenceFfnSampleIdeal.τ).loc Cert.ReferenceFfnSampleIdeal.main_arg1) = m' ((c.tc : Thread Cert.ReferenceFfnSampleIdeal.nD Cert.ReferenceFfnSampleIdeal.τ).loc Cert.ReferenceFfnSampleIdeal.main_arg1)
          ∧ r.2.mem ((c.tc : Thread Cert.ReferenceFfnSampleIdeal.nD Cert.ReferenceFfnSampleIdeal.τ).loc Cert.ReferenceFfnSampleIdeal.main_arg2) = m' ((c.tc : Thread Cert.ReferenceFfnSampleIdeal.nD Cert.ReferenceFfnSampleIdeal.τ).loc Cert.ReferenceFfnSampleIdeal.main_arg2)
          ∧ r.2.mem ((c.tc : Thread Cert.ReferenceFfnSampleIdeal.nD Cert.ReferenceFfnSampleIdeal.τ).loc Cert.ReferenceFfnSampleIdeal.main_arg3) = m' ((c.tc : Thread Cert.ReferenceFfnSampleIdeal.nD Cert.ReferenceFfnSampleIdeal.τ).loc Cert.ReferenceFfnSampleIdeal.main_arg3)
          ∧ r.2.mem ((c.tc : Thread Cert.ReferenceFfnSampleIdeal.nD Cert.ReferenceFfnSampleIdeal.τ).loc Cert.ReferenceFfnSampleIdeal.main_arg4) = m' ((c.tc : Thread Cert.ReferenceFfnSampleIdeal.nD Cert.ReferenceFfnSampleIdeal.τ).loc Cert.ReferenceFfnSampleIdeal.main_arg4)
          ∧ r.2.mem ((c.tc : Thread Cert.ReferenceFfnSampleIdeal.nD Cert.ReferenceFfnSampleIdeal.τ).loc Cert.ReferenceFfnSampleIdeal.main_arg5) = m' ((c.tc : Thread Cert.ReferenceFfnSampleIdeal.nD Cert.ReferenceFfnSampleIdeal.τ).loc Cert.ReferenceFfnSampleIdeal.main_arg5)
          ∧ r.2.mem ((c.tc : Thread Cert.ReferenceFfnSampleIdeal.nD Cert.ReferenceFfnSampleIdeal.τ).loc Cert.ReferenceFfnSampleIdeal.main_arg6) = m' ((c.tc : Thread Cert.ReferenceFfnSampleIdeal.nD Cert.ReferenceFfnSampleIdeal.τ).loc Cert.ReferenceFfnSampleIdeal.main_arg6))

def preserves_KernelQkvSample_KernelQkvSampleIdeal : Prop :=
  IdealRules.named_const.Statement Cert.KernelQkvSampleIdeal.κ "sb_scale" .f32 0x3E0293EE#32 (((Real.sqrt 128)⁻¹ * (Real.log 2)⁻¹ : ℝ) : EReal)

def algebraic_KernelQkvSampleIdeal_ReferenceQkvSampleIdeal [hKernelQkvSampleIdeal : Cert.KernelQkvSampleIdeal.Facts] [hReferenceQkvSampleIdeal : Cert.ReferenceQkvSampleIdeal.Facts] : Prop :=
  ∀ (m : (ℓ : Loc Cert.KernelQkvSampleIdeal.nD Cert.KernelQkvSampleIdeal.τ Cert.KernelQkvSampleIdeal.sig) → Buf (Elt Ideal) ℓ) (g : Dev Cert.KernelQkvSampleIdeal.nD → PrngReg)
    (m' : (ℓ : Loc Cert.ReferenceQkvSampleIdeal.nD Cert.ReferenceQkvSampleIdeal.τ Cert.ReferenceQkvSampleIdeal.sig) → Buf (Elt Ideal) ℓ) (g' : Dev Cert.ReferenceQkvSampleIdeal.nD → PrngReg), Pre_KernelQkvSampleIdeal m →
    (∀ c : Dev Cert.KernelQkvSampleIdeal.nD,
      m' ((c.tc : Thread Cert.ReferenceQkvSampleIdeal.nD Cert.ReferenceQkvSampleIdeal.τ).loc Cert.ReferenceQkvSampleIdeal.main_arg0) = m ((c.tc : Thread Cert.KernelQkvSampleIdeal.nD Cert.KernelQkvSampleIdeal.τ).loc Cert.KernelQkvSampleIdeal.main_arg0)
      ∧ m' ((c.tc : Thread Cert.ReferenceQkvSampleIdeal.nD Cert.ReferenceQkvSampleIdeal.τ).loc Cert.ReferenceQkvSampleIdeal.main_arg1) = m ((c.tc : Thread Cert.KernelQkvSampleIdeal.nD Cert.KernelQkvSampleIdeal.τ).loc Cert.KernelQkvSampleIdeal.main_arg1)
      ∧ m' ((c.tc : Thread Cert.ReferenceQkvSampleIdeal.nD Cert.ReferenceQkvSampleIdeal.τ).loc Cert.ReferenceQkvSampleIdeal.main_arg2) = m ((c.tc : Thread Cert.KernelQkvSampleIdeal.nD Cert.KernelQkvSampleIdeal.τ).loc Cert.KernelQkvSampleIdeal.main_arg2)) →
    ∃ (v0 : (c : Dev Cert.KernelQkvSampleIdeal.nD) → Buf (Elt Ideal) ((c.tc : Thread Cert.KernelQkvSampleIdeal.nD Cert.KernelQkvSampleIdeal.τ).loc Cert.KernelQkvSampleIdeal.main_v3_0)) (v1 : (c : Dev Cert.KernelQkvSampleIdeal.nD) → Buf (Elt Ideal) ((c.tc : Thread Cert.KernelQkvSampleIdeal.nD Cert.KernelQkvSampleIdeal.τ).loc Cert.KernelQkvSampleIdeal.main_v3_1)) (v2 : (c : Dev Cert.KernelQkvSampleIdeal.nD) → Buf (Elt Ideal) ((c.tc : Thread Cert.KernelQkvSampleIdeal.nD Cert.KernelQkvSampleIdeal.τ).loc Cert.KernelQkvSampleIdeal.main_v3_2)) (v3 : (c : Dev Cert.KernelQkvSampleIdeal.nD) → Buf (Elt Ideal) ((c.tc : Thread Cert.KernelQkvSampleIdeal.nD Cert.KernelQkvSampleIdeal.τ).loc Cert.KernelQkvSampleIdeal.main_v3_3)) (v4 : (c : Dev Cert.KernelQkvSampleIdeal.nD) → Buf (Elt Ideal) ((c.tc : Thread Cert.KernelQkvSampleIdeal.nD Cert.KernelQkvSampleIdeal.τ).loc Cert.KernelQkvSampleIdeal.main_v3_4)),
      θ_run (Cert.KernelQkvSampleIdeal.defs (F := Ideal)) (onTc (τ := Cert.KernelQkvSampleIdeal.τ) (Cert.KernelQkvSampleIdeal.main (F := Ideal))) ⟨m, fun _ => 0, g⟩ (fun r => ∀ c : Dev Cert.KernelQkvSampleIdeal.nD,
          r.2.mem ((c.tc : Thread Cert.KernelQkvSampleIdeal.nD Cert.KernelQkvSampleIdeal.τ).loc Cert.KernelQkvSampleIdeal.main_v3_0) = v0 c
          ∧ r.2.mem ((c.tc : Thread Cert.KernelQkvSampleIdeal.nD Cert.KernelQkvSampleIdeal.τ).loc Cert.KernelQkvSampleIdeal.main_v3_1) = v1 c
          ∧ r.2.mem ((c.tc : Thread Cert.KernelQkvSampleIdeal.nD Cert.KernelQkvSampleIdeal.τ).loc Cert.KernelQkvSampleIdeal.main_v3_2) = v2 c
          ∧ r.2.mem ((c.tc : Thread Cert.KernelQkvSampleIdeal.nD Cert.KernelQkvSampleIdeal.τ).loc Cert.KernelQkvSampleIdeal.main_v3_3) = v3 c
          ∧ r.2.mem ((c.tc : Thread Cert.KernelQkvSampleIdeal.nD Cert.KernelQkvSampleIdeal.τ).loc Cert.KernelQkvSampleIdeal.main_v3_4) = v4 c
          ∧ r.2.mem ((c.tc : Thread Cert.KernelQkvSampleIdeal.nD Cert.KernelQkvSampleIdeal.τ).loc Cert.KernelQkvSampleIdeal.main_arg0) = m ((c.tc : Thread Cert.KernelQkvSampleIdeal.nD Cert.KernelQkvSampleIdeal.τ).loc Cert.KernelQkvSampleIdeal.main_arg0)
          ∧ r.2.mem ((c.tc : Thread Cert.KernelQkvSampleIdeal.nD Cert.KernelQkvSampleIdeal.τ).loc Cert.KernelQkvSampleIdeal.main_arg1) = m ((c.tc : Thread Cert.KernelQkvSampleIdeal.nD Cert.KernelQkvSampleIdeal.τ).loc Cert.KernelQkvSampleIdeal.main_arg1)
          ∧ r.2.mem ((c.tc : Thread Cert.KernelQkvSampleIdeal.nD Cert.KernelQkvSampleIdeal.τ).loc Cert.KernelQkvSampleIdeal.main_arg2) = m ((c.tc : Thread Cert.KernelQkvSampleIdeal.nD Cert.KernelQkvSampleIdeal.τ).loc Cert.KernelQkvSampleIdeal.main_arg2))
      ∧ θ_run (Cert.ReferenceQkvSampleIdeal.defs (F := Ideal)) (onTc (τ := Cert.ReferenceQkvSampleIdeal.τ) (Cert.ReferenceQkvSampleIdeal.main (F := Ideal))) ⟨m', fun _ => 0, g'⟩ (fun r => ∀ c : Dev Cert.ReferenceQkvSampleIdeal.nD,
          r.2.mem ((c.tc : Thread Cert.ReferenceQkvSampleIdeal.nD Cert.ReferenceQkvSampleIdeal.τ).loc Cert.ReferenceQkvSampleIdeal.main_v27) = v0 c
          ∧ r.2.mem ((c.tc : Thread Cert.ReferenceQkvSampleIdeal.nD Cert.ReferenceQkvSampleIdeal.τ).loc Cert.ReferenceQkvSampleIdeal.main_v28) = v1 c
          ∧ r.2.mem ((c.tc : Thread Cert.ReferenceQkvSampleIdeal.nD Cert.ReferenceQkvSampleIdeal.τ).loc Cert.ReferenceQkvSampleIdeal.main_v29) = v2 c
          ∧ r.2.mem ((c.tc : Thread Cert.ReferenceQkvSampleIdeal.nD Cert.ReferenceQkvSampleIdeal.τ).loc Cert.ReferenceQkvSampleIdeal.main_v31) = v3 c
          ∧ r.2.mem ((c.tc : Thread Cert.ReferenceQkvSampleIdeal.nD Cert.ReferenceQkvSampleIdeal.τ).loc Cert.ReferenceQkvSampleIdeal.main_v33) = v4 c
          ∧ r.2.mem ((c.tc : Thread Cert.ReferenceQkvSampleIdeal.nD Cert.ReferenceQkvSampleIdeal.τ).loc Cert.ReferenceQkvSampleIdeal.main_arg0) = m' ((c.tc : Thread Cert.ReferenceQkvSampleIdeal.nD Cert.ReferenceQkvSampleIdeal.τ).loc Cert.ReferenceQkvSampleIdeal.main_arg0)
          ∧ r.2.mem ((c.tc : Thread Cert.ReferenceQkvSampleIdeal.nD Cert.ReferenceQkvSampleIdeal.τ).loc Cert.ReferenceQkvSampleIdeal.main_arg1) = m' ((c.tc : Thread Cert.ReferenceQkvSampleIdeal.nD Cert.ReferenceQkvSampleIdeal.τ).loc Cert.ReferenceQkvSampleIdeal.main_arg1)
          ∧ r.2.mem ((c.tc : Thread Cert.ReferenceQkvSampleIdeal.nD Cert.ReferenceQkvSampleIdeal.τ).loc Cert.ReferenceQkvSampleIdeal.main_arg2) = m' ((c.tc : Thread Cert.ReferenceQkvSampleIdeal.nD Cert.ReferenceQkvSampleIdeal.τ).loc Cert.ReferenceQkvSampleIdeal.main_arg2))

def preserves_KernelBandQkvSample_KernelBandQkvSampleIdeal : Prop :=
  IdealRules.named_const.Statement Cert.KernelBandQkvSampleIdeal.κ "band_scale" .f32 0x3E38AA3B#32 (((Real.sqrt 64)⁻¹ * (Real.log 2)⁻¹ : ℝ) : EReal)

def algebraic_KernelBandQkvSampleIdeal_ReferenceBandQkvSampleIdeal [hKernelBandQkvSampleIdeal : Cert.KernelBandQkvSampleIdeal.Facts] [hReferenceBandQkvSampleIdeal : Cert.ReferenceBandQkvSampleIdeal.Facts] : Prop :=
  ∀ (m : (ℓ : Loc Cert.KernelBandQkvSampleIdeal.nD Cert.KernelBandQkvSampleIdeal.τ Cert.KernelBandQkvSampleIdeal.sig) → Buf (Elt Ideal) ℓ) (g : Dev Cert.KernelBandQkvSampleIdeal.nD → PrngReg)
    (m' : (ℓ : Loc Cert.ReferenceBandQkvSampleIdeal.nD Cert.ReferenceBandQkvSampleIdeal.τ Cert.ReferenceBandQkvSampleIdeal.sig) → Buf (Elt Ideal) ℓ) (g' : Dev Cert.ReferenceBandQkvSampleIdeal.nD → PrngReg), Pre_KernelBandQkvSampleIdeal m →
    (∀ c : Dev Cert.KernelBandQkvSampleIdeal.nD,
      m' ((c.tc : Thread Cert.ReferenceBandQkvSampleIdeal.nD Cert.ReferenceBandQkvSampleIdeal.τ).loc Cert.ReferenceBandQkvSampleIdeal.main_arg0) = m ((c.tc : Thread Cert.KernelBandQkvSampleIdeal.nD Cert.KernelBandQkvSampleIdeal.τ).loc Cert.KernelBandQkvSampleIdeal.main_arg0)
      ∧ m' ((c.tc : Thread Cert.ReferenceBandQkvSampleIdeal.nD Cert.ReferenceBandQkvSampleIdeal.τ).loc Cert.ReferenceBandQkvSampleIdeal.main_arg1) = m ((c.tc : Thread Cert.KernelBandQkvSampleIdeal.nD Cert.KernelBandQkvSampleIdeal.τ).loc Cert.KernelBandQkvSampleIdeal.main_arg1)
      ∧ m' ((c.tc : Thread Cert.ReferenceBandQkvSampleIdeal.nD Cert.ReferenceBandQkvSampleIdeal.τ).loc Cert.ReferenceBandQkvSampleIdeal.main_arg2) = m ((c.tc : Thread Cert.KernelBandQkvSampleIdeal.nD Cert.KernelBandQkvSampleIdeal.τ).loc Cert.KernelBandQkvSampleIdeal.main_arg2)) →
    ∃ (v0 : (c : Dev Cert.KernelBandQkvSampleIdeal.nD) → Buf (Elt Ideal) ((c.tc : Thread Cert.KernelBandQkvSampleIdeal.nD Cert.KernelBandQkvSampleIdeal.τ).loc Cert.KernelBandQkvSampleIdeal.main_v3_0)) (v1 : (c : Dev Cert.KernelBandQkvSampleIdeal.nD) → Buf (Elt Ideal) ((c.tc : Thread Cert.KernelBandQkvSampleIdeal.nD Cert.KernelBandQkvSampleIdeal.τ).loc Cert.KernelBandQkvSampleIdeal.main_v3_1)) (v2 : (c : Dev Cert.KernelBandQkvSampleIdeal.nD) → Buf (Elt Ideal) ((c.tc : Thread Cert.KernelBandQkvSampleIdeal.nD Cert.KernelBandQkvSampleIdeal.τ).loc Cert.KernelBandQkvSampleIdeal.main_v3_2)) (v3 : (c : Dev Cert.KernelBandQkvSampleIdeal.nD) → Buf (Elt Ideal) ((c.tc : Thread Cert.KernelBandQkvSampleIdeal.nD Cert.KernelBandQkvSampleIdeal.τ).loc Cert.KernelBandQkvSampleIdeal.main_v3_3)) (v4 : (c : Dev Cert.KernelBandQkvSampleIdeal.nD) → Buf (Elt Ideal) ((c.tc : Thread Cert.KernelBandQkvSampleIdeal.nD Cert.KernelBandQkvSampleIdeal.τ).loc Cert.KernelBandQkvSampleIdeal.main_v3_4)),
      θ_run (Cert.KernelBandQkvSampleIdeal.defs (F := Ideal)) (onTc (τ := Cert.KernelBandQkvSampleIdeal.τ) (Cert.KernelBandQkvSampleIdeal.main (F := Ideal))) ⟨m, fun _ => 0, g⟩ (fun r => ∀ c : Dev Cert.KernelBandQkvSampleIdeal.nD,
          r.2.mem ((c.tc : Thread Cert.KernelBandQkvSampleIdeal.nD Cert.KernelBandQkvSampleIdeal.τ).loc Cert.KernelBandQkvSampleIdeal.main_v3_0) = v0 c
          ∧ r.2.mem ((c.tc : Thread Cert.KernelBandQkvSampleIdeal.nD Cert.KernelBandQkvSampleIdeal.τ).loc Cert.KernelBandQkvSampleIdeal.main_v3_1) = v1 c
          ∧ r.2.mem ((c.tc : Thread Cert.KernelBandQkvSampleIdeal.nD Cert.KernelBandQkvSampleIdeal.τ).loc Cert.KernelBandQkvSampleIdeal.main_v3_2) = v2 c
          ∧ r.2.mem ((c.tc : Thread Cert.KernelBandQkvSampleIdeal.nD Cert.KernelBandQkvSampleIdeal.τ).loc Cert.KernelBandQkvSampleIdeal.main_v3_3) = v3 c
          ∧ r.2.mem ((c.tc : Thread Cert.KernelBandQkvSampleIdeal.nD Cert.KernelBandQkvSampleIdeal.τ).loc Cert.KernelBandQkvSampleIdeal.main_v3_4) = v4 c
          ∧ r.2.mem ((c.tc : Thread Cert.KernelBandQkvSampleIdeal.nD Cert.KernelBandQkvSampleIdeal.τ).loc Cert.KernelBandQkvSampleIdeal.main_arg0) = m ((c.tc : Thread Cert.KernelBandQkvSampleIdeal.nD Cert.KernelBandQkvSampleIdeal.τ).loc Cert.KernelBandQkvSampleIdeal.main_arg0)
          ∧ r.2.mem ((c.tc : Thread Cert.KernelBandQkvSampleIdeal.nD Cert.KernelBandQkvSampleIdeal.τ).loc Cert.KernelBandQkvSampleIdeal.main_arg1) = m ((c.tc : Thread Cert.KernelBandQkvSampleIdeal.nD Cert.KernelBandQkvSampleIdeal.τ).loc Cert.KernelBandQkvSampleIdeal.main_arg1)
          ∧ r.2.mem ((c.tc : Thread Cert.KernelBandQkvSampleIdeal.nD Cert.KernelBandQkvSampleIdeal.τ).loc Cert.KernelBandQkvSampleIdeal.main_arg2) = m ((c.tc : Thread Cert.KernelBandQkvSampleIdeal.nD Cert.KernelBandQkvSampleIdeal.τ).loc Cert.KernelBandQkvSampleIdeal.main_arg2))
      ∧ θ_run (Cert.ReferenceBandQkvSampleIdeal.defs (F := Ideal)) (onTc (τ := Cert.ReferenceBandQkvSampleIdeal.τ) (Cert.ReferenceBandQkvSampleIdeal.main (F := Ideal))) ⟨m', fun _ => 0, g'⟩ (fun r => ∀ c : Dev Cert.ReferenceBandQkvSampleIdeal.nD,
          r.2.mem ((c.tc : Thread Cert.ReferenceBandQkvSampleIdeal.nD Cert.ReferenceBandQkvSampleIdeal.τ).loc Cert.ReferenceBandQkvSampleIdeal.main_v32) = v0 c
          ∧ r.2.mem ((c.tc : Thread Cert.ReferenceBandQkvSampleIdeal.nD Cert.ReferenceBandQkvSampleIdeal.τ).loc Cert.ReferenceBandQkvSampleIdeal.main_v33) = v1 c
          ∧ r.2.mem ((c.tc : Thread Cert.ReferenceBandQkvSampleIdeal.nD Cert.ReferenceBandQkvSampleIdeal.τ).loc Cert.ReferenceBandQkvSampleIdeal.main_v34) = v2 c
          ∧ r.2.mem ((c.tc : Thread Cert.ReferenceBandQkvSampleIdeal.nD Cert.ReferenceBandQkvSampleIdeal.τ).loc Cert.ReferenceBandQkvSampleIdeal.main_v36) = v3 c
          ∧ r.2.mem ((c.tc : Thread Cert.ReferenceBandQkvSampleIdeal.nD Cert.ReferenceBandQkvSampleIdeal.τ).loc Cert.ReferenceBandQkvSampleIdeal.main_v25) = v4 c
          ∧ r.2.mem ((c.tc : Thread Cert.ReferenceBandQkvSampleIdeal.nD Cert.ReferenceBandQkvSampleIdeal.τ).loc Cert.ReferenceBandQkvSampleIdeal.main_arg0) = m' ((c.tc : Thread Cert.ReferenceBandQkvSampleIdeal.nD Cert.ReferenceBandQkvSampleIdeal.τ).loc Cert.ReferenceBandQkvSampleIdeal.main_arg0)
          ∧ r.2.mem ((c.tc : Thread Cert.ReferenceBandQkvSampleIdeal.nD Cert.ReferenceBandQkvSampleIdeal.τ).loc Cert.ReferenceBandQkvSampleIdeal.main_arg1) = m' ((c.tc : Thread Cert.ReferenceBandQkvSampleIdeal.nD Cert.ReferenceBandQkvSampleIdeal.τ).loc Cert.ReferenceBandQkvSampleIdeal.main_arg1)
          ∧ r.2.mem ((c.tc : Thread Cert.ReferenceBandQkvSampleIdeal.nD Cert.ReferenceBandQkvSampleIdeal.τ).loc Cert.ReferenceBandQkvSampleIdeal.main_arg2) = m' ((c.tc : Thread Cert.ReferenceBandQkvSampleIdeal.nD Cert.ReferenceBandQkvSampleIdeal.τ).loc Cert.ReferenceBandQkvSampleIdeal.main_arg2))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelQkv : Cert.KernelQkv.Facts) (hKernelQkvIdeal : Cert.KernelQkvIdeal.Facts) (hReferenceQkvIdeal : Cert.ReferenceQkvIdeal.Facts) (hKernelBandQkv : Cert.KernelBandQkv.Facts) (hKernelBandQkvIdeal : Cert.KernelBandQkvIdeal.Facts) (hReferenceBandQkvIdeal : Cert.ReferenceBandQkvIdeal.Facts) (hKernelFfnSample : Cert.KernelFfnSample.Facts) (hKernelFfnSampleIdeal : Cert.KernelFfnSampleIdeal.Facts) (hReferenceFfnSampleIdeal : Cert.ReferenceFfnSampleIdeal.Facts) (hKernelQkvSample : Cert.KernelQkvSample.Facts) (hKernelQkvSampleIdeal : Cert.KernelQkvSampleIdeal.Facts) (hReferenceQkvSampleIdeal : Cert.ReferenceQkvSampleIdeal.Facts) (hKernelBandQkvSample : Cert.KernelBandQkvSample.Facts) (hKernelBandQkvSampleIdeal : Cert.KernelBandQkvSampleIdeal.Facts) (hReferenceBandQkvSampleIdeal : Cert.ReferenceBandQkvSampleIdeal.Facts),
    quiescent_Kernel (hKernel := hKernel)
    ∧ quiescent_KernelIdeal (hKernelIdeal := hKernelIdeal)
    ∧ quiescent_ReferenceIdeal (hReferenceIdeal := hReferenceIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelBandQkv (hKernelBandQkv := hKernelBandQkv)
    ∧ quiescent_KernelBandQkvIdeal (hKernelBandQkvIdeal := hKernelBandQkvIdeal)
    ∧ quiescent_ReferenceBandQkvIdeal (hReferenceBandQkvIdeal := hReferenceBandQkvIdeal)
    ∧ quiescent_KernelFfnSample (hKernelFfnSample := hKernelFfnSample)
    ∧ quiescent_KernelFfnSampleIdeal (hKernelFfnSampleIdeal := hKernelFfnSampleIdeal)
    ∧ quiescent_ReferenceFfnSampleIdeal (hReferenceFfnSampleIdeal := hReferenceFfnSampleIdeal)
    ∧ quiescent_KernelQkvSample (hKernelQkvSample := hKernelQkvSample)
    ∧ quiescent_KernelQkvSampleIdeal (hKernelQkvSampleIdeal := hKernelQkvSampleIdeal)
    ∧ quiescent_ReferenceQkvSampleIdeal (hReferenceQkvSampleIdeal := hReferenceQkvSampleIdeal)
    ∧ quiescent_KernelBandQkvSample (hKernelBandQkvSample := hKernelBandQkvSample)
    ∧ quiescent_KernelBandQkvSampleIdeal (hKernelBandQkvSampleIdeal := hKernelBandQkvSampleIdeal)
    ∧ quiescent_ReferenceBandQkvSampleIdeal (hReferenceBandQkvSampleIdeal := hReferenceBandQkvSampleIdeal)
    ∧ preserves_Kernel_KernelIdeal
    ∧ algebraic_KernelIdeal_ReferenceIdeal (hKernelIdeal := hKernelIdeal) (hReferenceIdeal := hReferenceIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelBandQkv_KernelBandQkvIdeal
    ∧ algebraic_KernelBandQkvIdeal_ReferenceBandQkvIdeal (hKernelBandQkvIdeal := hKernelBandQkvIdeal) (hReferenceBandQkvIdeal := hReferenceBandQkvIdeal)
    ∧ preserves_KernelFfnSample_KernelFfnSampleIdeal
    ∧ algebraic_KernelFfnSampleIdeal_ReferenceFfnSampleIdeal (hKernelFfnSampleIdeal := hKernelFfnSampleIdeal) (hReferenceFfnSampleIdeal := hReferenceFfnSampleIdeal)
    ∧ preserves_KernelQkvSample_KernelQkvSampleIdeal
    ∧ algebraic_KernelQkvSampleIdeal_ReferenceQkvSampleIdeal (hKernelQkvSampleIdeal := hKernelQkvSampleIdeal) (hReferenceQkvSampleIdeal := hReferenceQkvSampleIdeal)
    ∧ preserves_KernelBandQkvSample_KernelBandQkvSampleIdeal
    ∧ algebraic_KernelBandQkvSampleIdeal_ReferenceBandQkvSampleIdeal (hKernelBandQkvSampleIdeal := hKernelBandQkvSampleIdeal) (hReferenceBandQkvSampleIdeal := hReferenceBandQkvSampleIdeal)
-- ==== Kernel.lean ====
abbrev S2x16384x8x128 : Shape := ⟨4, ![2, 16384, 8, 128]⟩
abbrev S_ : Shape := ⟨0, ![]⟩
abbrev S2x16384x1024 : Shape := ⟨3, ![2, 16384, 1024]⟩
abbrev S256x256 : Shape := ⟨2, ![256, 256]⟩
abbrev S1x256x256 : Shape := ⟨3, ![1, 256, 256]⟩
abbrev S1x16384x256 : Shape := ⟨3, ![1, 16384, 256]⟩
abbrev S2x256x128 : Shape := ⟨3, ![2, 256, 128]⟩
abbrev S256x1 : Shape := ⟨2, ![256, 1]⟩
abbrev S1x256 : Shape := ⟨2, ![1, 256]⟩
abbrev S1x256x128 : Shape := ⟨3, ![1, 256, 128]⟩
abbrev S256x128 : Shape := ⟨2, ![256, 128]⟩
abbrev S256 : Shape := ⟨1, ![256]⟩
abbrev S1 : Shape := ⟨1, ![1]⟩
abbrev S1x1x1 : Shape := ⟨3, ![1, 1, 1]⟩

abbrev nBuf : Space → Nat
  | .hbm => 32
  | .vmem => 11
  | .smem => 0
  | _ => 0

abbrev bufTy : (tb : Table) → Fin (tcTables nBuf tb) → BufTy
  | .hbm, ⟨0, _⟩ => ⟨S2x16384x8x128, .f32⟩
  | .hbm, ⟨1, _⟩ => ⟨S2x16384x8x128, .f32⟩
  | .hbm, ⟨2, _⟩ => ⟨S2x16384x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | .hbm, ⟨13, _⟩ => ⟨S2x16384x1024, .bf16⟩
  | .hbm, ⟨14, _⟩ => ⟨S2x16384x1024, .f32⟩
  | .hbm, ⟨15, _⟩ => ⟨S2x16384x1024, .bf16⟩
  | .hbm, ⟨16, _⟩ => ⟨S2x16384x1024, .f32⟩
  | .hbm, ⟨17, _⟩ => ⟨S2x16384x1024, .bf16⟩
  | .hbm, ⟨18, _⟩ => ⟨S_, .f32⟩
  | .hbm, ⟨19, _⟩ => ⟨S256x256, .f32⟩
  | .hbm, ⟨20, _⟩ => ⟨S256x256, .i32⟩
  | .hbm, ⟨21, _⟩ => ⟨S_, .i32⟩
  | .hbm, ⟨22, _⟩ => ⟨S256x256, .i32⟩
  | .hbm, ⟨23, _⟩ => ⟨S256x256, .i32⟩
  | .hbm, ⟨24, _⟩ => ⟨S256x256, .i32⟩
  | .hbm, ⟨25, _⟩ => ⟨S256x256, .i1⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .bf16⟩
  | .hbm, ⟨30, _⟩ => ⟨S256x256, .bf16⟩
  | .hbm, ⟨31, _⟩ => ⟨S2x16384x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x16384x256, .bf16⟩
  | .local _ .vmem, ⟨5, _⟩ => ⟨S1x16384x256, .bf16⟩
  | .local _ .vmem, ⟨6, _⟩ => ⟨S256x256, .bf16⟩
  | .local _ .vmem, ⟨7, _⟩ => ⟨S1x256x256, .bf16⟩
  | .local _ .vmem, ⟨8, _⟩ => ⟨S1x256x256, .bf16⟩
  | .local _ .vmem, ⟨9, _⟩ => ⟨S2x256x128, .f32⟩
  | .local _ .vmem, ⟨10, _⟩ => ⟨S256x256, .f32⟩
  | _, _ => ⟨S2x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_cst : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 64], ![false, false, false]⟩

def k0_mult1 (arg10 : BitVec 32) : BitVec 32 :=
  let c256_i32_20 : BitVec 32 := 256#32
  let v41 : BitVec 32 := Scalar.muli arg10 c256_i32_20
  v41

def k0_mult2 (arg10 : BitVec 32) : BitVec 32 :=
  let c1_i32_21 : BitVec 32 := 1#32
  let v43 : BitVec 32 := Scalar.subi arg10 c1_i32_21
  let c0_i32_22 : BitVec 32 := 0#32
  let v44 : BitVec 32 := Scalar.maxsi v43 c0_i32_22
  let c256_i32_23 : BitVec 32 := 256#32
  let v45 : BitVec 32 := Scalar.muli v44 c256_i32_23
  v45
def k0_off1 (arg10 : BitVec 32) : Fin 3 → Nat :=
  let c0_28 : Index := 0#32
  let c256_i32_20 : BitVec 32 := 256#32
  let v41 : BitVec 32 := Scalar.muli arg10 c256_i32_20
  let v42 : BitVec 32 := v41
  let v62 : Index := Scalar.indexCast v42
  let c0_29 : Index := 0#32
  ![0, v62.toNat, 0]
def k0_off2 (arg10 : BitVec 32) : Fin 3 → Nat :=
  let c0_34 : Index := 0#32
  let c256_i32_20 : BitVec 32 := 256#32
  let v41 : BitVec 32 := Scalar.muli arg10 c256_i32_20
  let v42 : BitVec 32 := v41
  let v70 : Index := Scalar.indexCast v42
  let c128_35 : Index := 128#32
  ![0, v70.toNat, 128]
def k0_off3 (arg10 : BitVec 32) : Fin 3 → Nat :=
  let c0_41 : Index := 0#32
  let c1_i32_21 : BitVec 32 := 1#32
  let v43 : BitVec 32 := Scalar.subi arg10 c1_i32_21
  let c0_i32_22 : BitVec 32 := 0#32
  let v44 : BitVec 32 := Scalar.maxsi v43 c0_i32_22
  let c256_i32_23 : BitVec 32 := 256#32
  let v45 : BitVec 32 := Scalar.muli v44 c256_i32_23
  let v46 : BitVec 32 := v45
  let v78 : Index := Scalar.indexCast v46
  let c0_42 : Index := 0#32
  ![0, v78.toNat, 0]
def k0_off4 (arg10 : BitVec 32) : Fin 3 → Nat :=
  let c0_48 : Index := 0#32
  let c1_i32_21 : BitVec 32 := 1#32
  let v43 : BitVec 32 := Scalar.subi arg10 c1_i32_21
  let c0_i32_22 : BitVec 32 := 0#32
  let v44 : BitVec 32 := Scalar.maxsi v43 c0_i32_22
  let c256_i32_23 : BitVec 32 := 256#32
  let v45 : BitVec 32 := Scalar.muli v44 c256_i32_23
  let v46 : BitVec 32 := v45
  let v86 : Index := Scalar.indexCast v46
  let c128_49 : Index := 128#32
  ![0, v86.toNat, 128]

def k0_chk1 (arg10 : BitVec 32) : Prop :=
  (256 ∣ (k0_mult1 arg10).toNat) ∧
  (256 ∣ (k0_mult2 arg10).toNat) ∧
  (∀ a, (k0_off1 arg10) a + S1x256x128.size a ≤ S1x16384x256.size a) ∧
  (∀ a, (k0_off2 arg10) a + S1x256x128.size a ≤ S1x16384x256.size a) ∧
  (∀ a, (k0_off3 arg10) a + S1x256x128.size a ≤ S1x16384x256.size a) ∧
  (∀ a, (k0_off4 arg10) a + S1x256x128.size a ≤ S1x16384x256.size a)
theorem k0_mult1_dvd : ∀ (arg10 : BitVec 32) (k0_hw1 : k0_chk1 arg10), 256 ∣ (k0_mult1 arg10).toNat := fun arg10 k0_hw1 => k0_hw1.1
theorem k0_mult2_dvd : ∀ (arg10 : BitVec 32) (k0_hw1 : k0_chk1 arg10), 256 ∣ (k0_mult2 arg10).toNat := fun arg10 k0_hw1 => k0_hw1.2.1
theorem k0_off1_inb : ∀ (arg10 : BitVec 32) (k0_hw1 : k0_chk1 arg10), ∀ a, (k0_off1 arg10) a + S1x256x128.size a ≤ S1x16384x256.size a := fun arg10 k0_hw1 => k0_hw1.2.2.1
theorem k0_off2_inb : ∀ (arg10 : BitVec 32) (k0_hw1 : k0_chk1 arg10), ∀ a, (k0_off2 arg10) a + S1x256x128.size a ≤ S1x16384x256.size a := fun arg10 k0_hw1 => k0_hw1.2.2.2.1
theorem k0_off3_inb : ∀ (arg10 : BitVec 32) (k0_hw1 : k0_chk1 arg10), ∀ a, (k0_off3 arg10) a + S1x256x128.size a ≤ S1x16384x256.size a := fun arg10 k0_hw1 => k0_hw1.2.2.2.2.1
theorem k0_off4_inb : ∀ (arg10 : BitVec 32) (k0_hw1 : k0_chk1 arg10), ∀ a, (k0_off4 arg10) a + S1x256x128.size a ≤ S1x16384x256.size a := fun arg10 k0_hw1 => k0_hw1.2.2.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "log2zero" => some ⊥
  | _ => none
-- ==== ReferenceIdeal.lean ====
abbrev S2x16384x8x128 : Shape := ⟨4, ![2, 16384, 8, 128]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x8x16384x16384 : Shape := ⟨4, ![2, 8, 16384, 16384]⟩
abbrev S_ : Shape := ⟨0, ![]⟩
abbrev S2x8x128x16384 : Shape := ⟨4, ![2, 8, 128, 16384]⟩
abbrev S2x16384x1024 : Shape := ⟨3, ![2, 16384, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2x16384x8x128, .f32⟩
  | .hbm, ⟨1, _⟩ => ⟨S2x16384x8x128, .f32⟩
  | .hbm, ⟨2, _⟩ => ⟨S2x16384x8x128, .f32⟩
  | .hbm, ⟨3, _⟩ => ⟨S16384, .i32⟩
  | .hbm, ⟨4, _⟩ => ⟨S1x16384, .i32⟩
  | .hbm, ⟨5, _⟩ => ⟨S16384x1, .i32⟩
  | .hbm, ⟨6, _⟩ => ⟨S16384x16384, .i32⟩
  | .hbm, ⟨7, _⟩ => ⟨S16384x16384, .i32⟩
  | .hbm, ⟨8, _⟩ => ⟨S16384x16384, .i1⟩
  | .hbm, ⟨9, _⟩ => ⟨S2x8x16384x16384, .f32⟩
  | .hbm, ⟨10, _⟩ => ⟨S_, .f32⟩
  | .hbm, ⟨11, _⟩ => ⟨S_, .f32⟩
  | .hbm, ⟨12, _⟩ => ⟨S2x8x16384x16384, .f32⟩
  | .hbm, ⟨13, _⟩ => ⟨S2x8x16384x16384, .f32⟩
  | .hbm, ⟨14, _⟩ => ⟨S2x8x16384x16384, .f32⟩
  | .hbm, ⟨15, _⟩ => ⟨S2x8x16384x16384, .f32⟩
  | .hbm, ⟨16, _⟩ => ⟨S_, .f32⟩
  | .hbm, ⟨17, _⟩ => ⟨S2x8x16384x16384, .f32⟩
  | .hbm, ⟨18, _⟩ => ⟨S2x8x16384x16384, .f32⟩
  | .hbm, ⟨19, _⟩ => ⟨S2x8x16384x16384, .f32⟩
  | .hbm, ⟨20, _⟩ => ⟨S2x8x16384x16384, .f32⟩
  | .hbm, ⟨21, _⟩ => ⟨S2x8x16384x16384, .i1⟩
  | .hbm, ⟨22, _⟩ => ⟨S2x8x16384x16384, .f32⟩
  | .hbm, ⟨23, _⟩ => ⟨S2x8x16384x16384, .f32⟩
  | .hbm, ⟨24, _⟩ => ⟨S2x8x16384x16384, .f32⟩
  | .hbm, ⟨25, _⟩ => ⟨S2x8x16384x16384, .f32⟩
  | .hbm, ⟨26, _⟩ => ⟨S2x8x16384x16384, .f32⟩
  | .hbm, ⟨27, _⟩ => ⟨S2x8x16384x16384, .f32⟩
  | .hbm, ⟨28, _⟩ => ⟨S2x8x16384x16384, .f32⟩
  | .hbm, ⟨29, _⟩ => ⟨S2x8x16384x16384, .f32⟩
  | .hbm, ⟨30, _⟩ => ⟨S2x8x16384x16384, .f32⟩
  | .hbm, ⟨31, _⟩ => ⟨S_, .f32⟩
  | .hbm, ⟨32, _⟩ => ⟨S_, .f32⟩
  | .hbm, ⟨33, _⟩ => ⟨S2x8x16384x16384, .i1⟩
  | .hbm, ⟨34, _⟩ => ⟨S2x8x16384x16384, .f32⟩
  | .hbm, ⟨35, _⟩ => ⟨S2x8x16384x16384, .f32⟩
  | .hbm, ⟨36, _⟩ => ⟨S16384x1, .i32⟩
  | .hbm, ⟨37, _⟩ => ⟨S1x16384, .i32⟩
  | .hbm, ⟨38, _⟩ => ⟨S16384x16384, .i32⟩
  | .hbm, ⟨39, _⟩ => ⟨S16384x16384, .i32⟩
  | .hbm, ⟨40, _⟩ => ⟨S16384x16384, .i1⟩
  | .hbm, ⟨41, _⟩ => ⟨S16384x16384, .f32⟩
  | .hbm, ⟨42, _⟩ => ⟨S2x8x16384x16384, .f32⟩
  | .hbm, ⟨43, _⟩ => ⟨S2x8x16384x16384, .f32⟩
  | .hbm, ⟨44, _⟩ => ⟨S_, .f32⟩
  | .hbm, ⟨45, _⟩ => ⟨S_, .f32⟩
  | .hbm, ⟨46, _⟩ => ⟨S2x8x16384x16384, .i1⟩
  | .hbm, ⟨47, _⟩ => ⟨S2x8x16384x16384, .f32⟩
  | .hbm, ⟨48, _⟩ => ⟨S2x8x16384x16384, .f32⟩
  | .hbm, ⟨49, _⟩ => ⟨S2x8x16384x16384, .f32⟩
  | .hbm, ⟨50, _⟩ => ⟨S2x8x128x16384, .f32⟩
  | .hbm, ⟨51, _⟩ => ⟨S2x16384x8x128, .f32⟩
  | .hbm, ⟨52, _⟩ => ⟨S2x16384x1024, .f32⟩
  | .hbm, ⟨53, _⟩ => ⟨S2x16384x1024, .bf16⟩
  | _, _ => ⟨S2x16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v11 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩

abbrev nD : Nat := 1
abbrev τ : Topo := Topo.v7x

variable {F : FTy → Type} [FloatOps F]
-- ==== KernelFfn.lean ====
abbrev S2x16384x1024 : Shape := ⟨3, ![2, 16384, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 16
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S32768x1024, .f32⟩
  | .hbm, ⟨8, _⟩ => ⟨S32768x1024, .f32⟩
  | .hbm, ⟨9, _⟩ => ⟨S32768x1024, .bf16⟩
  | .hbm, ⟨10, _⟩ => ⟨S1024x1024, .bf16⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c256_i32 : BitVec 32 := 256#32
  let v29 : BitVec 32 := Scalar.muli c0_i32 c256_i32
  v29
def k0_off1 (c0_i32 : BitVec 32) : Fin 2 → Nat :=
  let c0_16 : Index := 0#32
  let c256_i32 : BitVec 32 := 256#32
  let v29 : BitVec 32 := Scalar.muli c0_i32 c256_i32
  let v30 : BitVec 32 := v29
  let v32 : Index := Scalar.indexCast v30
  ![0, v32.toNat]
def k0_mult2 : BitVec 32 :=
  let c2816_i32 : BitVec 32 := 2816#32
  let c0_i32 : BitVec 32 := 0#32
  let c256_i32 : BitVec 32 := 256#32
  let v29 : BitVec 32 := Scalar.muli c0_i32 c256_i32
  let v30 : BitVec 32 := v29
  let v37 : BitVec 32 := Scalar.addi c2816_i32 v30
  v37
def k0_off2 (c0_i32 : BitVec 32) : Fin 2 → Nat :=
  let c0_20 : Index := 0#32
  let c2816_i32 : BitVec 32 := 2816#32
  let c256_i32 : BitVec 32 := 256#32
  let v29 : BitVec 32 := Scalar.muli c0_i32 c256_i32
  let v30 : BitVec 32 := v29
  let v37 : BitVec 32 := Scalar.addi c2816_i32 v30
  let v38 : BitVec 32 := v37
  let v39 : Index := Scalar.indexCast v38
  ![0, v39.toNat]
def k0_off3 (c0_i32 : BitVec 32) : Fin 2 → Nat :=
  let c256_i32 : BitVec 32 := 256#32
  let v29 : BitVec 32 := Scalar.muli c0_i32 c256_i32
  let v30 : BitVec 32 := v29
  let v52 : Index := Scalar.indexCast v30
  let c0_26 : Index := 0#32
  ![v52.toNat, 0]
def k0_mult3 : BitVec 32 :=
  let c1_i32 : BitVec 32 := 1#32
  let c256_i32_30 : BitVec 32 := 256#32
  let v60 : BitVec 32 := Scalar.muli c1_i32 c256_i32_30
  v60
def k0_mult4 : BitVec 32 :=
  let c2816_i32_37 : BitVec 32 := 2816#32
  let c1_i32 : BitVec 32 := 1#32
  let c256_i32_30 : BitVec 32 := 256#32
  let v60 : BitVec 32 := Scalar.muli c1_i32 c256_i32_30
  let v61 : BitVec 32 := v60
  let v68 : BitVec 32 := Scalar.addi c2816_i32_37 v61
  v68
def k0_mult5 : BitVec 32 :=
  let c2_i32 : BitVec 32 := 2#32
  let c256_i32_48 : BitVec 32 := 256#32
  let v91 : BitVec 32 := Scalar.muli c2_i32 c256_i32_48
  v91
def k0_mult6 : BitVec 32 :=
  let c2816_i32_55 : BitVec 32 := 2816#32
  let c2_i32 : BitVec 32 := 2#32
  let c256_i32_48 : BitVec 32 := 256#32
  let v91 : BitVec 32 := Scalar.muli c2_i32 c256_i32_48
  let v92 : BitVec 32 := v91
  let v99 : BitVec 32 := Scalar.addi c2816_i32_55 v92
  v99
def k0_mult7 : BitVec 32 :=
  let c3_i32 : BitVec 32 := 3#32
  let c256_i32_66 : BitVec 32 := 256#32
  let v122 : BitVec 32 := Scalar.muli c3_i32 c256_i32_66
  v122
def k0_mult8 : BitVec 32 :=
  let c2816_i32_73 : BitVec 32 := 2816#32
  let c3_i32 : BitVec 32 := 3#32
  let c256_i32_66 : BitVec 32 := 256#32
  let v122 : BitVec 32 := Scalar.muli c3_i32 c256_i32_66
  let v123 : BitVec 32 := v122
  let v130 : BitVec 32 := Scalar.addi c2816_i32_73 v123
  v130
def k0_mult9 : BitVec 32 :=
  let c4_i32 : BitVec 32 := 4#32
  let c256_i32_84 : BitVec 32 := 256#32
  let v153 : BitVec 32 := Scalar.muli c4_i32 c256_i32_84
  v153
def k0_mult10 : BitVec 32 :=
  let c2816_i32_91 : BitVec 32 := 2816#32
  let c4_i32 : BitVec 32 := 4#32
  let c256_i32_84 : BitVec 32 := 256#32
  let v153 : BitVec 32 := Scalar.muli c4_i32 c256_i32_84
  let v154 : BitVec 32 := v153
  let v161 : BitVec 32 := Scalar.addi c2816_i32_91 v154
  v161
def k0_mult11 : BitVec 32 :=
  let c5_i32 : BitVec 32 := 5#32
  let c256_i32_102 : BitVec 32 := 256#32
  let v184 : BitVec 32 := Scalar.muli c5_i32 c256_i32_102
  v184
def k0_mult12 : BitVec 32 :=
  let c2816_i32_109 : BitVec 32 := 2816#32
  let c5_i32 : BitVec 32 := 5#32
  let c256_i32_102 : BitVec 32 := 256#32
  let v184 : BitVec 32 := Scalar.muli c5_i32 c256_i32_102
  let v185 : BitVec 32 := v184
  let v192 : BitVec 32 := Scalar.addi c2816_i32_109 v185
  v192
def k0_mult13 : BitVec 32 :=
  let c6_i32 : BitVec 32 := 6#32
  let c256_i32_120 : BitVec 32 := 256#32
  let v215 : BitVec 32 := Scalar.muli c6_i32 c256_i32_120
  v215
def k0_mult14 : BitVec 32 :=
  let c2816_i32_127 : BitVec 32 := 2816#32
  let c6_i32 : BitVec 32 := 6#32
  let c256_i32_120 : BitVec 32 := 256#32
  let v215 : BitVec 32 := Scalar.muli c6_i32 c256_i32_120
  let v216 : BitVec 32 := v215
  let v223 : BitVec 32 := Scalar.addi c2816_i32_127 v216
  v223
def k0_mult15 : BitVec 32 :=
  let c7_i32 : BitVec 32 := 7#32
  let c256_i32_138 : BitVec 32 := 256#32
  let v246 : BitVec 32 := Scalar.muli c7_i32 c256_i32_138
  v246
def k0_mult16 : BitVec 32 :=
  let c2816_i32_145 : BitVec 32 := 2816#32
  let c7_i32 : BitVec 32 := 7#32
  let c256_i32_138 : BitVec 32 := 256#32
  let v246 : BitVec 32 := Scalar.muli c7_i32 c256_i32_138
  let v247 : BitVec 32 := v246
  let v254 : BitVec 32 := Scalar.addi c2816_i32_145 v247
  v254
def k0_mult17 : BitVec 32 :=
  let c8_i32 : BitVec 32 := 8#32
  let c256_i32_156 : BitVec 32 := 256#32
  let v277 : BitVec 32 := Scalar.muli c8_i32 c256_i32_156
  v277
def k0_mult18 : BitVec 32 :=
  let c2816_i32_163 : BitVec 32 := 2816#32
  let c8_i32 : BitVec 32 := 8#32
  let c256_i32_156 : BitVec 32 := 256#32
  let v277 : BitVec 32 := Scalar.muli c8_i32 c256_i32_156
  let v278 : BitVec 32 := v277
  let v285 : BitVec 32 := Scalar.addi c2816_i32_163 v278
  v285
def k0_mult19 : BitVec 32 :=
  let c9_i32 : BitVec 32 := 9#32
  let c256_i32_174 : BitVec 32 := 256#32
  let v308 : BitVec 32 := Scalar.muli c9_i32 c256_i32_174
  v308
def k0_mult20 : BitVec 32 :=
  let c2816_i32_181 : BitVec 32 := 2816#32
  let c9_i32 : BitVec 32 := 9#32
  let c256_i32_174 : BitVec 32 := 256#32
  let v308 : BitVec 32 := Scalar.muli c9_i32 c256_i32_174
  let v309 : BitVec 32 := v308
  let v316 : BitVec 32 := Scalar.addi c2816_i32_181 v309
  v316
def k0_mult21 : BitVec 32 :=
  let c10_i32 : BitVec 32 := 10#32
  let c256_i32_192 : BitVec 32 := 256#32
  let v339 : BitVec 32 := Scalar.muli c10_i32 c256_i32_192
  v339
def k0_mult22 : BitVec 32 :=
  let c2816_i32_199 : BitVec 32 := 2816#32
  let c10_i32 : BitVec 32 := 10#32
  let c256_i32_192 : BitVec 32 := 256#32
  let v339 : BitVec 32 := Scalar.muli c10_i32 c256_i32_192
  let v340 : BitVec 32 := v339
  let v347 : BitVec 32 := Scalar.addi c2816_i32_199 v340
  v347
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelFfnIdeal.lean ====
abbrev S2x16384x1024 : Shape := ⟨3, ![2, 16384, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 16
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S32768x1024, .f32⟩
  | .hbm, ⟨8, _⟩ => ⟨S32768x1024, .f32⟩
  | .hbm, ⟨9, _⟩ => ⟨S32768x1024, .bf16⟩
  | .hbm, ⟨10, _⟩ => ⟨S1024x1024, .bf16⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c256_i32 : BitVec 32 := 256#32
  let v29 : BitVec 32 := Scalar.muli c0_i32 c256_i32
  v29
def k0_off1 (c0_i32 : BitVec 32) : Fin 2 → Nat :=
  let c0_16 : Index := 0#32
  let c256_i32 : BitVec 32 := 256#32
  let v29 : BitVec 32 := Scalar.muli c0_i32 c256_i32
  let v30 : BitVec 32 := v29
  let v32 : Index := Scalar.indexCast v30
  ![0, v32.toNat]
def k0_mult2 : BitVec 32 :=
  let c2816_i32 : BitVec 32 := 2816#32
  let c0_i32 : BitVec 32 := 0#32
  let c256_i32 : BitVec 32 := 256#32
  let v29 : BitVec 32 := Scalar.muli c0_i32 c256_i32
  let v30 : BitVec 32 := v29
  let v37 : BitVec 32 := Scalar.addi c2816_i32 v30
  v37
def k0_off2 (c0_i32 : BitVec 32) : Fin 2 → Nat :=
  let c0_20 : Index := 0#32
  let c2816_i32 : BitVec 32 := 2816#32
  let c256_i32 : BitVec 32 := 256#32
  let v29 : BitVec 32 := Scalar.muli c0_i32 c256_i32
  let v30 : BitVec 32 := v29
  let v37 : BitVec 32 := Scalar.addi c2816_i32 v30
  let v38 : BitVec 32 := v37
  let v39 : Index := Scalar.indexCast v38
  ![0, v39.toNat]
def k0_off3 (c0_i32 : BitVec 32) : Fin 2 → Nat :=
  let c256_i32 : BitVec 32 := 256#32
  let v29 : BitVec 32 := Scalar.muli c0_i32 c256_i32
  let v30 : BitVec 32 := v29
  let v52 : Index := Scalar.indexCast v30
  let c0_26 : Index := 0#32
  ![v52.toNat, 0]
def k0_mult3 : BitVec 32 :=
  let c1_i32 : BitVec 32 := 1#32
  let c256_i32_30 : BitVec 32 := 256#32
  let v60 : BitVec 32 := Scalar.muli c1_i32 c256_i32_30
  v60
def k0_mult4 : BitVec 32 :=
  let c2816_i32_37 : BitVec 32 := 2816#32
  let c1_i32 : BitVec 32 := 1#32
  let c256_i32_30 : BitVec 32 := 256#32
  let v60 : BitVec 32 := Scalar.muli c1_i32 c256_i32_30
  let v61 : BitVec 32 := v60
  let v68 : BitVec 32 := Scalar.addi c2816_i32_37 v61
  v68
def k0_mult5 : BitVec 32 :=
  let c2_i32 : BitVec 32 := 2#32
  let c256_i32_48 : BitVec 32 := 256#32
  let v91 : BitVec 32 := Scalar.muli c2_i32 c256_i32_48
  v91
def k0_mult6 : BitVec 32 :=
  let c2816_i32_55 : BitVec 32 := 2816#32
  let c2_i32 : BitVec 32 := 2#32
  let c256_i32_48 : BitVec 32 := 256#32
  let v91 : BitVec 32 := Scalar.muli c2_i32 c256_i32_48
  let v92 : BitVec 32 := v91
  let v99 : BitVec 32 := Scalar.addi c2816_i32_55 v92
  v99
def k0_mult7 : BitVec 32 :=
  let c3_i32 : BitVec 32 := 3#32
  let c256_i32_66 : BitVec 32 := 256#32
  let v122 : BitVec 32 := Scalar.muli c3_i32 c256_i32_66
  v122
def k0_mult8 : BitVec 32 :=
  let c2816_i32_73 : BitVec 32 := 2816#32
  let c3_i32 : BitVec 32 := 3#32
  let c256_i32_66 : BitVec 32 := 256#32
  let v122 : BitVec 32 := Scalar.muli c3_i32 c256_i32_66
  let v123 : BitVec 32 := v122
  let v130 : BitVec 32 := Scalar.addi c2816_i32_73 v123
  v130
def k0_mult9 : BitVec 32 :=
  let c4_i32 : BitVec 32 := 4#32
  let c256_i32_84 : BitVec 32 := 256#32
  let v153 : BitVec 32 := Scalar.muli c4_i32 c256_i32_84
  v153
def k0_mult10 : BitVec 32 :=
  let c2816_i32_91 : BitVec 32 := 2816#32
  let c4_i32 : BitVec 32 := 4#32
  let c256_i32_84 : BitVec 32 := 256#32
  let v153 : BitVec 32 := Scalar.muli c4_i32 c256_i32_84
  let v154 : BitVec 32 := v153
  let v161 : BitVec 32 := Scalar.addi c2816_i32_91 v154
  v161
def k0_mult11 : BitVec 32 :=
  let c5_i32 : BitVec 32 := 5#32
  let c256_i32_102 : BitVec 32 := 256#32
  let v184 : BitVec 32 := Scalar.muli c5_i32 c256_i32_102
  v184
def k0_mult12 : BitVec 32 :=
  let c2816_i32_109 : BitVec 32 := 2816#32
  let c5_i32 : BitVec 32 := 5#32
  let c256_i32_102 : BitVec 32 := 256#32
  let v184 : BitVec 32 := Scalar.muli c5_i32 c256_i32_102
  let v185 : BitVec 32 := v184
  let v192 : BitVec 32 := Scalar.addi c2816_i32_109 v185
  v192
def k0_mult13 : BitVec 32 :=
  let c6_i32 : BitVec 32 := 6#32
  let c256_i32_120 : BitVec 32 := 256#32
  let v215 : BitVec 32 := Scalar.muli c6_i32 c256_i32_120
  v215
def k0_mult14 : BitVec 32 :=
  let c2816_i32_127 : BitVec 32 := 2816#32
  let c6_i32 : BitVec 32 := 6#32
  let c256_i32_120 : BitVec 32 := 256#32
  let v215 : BitVec 32 := Scalar.muli c6_i32 c256_i32_120
  let v216 : BitVec 32 := v215
  let v223 : BitVec 32 := Scalar.addi c2816_i32_127 v216
  v223
def k0_mult15 : BitVec 32 :=
  let c7_i32 : BitVec 32 := 7#32
  let c256_i32_138 : BitVec 32 := 256#32
  let v246 : BitVec 32 := Scalar.muli c7_i32 c256_i32_138
  v246
def k0_mult16 : BitVec 32 :=
  let c2816_i32_145 : BitVec 32 := 2816#32
  let c7_i32 : BitVec 32 := 7#32
  let c256_i32_138 : BitVec 32 := 256#32
  let v246 : BitVec 32 := Scalar.muli c7_i32 c256_i32_138
  let v247 : BitVec 32 := v246
  let v254 : BitVec 32 := Scalar.addi c2816_i32_145 v247
  v254
def k0_mult17 : BitVec 32 :=
  let c8_i32 : BitVec 32 := 8#32
  let c256_i32_156 : BitVec 32 := 256#32
  let v277 : BitVec 32 := Scalar.muli c8_i32 c256_i32_156
  v277
def k0_mult18 : BitVec 32 :=
  let c2816_i32_163 : BitVec 32 := 2816#32
  let c8_i32 : BitVec 32 := 8#32
  let c256_i32_156 : BitVec 32 := 256#32
  let v277 : BitVec 32 := Scalar.muli c8_i32 c256_i32_156
  let v278 : BitVec 32 := v277
  let v285 : BitVec 32 := Scalar.addi c2816_i32_163 v278
  v285
def k0_mult19 : BitVec 32 :=
  let c9_i32 : BitVec 32 := 9#32
  let c256_i32_174 : BitVec 32 := 256#32
  let v308 : BitVec 32 := Scalar.muli c9_i32 c256_i32_174
  v308
def k0_mult20 : BitVec 32 :=
  let c2816_i32_181 : BitVec 32 := 2816#32
  let c9_i32 : BitVec 32 := 9#32
  let c256_i32_174 : BitVec 32 := 256#32
  let v308 : BitVec 32 := Scalar.muli c9_i32 c256_i32_174
  let v309 : BitVec 32 := v308
  let v316 : BitVec 32 := Scalar.addi c2816_i32_181 v309
  v316
def k0_mult21 : BitVec 32 :=
  let c10_i32 : BitVec 32 := 10#32
  let c256_i32_192 : BitVec 32 := 256#32
  let v339 : BitVec 32 := Scalar.muli c10_i32 c256_i32_192
  v339
def k0_mult22 : BitVec 32 :=
  let c2816_i32_199 : BitVec 32 := 2816#32
  let c10_i32 : BitVec 32 := 10#32
  let c256_i32_192 : BitVec 32 := 256#32
  let v339 : BitVec 32 := Scalar.muli c10_i32 c256_i32_192
  let v340 : BitVec 32 := v339
  let v347 : BitVec 32 := Scalar.addi c2816_i32_199 v340
  v347
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceFfnIdeal.lean ====
abbrev S2x16384x1024 : Shape := ⟨3, ![2, 16384, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩
abbrev S32768x1024 : Shape := ⟨2, ![32768, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S2x16384x1024, .f32⟩
  | .hbm, ⟨8, _⟩ => ⟨S2x16384x1024, .f32⟩
  | .hbm, ⟨9, _⟩ => ⟨S2x16384x1024, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x1024, .f32⟩
  | .hbm, ⟨21, _⟩ => ⟨S2x16384x1024, .f32⟩
  | .hbm, ⟨22, _⟩ => ⟨S1x1x1024, .f32⟩
  | .hbm, ⟨23, _⟩ => ⟨S2x16384x1024, .f32⟩
  | .hbm, ⟨24, _⟩ => ⟨S2x16384x1024, .f32⟩
  | .hbm, ⟨25, _⟩ => ⟨S2x16384x5632, .f32⟩
  | .hbm, ⟨26, _⟩ => ⟨S2x16384x2816, .f32⟩
  | .hbm, ⟨27, _⟩ => ⟨S2x16384x2816, .f32⟩
  | .hbm, ⟨28, _⟩ => ⟨S2x16384x2816, .f32⟩
  | .hbm, ⟨29, _⟩ => ⟨S2x16384x2816, .f32⟩
  | .hbm, ⟨30, _⟩ => ⟨S_, .f32⟩
  | .hbm, ⟨31, _⟩ => ⟨S2x16384x2816, .f32⟩
  | .hbm, ⟨32, _⟩ => ⟨S2x16384x2816, .f32⟩
  | .hbm, ⟨33, _⟩ => ⟨S_, .f32⟩
  | .hbm, ⟨34, _⟩ => ⟨S2x16384x2816, .f32⟩
  | .hbm, ⟨35, _⟩ => ⟨S2x16384x2816, .f32⟩
  | .hbm, ⟨36, _⟩ => ⟨S2x16384x2816, .f32⟩
  | .hbm, ⟨37, _⟩ => ⟨S2x16384x2816, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S_, .f32⟩
  | .hbm, ⟨42, _⟩ => ⟨S2x16384, .f32⟩
  | .hbm, ⟨43, _⟩ => ⟨S2x16384x1, .f32⟩
  | .hbm, ⟨44, _⟩ => ⟨S_, .f32⟩
  | .hbm, ⟨45, _⟩ => ⟨S2x16384x1, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S2x16384x1, .f32⟩
  | .hbm, ⟨51, _⟩ => ⟨S2x16384x1024, .f32⟩
  | .hbm, ⟨52, _⟩ => ⟨S2x16384x1024, .f32⟩
  | .hbm, ⟨53, _⟩ => ⟨S1x1x1024, .f32⟩
  | .hbm, ⟨54, _⟩ => ⟨S2x16384x1024, .f32⟩
  | .hbm, ⟨55, _⟩ => ⟨S2x16384x1024, .f32⟩
  | .hbm, ⟨56, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== KernelQkv.lean ====
abbrev S2x16384x1024 : Shape := ⟨3, ![2, 16384, 1024]⟩
abbrev S1024 : Shape := ⟨1, ![1024]⟩
abbrev S1024x3072 : Shape := ⟨2, ![1024, 3072]⟩
abbrev S2x32768x8x128 : Shape := ⟨4, ![2, 32768, 8, 128]⟩
abbrev S32768x1024 : Shape := ⟨2, ![32768, 1024]⟩
abbrev S1x1024 : Shape := ⟨2, ![1, 1024]⟩
abbrev S512x1024 : Shape := ⟨2, ![512, 1024]⟩
abbrev S1x512x8x128 : Shape := ⟨4, ![1, 512, 8, 128]⟩
abbrev S512 : Shape := ⟨1, ![512]⟩
abbrev S512x1 : Shape := ⟨2, ![512, 1]⟩
abbrev S1024x1024 : Shape := ⟨2, ![1024, 1024]⟩
abbrev S512x8x128 : Shape := ⟨3, ![512, 8, 128]⟩

abbrev nBuf : Space → Nat
  | .hbm => 13
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3072, .f32⟩
  | .hbm, ⟨3, _⟩ => ⟨S2x32768x8x128, .f32⟩
  | .hbm, ⟨4, _⟩ => ⟨S2x32768x8x128, .f32⟩
  | .hbm, ⟨5, _⟩ => ⟨S32768x1024, .f32⟩
  | .hbm, ⟨6, _⟩ => ⟨S1024x3072, .bf16⟩
  | .hbm, ⟨7, _⟩ => ⟨S1x1024, .f32⟩
  | .hbm, ⟨8, _⟩ => ⟨S32768x1024, .bf16⟩
  | .hbm, ⟨9, _⟩ => ⟨S2x32768x8x128, .f32⟩
  | .hbm, ⟨10, _⟩ => ⟨S2x32768x8x128, .f32⟩
  | .hbm, ⟨11, _⟩ => ⟨S32768x1024, .bf16⟩
  | .hbm, ⟨12, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S1x512x8x128, .f32⟩
  | .local _ .vmem, ⟨7, _⟩ => ⟨S1x512x8x128, .f32⟩
  | .local _ .vmem, ⟨8, _⟩ => ⟨S1x512x8x128, .f32⟩
  | .local _ .vmem, ⟨9, _⟩ => ⟨S1x512x8x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_7 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelQkvIdeal.lean ====
variable {F : FTy → Type} [FloatOps F] [Named F]
def κ : String → Option EReal := fun
  | "sb_scale" => some (((Real.sqrt 128)⁻¹ * (Real.log 2)⁻¹ : ℝ) : EReal)
  | _ => none
-- ==== ReferenceQkvIdeal.lean ====
abbrev S2x16384x1024 : Shape := ⟨3, ![2, 16384, 1024]⟩
abbrev S1024 : Shape := ⟨1, ![1024]⟩
abbrev S1024x3072 : Shape := ⟨2, ![1024, 3072]⟩
abbrev S2x32768x8x128 : Shape := ⟨4, ![2, 32768, 8, 128]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3072 : Shape := ⟨3, ![2, 16384, 3072]⟩
abbrev S2x16384x3x8x128 : Shape := ⟨5, ![2, 16384, 3, 8, 128]⟩
abbrev S2x16384x1x8x128 : Shape := ⟨5, ![2, 16384, 1, 8, 128]⟩
abbrev S2x16384x8x128 : Shape := ⟨4, ![2, 16384, 8, 128]⟩
abbrev S32768x1024 : Shape := ⟨2, ![32768, 1024]⟩
abbrev S1x32768x8x128 : Shape := ⟨4, ![1, 32768, 8, 128]⟩
abbrev S32768x8x128 : Shape := ⟨3, ![32768, 8, 128]⟩

abbrev nBuf : Space → Nat
  | .hbm => 54
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3072, .f32⟩
  | .hbm, ⟨3, _⟩ => ⟨S2x32768x8x128, .f32⟩
  | .hbm, ⟨4, _⟩ => ⟨S2x32768x8x128, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S2x16384x3072, .f32⟩
  | .hbm, ⟨22, _⟩ => ⟨S2x16384x3x8x128, .f32⟩
  | .hbm, ⟨23, _⟩ => ⟨S2x16384x1x8x128, .f32⟩
  | .hbm, ⟨24, _⟩ => ⟨S2x16384x8x128, .f32⟩
  | .hbm, ⟨25, _⟩ => ⟨S2x16384x1x8x128, .f32⟩
  | .hbm, ⟨26, _⟩ => ⟨S2x16384x8x128, .f32⟩
  | .hbm, ⟨27, _⟩ => ⟨S2x16384x1x8x128, .f32⟩
  | .hbm, ⟨28, _⟩ => ⟨S2x16384x8x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2x16384x8x128, .f32⟩
  | .hbm, ⟨35, _⟩ => ⟨S2x16384x8x128, .f32⟩
  | .hbm, ⟨36, _⟩ => ⟨S32768x1024, .f32⟩
  | .hbm, ⟨37, _⟩ => ⟨S32768x1024, .bf16⟩
  | .hbm, ⟨38, _⟩ => ⟨S1x32768x8x128, .f32⟩
  | .hbm, ⟨39, _⟩ => ⟨S32768x8x128, .f32⟩
  | .hbm, ⟨40, _⟩ => ⟨S32768x8x128, .f32⟩
  | .hbm, ⟨41, _⟩ => ⟨S1x32768x8x128, .f32⟩
  | .hbm, ⟨42, _⟩ => ⟨S1x32768x8x128, .f32⟩
  | .hbm, ⟨43, _⟩ => ⟨S2x32768x8x128, .f32⟩
  | .hbm, ⟨44, _⟩ => ⟨S1x32768x8x128, .f32⟩
  | .hbm, ⟨45, _⟩ => ⟨S32768x8x128, .f32⟩
  | .hbm, ⟨46, _⟩ => ⟨S32768x8x128, .f32⟩
  | .hbm, ⟨47, _⟩ => ⟨S1x32768x8x128, .f32⟩
  | .hbm, ⟨48, _⟩ => ⟨S1x32768x8x128, .f32⟩
  | .hbm, ⟨49, _⟩ => ⟨S2x32768x8x128, .f32⟩
  | .hbm, ⟨50, _⟩ => ⟨S32768x1024, .f32⟩
  | .hbm, ⟨51, _⟩ => ⟨S32768x1024, .bf16⟩
  | .hbm, ⟨52, _⟩ => ⟨S32768x1024, .f32⟩
  | .hbm, ⟨53, _⟩ => ⟨S32768x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== KernelBandQkv.lean ====
abbrev S2x16384x1024 : Shape := ⟨3, ![2, 16384, 1024]⟩
abbrev S1024 : Shape := ⟨1, ![1024]⟩
abbrev S1024x3072 : Shape := ⟨2, ![1024, 3072]⟩
abbrev S32768x1024 : Shape := ⟨2, ![32768, 1024]⟩
abbrev S1x1024 : Shape := ⟨2, ![1, 1024]⟩
abbrev S32768x2048 : Shape := ⟨2, ![32768, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x1024 : Shape := ⟨2, ![1024, 1024]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S1024x3072, .bf16⟩
  | .hbm, ⟨5, _⟩ => ⟨S1x1024, .f32⟩
  | .hbm, ⟨6, _⟩ => ⟨S32768x1024, .bf16⟩
  | .hbm, ⟨7, _⟩ => ⟨S32768x1024, .f32⟩
  | .hbm, ⟨8, _⟩ => ⟨S32768x1024, .f32⟩
  | .hbm, ⟨9, _⟩ => ⟨S32768x1024, .bf16⟩
  | .hbm, ⟨10, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelBandQkvIdeal.lean ====
abbrev S2x16384x1024 : Shape := ⟨3, ![2, 16384, 1024]⟩
abbrev S1024 : Shape := ⟨1, ![1024]⟩
abbrev S1024x3072 : Shape := ⟨2, ![1024, 3072]⟩
abbrev S32768x1024 : Shape := ⟨2, ![32768, 1024]⟩
abbrev S1x1024 : Shape := ⟨2, ![1, 1024]⟩
abbrev S32768x2048 : Shape := ⟨2, ![32768, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x1024 : Shape := ⟨2, ![1024, 1024]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S1024x3072, .bf16⟩
  | .hbm, ⟨5, _⟩ => ⟨S1x1024, .f32⟩
  | .hbm, ⟨6, _⟩ => ⟨S32768x1024, .bf16⟩
  | .hbm, ⟨7, _⟩ => ⟨S32768x1024, .f32⟩
  | .hbm, ⟨8, _⟩ => ⟨S32768x1024, .f32⟩
  | .hbm, ⟨9, _⟩ => ⟨S32768x1024, .bf16⟩
  | .hbm, ⟨10, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F] [Named F]

def κ : String → Option EReal := fun
  | "band_scale" => some (((Real.sqrt 64)⁻¹ * (Real.log 2)⁻¹ : ℝ) : EReal)
  | _ => none

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceBandQkvIdeal.lean ====
abbrev S2x16384x1024 : Shape := ⟨3, ![2, 16384, 1024]⟩
abbrev S1024 : Shape := ⟨1, ![1024]⟩
abbrev S1024x3072 : Shape := ⟨2, ![1024, 3072]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3072 : Shape := ⟨3, ![2, 16384, 3072]⟩
abbrev S2x16384x3x16x64 : Shape := ⟨5, ![2, 16384, 3, 16, 64]⟩
abbrev S2x16384x1x16x64 : Shape := ⟨5, ![2, 16384, 1, 16, 64]⟩
abbrev S2x16384x16x64 : Shape := ⟨4, ![2, 16384, 16, 64]⟩
abbrev S32768x8x128 : Shape := ⟨3, ![32768, 8, 128]⟩
abbrev S32768x8x256 : Shape := ⟨3, ![32768, 8, 256]⟩
abbrev S32768x2048 : Shape := ⟨2, ![32768, 2048]⟩
abbrev S32768x1024 : Shape := ⟨2, ![32768, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3072, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x3072, .f32⟩
  | .hbm, ⟨20, _⟩ => ⟨S2x16384x3x16x64, .f32⟩
  | .hbm, ⟨21, _⟩ => ⟨S2x16384x1x16x64, .f32⟩
  | .hbm, ⟨22, _⟩ => ⟨S2x16384x16x64, .f32⟩
  | .hbm, ⟨23, _⟩ => ⟨S2x16384x1x16x64, .f32⟩
  | .hbm, ⟨24, _⟩ => ⟨S2x16384x16x64, .f32⟩
  | .hbm, ⟨25, _⟩ => ⟨S2x16384x1x16x64, .f32⟩
  | .hbm, ⟨26, _⟩ => ⟨S2x16384x16x64, .f32⟩
  | .hbm, ⟨27, _⟩ => ⟨S_, .bf16⟩
  | .hbm, ⟨28, _⟩ => ⟨S32768x8x128, .bf16⟩
  | .hbm, ⟨29, _⟩ => ⟨S32768x8x128, .f32⟩
  | .hbm, ⟨30, _⟩ => ⟨S32768x8x128, .bf16⟩
  | .hbm, ⟨31, _⟩ => ⟨S32768x8x256, .bf16⟩
  | .hbm, ⟨32, _⟩ => ⟨S32768x2048, .bf16⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2x16384x16x64, .f32⟩
  | .hbm, ⟨39, _⟩ => ⟨S2x16384x16x64, .f32⟩
  | .hbm, ⟨40, _⟩ => ⟨S32768x1024, .f32⟩
  | .hbm, ⟨41, _⟩ => ⟨S32768x1024, .bf16⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== KernelFfnSample.lean ====
abbrev S8x16x1024 : Shape := ⟨3, ![8, 16, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S256x1024 : Shape := ⟨2, ![256, 1024]⟩

abbrev nBuf : Space → Nat
  | .hbm => 16
  | .vmem => 10
  | .smem => 0
  | _ => 0

abbrev bufTy : (tb : Table) → Fin (tcTables nBuf tb) → BufTy
  | .hbm, ⟨0, _⟩ => ⟨S8x16x1024, .f32⟩
  | .hbm, ⟨1, _⟩ => ⟨S8x16x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S128x1024, .f32⟩
  | .hbm, ⟨8, _⟩ => ⟨S128x1024, .f32⟩
  | .hbm, ⟨9, _⟩ => ⟨S128x1024, .bf16⟩
  | .hbm, ⟨10, _⟩ => ⟨S1024x1024, .bf16⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S128x1024, .f32⟩
  | .local _ .vmem, ⟨0, _⟩ => ⟨S128x1024, .f32⟩
  | .local _ .vmem, ⟨1, _⟩ => ⟨S128x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .bf16⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  let c256_i32 : BitVec 32 := 256#32
  let v29 : BitVec 32 := Scalar.muli c0_i32 c256_i32
  v29
def k0_off1 (c0_i32 : BitVec 32) : Fin 2 → Nat :=
  let c0_16 : Index := 0#32
  let c256_i32 : BitVec 32 := 256#32
  let v29 : BitVec 32 := Scalar.muli c0_i32 c256_i32
  let v30 : BitVec 32 := v29
  let v32 : Index := Scalar.indexCast v30
  ![0, v32.toNat]
def k0_mult2 : BitVec 32 :=
  let c2816_i32 : BitVec 32 := 2816#32
  let c0_i32 : BitVec 32 := 0#32
  let c256_i32 : BitVec 32 := 256#32
  let v29 : BitVec 32 := Scalar.muli c0_i32 c256_i32
  let v30 : BitVec 32 := v29
  let v37 : BitVec 32 := Scalar.addi c2816_i32 v30
  v37
def k0_off2 (c0_i32 : BitVec 32) : Fin 2 → Nat :=
  let c0_20 : Index := 0#32
  let c2816_i32 : BitVec 32 := 2816#32
  let c256_i32 : BitVec 32 := 256#32
  let v29 : BitVec 32 := Scalar.muli c0_i32 c256_i32
  let v30 : BitVec 32 := v29
  let v37 : BitVec 32 := Scalar.addi c2816_i32 v30
  let v38 : BitVec 32 := v37
  let v39 : Index := Scalar.indexCast v38
  ![0, v39.toNat]
def k0_off3 (c0_i32 : BitVec 32) : Fin 2 → Nat :=
  let c256_i32 : BitVec 32 := 256#32
  let v29 : BitVec 32 := Scalar.muli c0_i32 c256_i32
  let v30 : BitVec 32 := v29
  let v52 : Index := Scalar.indexCast v30
  let c0_26 : Index := 0#32
  ![v52.toNat, 0]
def k0_mult3 : BitVec 32 :=
  let c1_i32 : BitVec 32 := 1#32
  let c256_i32_30 : BitVec 32 := 256#32
  let v60 : BitVec 32 := Scalar.muli c1_i32 c256_i32_30
  v60
def k0_mult4 : BitVec 32 :=
  let c2816_i32_37 : BitVec 32 := 2816#32
  let c1_i32 : BitVec 32 := 1#32
  let c256_i32_30 : BitVec 32 := 256#32
  let v60 : BitVec 32 := Scalar.muli c1_i32 c256_i32_30
  let v61 : BitVec 32 := v60
  let v68 : BitVec 32 := Scalar.addi c2816_i32_37 v61
  v68
def k0_mult5 : BitVec 32 :=
  let c2_i32 : BitVec 32 := 2#32
  let c256_i32_48 : BitVec 32 := 256#32
  let v91 : BitVec 32 := Scalar.muli c2_i32 c256_i32_48
  v91
def k0_mult6 : BitVec 32 :=
  let c2816_i32_55 : BitVec 32 := 2816#32
  let c2_i32 : BitVec 32 := 2#32
  let c256_i32_48 : BitVec 32 := 256#32
  let v91 : BitVec 32 := Scalar.muli c2_i32 c256_i32_48
  let v92 : BitVec 32 := v91
  let v99 : BitVec 32 := Scalar.addi c2816_i32_55 v92
  v99
def k0_mult7 : BitVec 32 :=
  let c3_i32 : BitVec 32 := 3#32
  let c256_i32_66 : BitVec 32 := 256#32
  let v122 : BitVec 32 := Scalar.muli c3_i32 c256_i32_66
  v122
def k0_mult8 : BitVec 32 :=
  let c2816_i32_73 : BitVec 32 := 2816#32
  let c3_i32 : BitVec 32 := 3#32
  let c256_i32_66 : BitVec 32 := 256#32
  let v122 : BitVec 32 := Scalar.muli c3_i32 c256_i32_66
  let v123 : BitVec 32 := v122
  let v130 : BitVec 32 := Scalar.addi c2816_i32_73 v123
  v130
def k0_mult9 : BitVec 32 :=
  let c4_i32 : BitVec 32 := 4#32
  let c256_i32_84 : BitVec 32 := 256#32
  let v153 : BitVec 32 := Scalar.muli c4_i32 c256_i32_84
  v153
def k0_mult10 : BitVec 32 :=
  let c2816_i32_91 : BitVec 32 := 2816#32
  let c4_i32 : BitVec 32 := 4#32
  let c256_i32_84 : BitVec 32 := 256#32
  let v153 : BitVec 32 := Scalar.muli c4_i32 c256_i32_84
  let v154 : BitVec 32 := v153
  let v161 : BitVec 32 := Scalar.addi c2816_i32_91 v154
  v161
def k0_mult11 : BitVec 32 :=
  let c5_i32 : BitVec 32 := 5#32
  let c256_i32_102 : BitVec 32 := 256#32
  let v184 : BitVec 32 := Scalar.muli c5_i32 c256_i32_102
  v184
def k0_mult12 : BitVec 32 :=
  let c2816_i32_109 : BitVec 32 := 2816#32
  let c5_i32 : BitVec 32 := 5#32
  let c256_i32_102 : BitVec 32 := 256#32
  let v184 : BitVec 32 := Scalar.muli c5_i32 c256_i32_102
  let v185 : BitVec 32 := v184
  let v192 : BitVec 32 := Scalar.addi c2816_i32_109 v185
  v192
def k0_mult13 : BitVec 32 :=
  let c6_i32 : BitVec 32 := 6#32
  let c256_i32_120 : BitVec 32 := 256#32
  let v215 : BitVec 32 := Scalar.muli c6_i32 c256_i32_120
  v215
def k0_mult14 : BitVec 32 :=
  let c2816_i32_127 : BitVec 32 := 2816#32
  let c6_i32 : BitVec 32 := 6#32
  let c256_i32_120 : BitVec 32 := 256#32
  let v215 : BitVec 32 := Scalar.muli c6_i32 c256_i32_120
  let v216 : BitVec 32 := v215
  let v223 : BitVec 32 := Scalar.addi c2816_i32_127 v216
  v223
def k0_mult15 : BitVec 32 :=
  let c7_i32 : BitVec 32 := 7#32
  let c256_i32_138 : BitVec 32 := 256#32
  let v246 : BitVec 32 := Scalar.muli c7_i32 c256_i32_138
  v246
def k0_mult16 : BitVec 32 :=
  let c2816_i32_145 : BitVec 32 := 2816#32
  let c7_i32 : BitVec 32 := 7#32
  let c256_i32_138 : BitVec 32 := 256#32
  let v246 : BitVec 32 := Scalar.muli c7_i32 c256_i32_138
  let v247 : BitVec 32 := v246
  let v254 : BitVec 32 := Scalar.addi c2816_i32_145 v247
  v254
def k0_mult17 : BitVec 32 :=
  let c8_i32 : BitVec 32 := 8#32
  let c256_i32_156 : BitVec 32 := 256#32
  let v277 : BitVec 32 := Scalar.muli c8_i32 c256_i32_156
  v277
def k0_mult18 : BitVec 32 :=
  let c2816_i32_163 : BitVec 32 := 2816#32
  let c8_i32 : BitVec 32 := 8#32
  let c256_i32_156 : BitVec 32 := 256#32
  let v277 : BitVec 32 := Scalar.muli c8_i32 c256_i32_156
  let v278 : BitVec 32 := v277
  let v285 : BitVec 32 := Scalar.addi c2816_i32_163 v278
  v285
def k0_mult19 : BitVec 32 :=
  let c9_i32 : BitVec 32 := 9#32
  let c256_i32_174 : BitVec 32 := 256#32
  let v308 : BitVec 32 := Scalar.muli c9_i32 c256_i32_174
  v308
def k0_mult20 : BitVec 32 :=
  let c2816_i32_181 : BitVec 32 := 2816#32
  let c9_i32 : BitVec 32 := 9#32
  let c256_i32_174 : BitVec 32 := 256#32
  let v308 : BitVec 32 := Scalar.muli c9_i32 c256_i32_174
  let v309 : BitVec 32 := v308
  let v316 : BitVec 32 := Scalar.addi c2816_i32_181 v309
  v316
def k0_mult21 : BitVec 32 :=
  let c10_i32 : BitVec 32 := 10#32
  let c256_i32_192 : BitVec 32 := 256#32
  let v339 : BitVec 32 := Scalar.muli c10_i32 c256_i32_192
  v339
def k0_mult22 : BitVec 32 :=
  let c2816_i32_199 : BitVec 32 := 2816#32
  let c10_i32 : BitVec 32 := 10#32
  let c256_i32_192 : BitVec 32 := 256#32
  let v339 : BitVec 32 := Scalar.muli c10_i32 c256_i32_192
  let v340 : BitVec 32 := v339
  let v347 : BitVec 32 := Scalar.addi c2816_i32_199 v340
  v347
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceFfnSampleIdeal.lean ====
abbrev S8x16x1024 : Shape := ⟨3, ![8, 16, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S8x16x5632 : Shape := ⟨3, ![8, 16, 5632]⟩
abbrev S8x16x2816 : Shape := ⟨3, ![8, 16, 2816]⟩
abbrev S128x1024 : Shape := ⟨2, ![128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S8x16x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S8x16x1024, .f32⟩
  | .hbm, ⟨8, _⟩ => ⟨S8x16x1024, .f32⟩
  | .hbm, ⟨9, _⟩ => ⟨S8x16x1024, .f32⟩
  | .hbm, ⟨10, _⟩ => ⟨S_, .f32⟩
  | .hbm, ⟨11, _⟩ => ⟨S8x16, .f32⟩
  | .hbm, ⟨12, _⟩ => ⟨S8x16x1, .f32⟩
  | .hbm, ⟨13, _⟩ => ⟨S_, .f32⟩
  | .hbm, ⟨14, _⟩ => ⟨S8x16x1, .f32⟩
  | .hbm, ⟨15, _⟩ => ⟨S8x16x1, .f32⟩
  | .hbm, ⟨16, _⟩ => ⟨S_, .f32⟩
  | .hbm, ⟨17, _⟩ => ⟨S8x16x1, .f32⟩
  | .hbm, ⟨18, _⟩ => ⟨S8x16x1, .f32⟩
  | .hbm, ⟨19, _⟩ => ⟨S8x16x1, .f32⟩
  | .hbm, ⟨20, _⟩ => ⟨S8x16x1024, .f32⟩
  | .hbm, ⟨21, _⟩ => ⟨S8x16x1024, .f32⟩
  | .hbm, ⟨22, _⟩ => ⟨S1x1x1024, .f32⟩
  | .hbm, ⟨23, _⟩ => ⟨S8x16x1024, .f32⟩
  | .hbm, ⟨24, _⟩ => ⟨S8x16x1024, .f32⟩
  | .hbm, ⟨25, _⟩ => ⟨S8x16x5632, .f32⟩
  | .hbm, ⟨26, _⟩ => ⟨S8x16x2816, .f32⟩
  | .hbm, ⟨27, _⟩ => ⟨S8x16x2816, .f32⟩
  | .hbm, ⟨28, _⟩ => ⟨S8x16x2816, .f32⟩
  | .hbm, ⟨29, _⟩ => ⟨S8x16x2816, .f32⟩
  | .hbm, ⟨30, _⟩ => ⟨S_, .f32⟩
  | .hbm, ⟨31, _⟩ => ⟨S8x16x2816, .f32⟩
  | .hbm, ⟨32, _⟩ => ⟨S8x16x2816, .f32⟩
  | .hbm, ⟨33, _⟩ => ⟨S_, .f32⟩
  | .hbm, ⟨34, _⟩ => ⟨S8x16x2816, .f32⟩
  | .hbm, ⟨35, _⟩ => ⟨S8x16x2816, .f32⟩
  | .hbm, ⟨36, _⟩ => ⟨S8x16x2816, .f32⟩
  | .hbm, ⟨37, _⟩ => ⟨S8x16x2816, .f32⟩
  | .hbm, ⟨38, _⟩ => ⟨S8x16x1024, .f32⟩
  | .hbm, ⟨39, _⟩ => ⟨S8x16x1024, .f32⟩
  | .hbm, ⟨40, _⟩ => ⟨S8x16x1024, .f32⟩
  | .hbm, ⟨41, _⟩ => ⟨S_, .f32⟩
  | .hbm, ⟨42, _⟩ => ⟨S8x16, .f32⟩
  | .hbm, ⟨43, _⟩ => ⟨S8x16x1, .f32⟩
  | .hbm, ⟨44, _⟩ => ⟨S_, .f32⟩
  | .hbm, ⟨45, _⟩ => ⟨S8x16x1, .f32⟩
  | .hbm, ⟨46, _⟩ => ⟨S8x16x1, .f32⟩
  | .hbm, ⟨47, _⟩ => ⟨S_, .f32⟩
  | .hbm, ⟨48, _⟩ => ⟨S8x16x1, .f32⟩
  | .hbm, ⟨49, _⟩ => ⟨S8x16x1, .f32⟩
  | .hbm, ⟨50, _⟩ => ⟨S8x16x1, .f32⟩
  | .hbm, ⟨51, _⟩ => ⟨S8x16x1024, .f32⟩
  | .hbm, ⟨52, _⟩ => ⟨S8x16x1024, .f32⟩
  | .hbm, ⟨53, _⟩ => ⟨S1x1x1024, .f32⟩
  | .hbm, ⟨54, _⟩ => ⟨S8x16x1024, .f32⟩
  | .hbm, ⟨55, _⟩ => ⟨S8x16x1024, .f32⟩
  | .hbm, ⟨56, _⟩ => ⟨S128x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== KernelQkvSample.lean ====
abbrev S8x16x1024 : Shape := ⟨3, ![8, 16, 1024]⟩
abbrev S1024 : Shape := ⟨1, ![1024]⟩
abbrev S1024x3072 : Shape := ⟨2, ![1024, 3072]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x16x1024, .f32⟩
  | .hbm, ⟨1, _⟩ => ⟨S1024, .f32⟩
  | .hbm, ⟨2, _⟩ => ⟨S1024x3072, .f32⟩
  | .hbm, ⟨3, _⟩ => ⟨S128x1024, .f32⟩
  | .hbm, ⟨4, _⟩ => ⟨S1024x3072, .bf16⟩
  | .hbm, ⟨5, _⟩ => ⟨S1x1024, .f32⟩
  | .hbm, ⟨6, _⟩ => ⟨S128x1024, .bf16⟩
  | .hbm, ⟨7, _⟩ => ⟨S128x1024, .f32⟩
  | .hbm, ⟨8, _⟩ => ⟨S128x1024, .f32⟩
  | .hbm, ⟨9, _⟩ => ⟨S128x1024, .bf16⟩
  | .hbm, ⟨10, _⟩ => ⟨S128x1024, .bf16⟩
  | .local _ .vmem, ⟨0, _⟩ => ⟨S128x1024, .f32⟩
  | .local _ .vmem, ⟨1, _⟩ => ⟨S1x1024, .f32⟩
  | .local _ .vmem, ⟨2, _⟩ => ⟨S1024x3072, .bf16⟩
  | .local _ .vmem, ⟨3, _⟩ => ⟨S128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | .local _ .vmem, ⟨7, _⟩ => ⟨S128x1024, .bf16⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelQkvSampleIdeal.lean ====
variable {F : FTy → Type} [FloatOps F] [Named F]
def κ : String → Option EReal := fun
  | "sb_scale" => some (((Real.sqrt 128)⁻¹ * (Real.log 2)⁻¹ : ℝ) : EReal)
  | _ => none
-- ==== ReferenceQkvSampleIdeal.lean ====
abbrev S8x16x1024 : Shape := ⟨3, ![8, 16, 1024]⟩
abbrev S1024 : Shape := ⟨1, ![1024]⟩
abbrev S1024x3072 : Shape := ⟨2, ![1024, 3072]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S8x16x3072 : Shape := ⟨3, ![8, 16, 3072]⟩
abbrev S8x16x3x8x128 : Shape := ⟨5, ![8, 16, 3, 8, 128]⟩
abbrev S8x16x1x8x128 : Shape := ⟨5, ![8, 16, 1, 8, 128]⟩
abbrev S8x16x8x128 : Shape := ⟨4, ![8, 16, 8, 128]⟩
abbrev S128x1024 : Shape := ⟨2, ![128, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S1024, .f32⟩
  | .hbm, ⟨2, _⟩ => ⟨S1024x3072, .f32⟩
  | .hbm, ⟨3, _⟩ => ⟨S8x16x1024, .f32⟩
  | .hbm, ⟨4, _⟩ => ⟨S_, .f32⟩
  | .hbm, ⟨5, _⟩ => ⟨S8x16, .f32⟩
  | .hbm, ⟨6, _⟩ => ⟨S8x16x1, .f32⟩
  | .hbm, ⟨7, _⟩ => ⟨S_, .f32⟩
  | .hbm, ⟨8, _⟩ => ⟨S8x16x1, .f32⟩
  | .hbm, ⟨9, _⟩ => ⟨S8x16x1, .f32⟩
  | .hbm, ⟨10, _⟩ => ⟨S_, .f32⟩
  | .hbm, ⟨11, _⟩ => ⟨S8x16x1, .f32⟩
  | .hbm, ⟨12, _⟩ => ⟨S8x16x1, .f32⟩
  | .hbm, ⟨13, _⟩ => ⟨S8x16x1, .f32⟩
  | .hbm, ⟨14, _⟩ => ⟨S8x16x1024, .f32⟩
  | .hbm, ⟨15, _⟩ => ⟨S8x16x1024, .f32⟩
  | .hbm, ⟨16, _⟩ => ⟨S1x1x1024, .f32⟩
  | .hbm, ⟨17, _⟩ => ⟨S8x16x1024, .f32⟩
  | .hbm, ⟨18, _⟩ => ⟨S8x16x1024, .f32⟩
  | .hbm, ⟨19, _⟩ => ⟨S8x16x3072, .f32⟩
  | .hbm, ⟨20, _⟩ => ⟨S8x16x3x8x128, .f32⟩
  | .hbm, ⟨21, _⟩ => ⟨S8x16x1x8x128, .f32⟩
  | .hbm, ⟨22, _⟩ => ⟨S8x16x8x128, .f32⟩
  | .hbm, ⟨23, _⟩ => ⟨S8x16x1x8x128, .f32⟩
  | .hbm, ⟨24, _⟩ => ⟨S8x16x8x128, .f32⟩
  | .hbm, ⟨25, _⟩ => ⟨S8x16x1x8x128, .f32⟩
  | .hbm, ⟨26, _⟩ => ⟨S8x16x8x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x16x8x128, .f32⟩
  | .hbm, ⟨33, _⟩ => ⟨S8x16x8x128, .f32⟩
  | .hbm, ⟨34, _⟩ => ⟨S128x1024, .f32⟩
  | .hbm, ⟨35, _⟩ => ⟨S128x1024, .bf16⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S128x1024, .bf16⟩
  | .hbm, ⟨40, _⟩ => ⟨S128x1024, .f32⟩
  | .hbm, ⟨41, _⟩ => ⟨S128x1024, .bf16⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== KernelBandQkvSample.lean ====
abbrev S8x16x1024 : Shape := ⟨3, ![8, 16, 1024]⟩
abbrev S1024 : Shape := ⟨1, ![1024]⟩
abbrev S1024x3072 : Shape := ⟨2, ![1024, 3072]⟩
abbrev S128x1024 : Shape := ⟨2, ![128, 1024]⟩
abbrev S1x1024 : Shape := ⟨2, ![1, 1024]⟩
abbrev S128x2048 : Shape := ⟨2, ![128, 2048]⟩
abbrev S128 : Shape := ⟨1, ![128]⟩
abbrev S128x1 : Shape := ⟨2, ![128, 1]⟩
abbrev S1024x1024 : Shape := ⟨2, ![1024, 1024]⟩
abbrev S128x128 : Shape := ⟨2, ![128, 128]⟩

abbrev nBuf : Space → Nat
  | .hbm => 11
  | .vmem => 8
  | .smem => 0
  | _ => 0

abbrev bufTy : (tb : Table) → Fin (tcTables nBuf tb) → BufTy
  | .hbm, ⟨0, _⟩ => ⟨S8x16x1024, .f32⟩
  | .hbm, ⟨1, _⟩ => ⟨S1024, .f32⟩
  | .hbm, ⟨2, _⟩ => ⟨S1024x3072, .f32⟩
  | .hbm, ⟨3, _⟩ => ⟨S128x1024, .f32⟩
  | .hbm, ⟨4, _⟩ => ⟨S1024x3072, .bf16⟩
  | .hbm, ⟨5, _⟩ => ⟨S1x1024, .f32⟩
  | .hbm, ⟨6, _⟩ => ⟨S128x1024, .bf16⟩
  | .hbm, ⟨7, _⟩ => ⟨S128x1024, .f32⟩
  | .hbm, ⟨8, _⟩ => ⟨S128x1024, .f32⟩
  | .hbm, ⟨9, _⟩ => ⟨S128x1024, .bf16⟩
  | .hbm, ⟨10, _⟩ => ⟨S128x2048, .bf16⟩
  | .local _ .vmem, ⟨0, _⟩ => ⟨S128x1024, .f32⟩
  | .local _ .vmem, ⟨1, _⟩ => ⟨S1x1024, .f32⟩
  | .local _ .vmem, ⟨2, _⟩ => ⟨S1024x3072, .bf16⟩
  | .local _ .vmem, ⟨3, _⟩ => ⟨S128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | .local _ .vmem, ⟨7, _⟩ => ⟨S128x2048, .bf16⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelBandQkvSampleIdeal.lean ====
variable {F : FTy → Type} [FloatOps F] [Named F]
def κ : String → Option EReal := fun
  | "band_scale" => some (((Real.sqrt 64)⁻¹ * (Real.log 2)⁻¹ : ℝ) : EReal)
  | _ => none
-- ==== ReferenceBandQkvSampleIdeal.lean ====
abbrev S8x16x1024 : Shape := ⟨3, ![8, 16, 1024]⟩
abbrev S1024 : Shape := ⟨1, ![1024]⟩
abbrev S1024x3072 : Shape := ⟨2, ![1024, 3072]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S8x16x3072 : Shape := ⟨3, ![8, 16, 3072]⟩
abbrev S8x16x3x16x64 : Shape := ⟨5, ![8, 16, 3, 16, 64]⟩
abbrev S8x16x1x16x64 : Shape := ⟨5, ![8, 16, 1, 16, 64]⟩
abbrev S8x16x16x64 : Shape := ⟨4, ![8, 16, 16, 64]⟩
abbrev S128x8x128 : Shape := ⟨3, ![128, 8, 128]⟩
abbrev S128x8x256 : Shape := ⟨3, ![128, 8, 256]⟩
abbrev S128x2048 : Shape := ⟨2, ![128, 2048]⟩
abbrev S128x1024 : Shape := ⟨2, ![128, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S1024, .f32⟩
  | .hbm, ⟨2, _⟩ => ⟨S1024x3072, .f32⟩
  | .hbm, ⟨3, _⟩ => ⟨S8x16x1024, .f32⟩
  | .hbm, ⟨4, _⟩ => ⟨S_, .f32⟩
  | .hbm, ⟨5, _⟩ => ⟨S8x16, .f32⟩
  | .hbm, ⟨6, _⟩ => ⟨S8x16x1, .f32⟩
  | .hbm, ⟨7, _⟩ => ⟨S_, .f32⟩
  | .hbm, ⟨8, _⟩ => ⟨S8x16x1, .f32⟩
  | .hbm, ⟨9, _⟩ => ⟨S8x16x1, .f32⟩
  | .hbm, ⟨10, _⟩ => ⟨S_, .f32⟩
  | .hbm, ⟨11, _⟩ => ⟨S8x16x1, .f32⟩
  | .hbm, ⟨12, _⟩ => ⟨S8x16x1, .f32⟩
  | .hbm, ⟨13, _⟩ => ⟨S8x16x1, .f32⟩
  | .hbm, ⟨14, _⟩ => ⟨S8x16x1024, .f32⟩
  | .hbm, ⟨15, _⟩ => ⟨S8x16x1024, .f32⟩
  | .hbm, ⟨16, _⟩ => ⟨S1x1x1024, .f32⟩
  | .hbm, ⟨17, _⟩ => ⟨S8x16x1024, .f32⟩
  | .hbm, ⟨18, _⟩ => ⟨S8x16x1024, .f32⟩
  | .hbm, ⟨19, _⟩ => ⟨S8x16x3072, .f32⟩
  | .hbm, ⟨20, _⟩ => ⟨S8x16x3x16x64, .f32⟩
  | .hbm, ⟨21, _⟩ => ⟨S8x16x1x16x64, .f32⟩
  | .hbm, ⟨22, _⟩ => ⟨S8x16x16x64, .f32⟩
  | .hbm, ⟨23, _⟩ => ⟨S8x16x1x16x64, .f32⟩
  | .hbm, ⟨24, _⟩ => ⟨S8x16x16x64, .f32⟩
  | .hbm, ⟨25, _⟩ => ⟨S8x16x1x16x64, .f32⟩
  | .hbm, ⟨26, _⟩ => ⟨S8x16x16x64, .f32⟩
  | .hbm, ⟨27, _⟩ => ⟨S_, .bf16⟩
  | .hbm, ⟨28, _⟩ => ⟨S128x8x128, .bf16⟩
  | .hbm, ⟨29, _⟩ => ⟨S128x8x128, .f32⟩
  | .hbm, ⟨30, _⟩ => ⟨S128x8x128, .bf16⟩
  | .hbm, ⟨31, _⟩ => ⟨S128x8x256, .bf16⟩
  | .hbm, ⟨32, _⟩ => ⟨S128x2048, .bf16⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8x16x16x64, .f32⟩
  | .hbm, ⟨39, _⟩ => ⟨S8x16x16x64, .f32⟩
  | .hbm, ⟨40, _⟩ => ⟨S128x1024, .f32⟩
  | .hbm, ⟨41, _⟩ => ⟨S128x1024, .bf16⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S128x1024, .bf16⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Proof.SB.Setup.lean ====
/-
  The launch set-up of the attention call: what its core's buffers hold when the pipeline is entered, the blocks
  its input windows show the body at each grid point, and the staging memrefs the body is handed.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.Claim

@[expose] public section

set_option maxRecDepth 16384

noncomputable section

namespace Cert.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the call -/

/-- The host operations before the call, as one list. -/
abbrev hostAll : List (HloOp τ sig (Elt F)) := List.flatten [hostOps0, hostOps0_1, hostOps0_2]

/-- Core `c`'s buffers when the call's pipeline is entered. -/
abbrev V (c : Dev nD) (b : Ref sig .tc) : Buf (Elt F) ((c : Thread nD τ).loc b) :=
  StableHlo.after hostAll (fun b => m (c, b)) b

theorem fresh_0 : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
theorem fresh_2 : (hostOps0_2 : List (HloOp τ sig (Elt F))).Forall fun op => op.fresh = ∅ := by
  simp only [List.Forall]; repeat' constructor

set_option maxHeartbeats 800000 in
/-- `@main` runs its host operations and then enters the pipeline. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨fresh_0, fresh_1, fresh_2⟩) main_chain

/-- The argument arrays are written by no host operation. -/
theorem V_arg (c : Dev nD) (b : Ref sig .tc)
    (hb : b = main_arg0 ∨ b = main_arg1 ∨ b = main_arg2) : V m c b = m ((c : Thread nD τ).loc b) := by
  rcases hb with rfl | rfl | rfl <;>
  exact StableHlo.after_of_forall_not_mem _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The blocks the windows show -/

/-- Window `w`'s block of its array at point `t`. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before_of_0 {c : Dev nD} (dat : Dat τ (Elt F) Unit ℕ (UR sig nD τ) ℕ (cfg0 (F := F)) c)
    (hA : dat.A 0 = V m c (Pipeline.arrRef spec0 0)) (hafter : ∀ t, dat.after 0 t = iblk m c 0 t)
    (t : Fin (cfg0 (F := F)).N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ (cfg0 (F := F)) c)
    (hA : dat.A 1 = V m c (Pipeline.arrRef spec0 1)) (hafter : ∀ t, dat.after 1 t = iblk m c 1 t)
    (t : Fin (cfg0 (F := F)).N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ (cfg0 (F := F)) c)
    (hA : dat.A 2 = V m c (Pipeline.arrRef spec0 2)) (hafter : ∀ t, dat.after 2 t = iblk m c 2 t)
    (t : Fin (cfg0 (F := F)).N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ (cfg0 (F := F)) c)
    (hA : dat.A 3 = V m c (Pipeline.arrRef spec0 3)) (hafter : ∀ t, dat.after 3 t = iblk m c 3 t)
    (t : Fin (cfg0 (F := F)).N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)

/-! ## The scratch -/

/-- The kernel's two scratch operands: the running sums and the accumulator. -/
abbrev scA : Memref sig .tc .vmem S2x256x128 .f32 := Memref.whole cc0_scratch0
abbrev scAcc : Memref sig .tc .vmem S256x256 .f32 := Memref.whole cc0_scratch1

/-- The pipeline's invariant: both scratch operands at some contents, and the generator's register. -/
theorem PhiA_eq (c : Dev nD) :
    (Pipeline.ΦA spec0 c : sProp 𝕄)
      = iprop(iprop((∃ d, owns (c : Thread nD τ) scA fullShare d) ∗ (∃ d, owns (c : Thread nD τ) scAcc fullShare d))
          ∗ (∃ r, prngReg c r)) := by
  unfold Pipeline.ΦA; rw [scopedRest0_eq]; simp only [scA, scAcc, owns_whole]; try rfl

end Cert.SB

end
-- ==== Proof.SB.Step.lean ====
/-
  One trip of the attention's loop and the loop itself, as functions: from the blocks of queries, keys, values and
  the triangular table, a trip takes the running sums, the accumulator and the last maximum to the next ones.
-/
module

public import proofs.«01_k».proof.Proof.SB.Setup

@[expose] public section

set_option maxRecDepth 16384

noncomputable section

namespace Cert.SB

open Cert.KernelIdeal Cert.KernelIdeal.Gen
open Idealize.ShloMosaic Idealize.ShloMosaic.TcCoe

variable {F : FTy → Type} [FloatOps F] [Named F]

/-! ## The rectangles the body reads and writes -/

abbrev rQ0 : Rect S1x256x256 := Rect.unit (s := S1x256x256) ![0, 0, 0] S1x256x128.size inb_S1x256x256_S1x256x128_0_0_0
abbrev rQ1 : Rect S1x256x256 := Rect.unit (s := S1x256x256) ![0, 0, 128] S1x256x128.size inb_S1x256x256_S1x256x128_0_0_128
abbrev rT : Rect S256x256 := Rect.unit (s := S256x256) ![0, 0] S256x256.size inb_S256x256_S256x256_0_0
abbrev rA0 : Rect S2x256x128 := Rect.unit (s := S2x256x128) ![0, 0, 0] S1x256x128.size inb_S2x256x128_S1x256x128_0_0_0
abbrev rA1 : Rect S2x256x128 := Rect.unit (s := S2x256x128) ![1, 0, 0] S1x256x128.size inb_S2x256x128_S1x256x128_1_0_0
abbrev rC0 : Rect S256x256 := Rect.unit (s := S256x256) ![0, 0] S256x128.size inb_S256x256_S256x128_0_0
abbrev rC1 : Rect S256x256 := Rect.unit (s := S256x256) ![0, 128] S256x128.size inb_S256x256_S256x128_0_128
abbrev rAll : Rect S2x256x128 := Rect.unit (s := S2x256x128) ![0, 0, 0] S2x256x128.size inb_S2x256x128_S2x256x128_0_0_0
abbrev rO : Rect S1x256x256 := Rect.unit (s := S1x256x256) ![0, 0, 0] S1x256x256.size inb_S1x256x256_S1x256x256_0_0_0
/-- The two key blocks of a trip, each at its two heads' lanes. -/
abbrev rK1 (j : BitVec 32) (h : k0_chk1 j) : Rect S1x16384x256 := Rect.unit (s := S1x16384x256) (k0_off1 j) S1x256x128.size (k0_off1_inb j h)
abbrev rK2 (j : BitVec 32) (h : k0_chk1 j) : Rect S1x16384x256 := Rect.unit (s := S1x16384x256) (k0_off2 j) S1x256x128.size (k0_off2_inb j h)
abbrev rK3 (j : BitVec 32) (h : k0_chk1 j) : Rect S1x16384x256 := Rect.unit (s := S1x16384x256) (k0_off3 j) S1x256x128.size (k0_off3_inb j h)
abbrev rK4 (j : BitVec 32) (h : k0_chk1 j) : Rect S1x16384x256 := Rect.unit (s := S1x16384x256) (k0_off4 j) S1x256x128.size (k0_off4_inb j h)

/-- The key column offsets within a block, and the query positions of the grid point. -/
abbrev cols : IVec S1x256 32 := iota .tc S1x256 32 [1] iota_S1x256_d1_w32

section Trip

variable (i : grid0.Coords) (xq : Vec F S1x256x256 .bf16) (xk xv : Vec F S1x16384x256 .bf16) (xt : Vec F S256x256 .bf16)
variable (j : BitVec 32) (h : k0_chk1 j)

/-- The scores, in base 2: block 0 then block 1 of the trip, each for both heads. -/
def z00 : FVec F S256x256 .f32 := k0_pay9 cols (k0_pay3 i) j (View.ld xq rQ0) (View.ld xk (rK1 j h))
def z01 : FVec F S256x256 .f32 := k0_pay10 cols (k0_pay3 i) j (View.ld xq rQ1) (View.ld xk (rK2 j h))
def z10 : FVec F S256x256 .f32 := k0_pay11 (k0_pay8 cols (k0_pay3 i) j) (View.ld xq rQ0) (View.ld xk (rK3 j h))
def z11 : FVec F S256x256 .f32 := k0_pay12 (k0_pay8 cols (k0_pay3 i) j) (View.ld xq rQ1) (View.ld xk (rK4 j h))

/-- Head 0's running sums after the trip, and head 1's, from those before it. -/
def nextA0 (a : Vec F S2x256x128 .f32) : Vec F S1x256x128 .f32 :=
  k0_pay28 (k0_pay17 (z10 i xq xk j h)) (k0_pay22 (View.ld a rA0)) (k0_pay24 (k0_pay13 (z00 i xq xk j h)))
def subA1 (a : Vec F S2x256x128 .f32) : FVec F S256x128 .f32 :=
  k0_pay32 (k0_pay16 (k0_pay14 (z01 i xq xk j h)) (k0_pay15 (z01 i xq xk j h))) (View.ld a rA1)
def nextA1 (a : Vec F S2x256x128 .f32) : Vec F S1x256x128 .f32 :=
  k0_pay36 (subA1 i xq xk j h a) (k0_pay34 (k0_pay18 (z11 i xq xk j h)))
def nextA (a : Vec F S2x256x128 .f32) : Vec F S2x256x128 .f32 :=
  View.canon [⟨rA1, nextA1 i xq xk j h a⟩, ⟨rA0, nextA0 i xq xk j h a⟩]

/-- The largest running sum after the trip. -/
def nextMax (a : Vec F S2x256x128 .f32) : F .f32 :=
  k0_pay37 (k0_pay29 (k0_pay17 (z10 i xq xk j h)) (k0_pay22 (View.ld a rA0)) (k0_pay24 (k0_pay13 (z00 i xq xk j h))))
    (subA1 i xq xk j h a) (k0_pay34 (k0_pay18 (z11 i xq xk j h)))

/-- The accumulator after the trip: each head's 128 lanes. -/
def nextC0 (a : Vec F S2x256x128 .f32) (acc : Vec F S256x256 .f32) : Vec F S256x128 .f32 :=
  k0_pay38 (k0_pay23 (k0_pay6 (View.ld xt rT)) (z00 i xq xk j h) (k0_pay13 (z00 i xq xk j h)) (View.ld a rA0))
    (k0_pay26 (z10 i xq xk j h) (k0_pay20 (k0_pay6 (View.ld xt rT)) (z10 i xq xk j h)) (k0_pay22 (View.ld a rA0))
      (k0_pay24 (k0_pay13 (z00 i xq xk j h))))
    (View.ld acc rC0) (View.ld xv (rK1 j h)) (View.ld xv (rK3 j h))
def nextC1 (a : Vec F S2x256x128 .f32) (acc : Vec F S256x256 .f32) : Vec F S256x128 .f32 :=
  k0_pay2 (k0_pay39
    (k0_pay31 (z01 i xq xk j h) (k0_pay19 (k0_pay6 (View.ld xt rT)) (k0_pay14 (z01 i xq xk j h)) (k0_pay15 (z01 i xq xk j h))) (View.ld a rA1))
    (k0_pay33 (z11 i xq xk j h) (k0_pay16 (k0_pay14 (z01 i xq xk j h)) (k0_pay15 (z01 i xq xk j h)))
      (k0_pay21 (k0_pay6 (View.ld xt rT)) (z11 i xq xk j h)) (View.ld a rA1))
    (View.ld acc rC1) (View.ld xv (rK2 j h)) (View.ld xv (rK4 j h)))
def nextC (a : Vec F S2x256x128 .f32) (acc : Vec F S256x256 .f32) : Vec F S256x256 .f32 :=
  View.canon [⟨rC1, nextC1 i xq xk xv xt j h a acc⟩, ⟨rC0, nextC0 i xq xk xv xt j h a acc⟩]

end Trip

/-- The test at the head of a trip: a key block is left and some running sum is above the bound. -/
def goes (j : BitVec 32) (am : F .f32) : BitVec 1 :=
  Scalar.andi (Scalar.cmpi .sge j 0#32) (Scalar.cmpf .ogt am (Named.named κ "log2zero" 0xC3170000#32))

/-- The accumulator at the loop's end, with at most `n` trips to run. -/
def loopAcc (i : grid0.Coords) (xq : Vec F S1x256x256 .bf16) (xk xv : Vec F S1x16384x256 .bf16) (xt : Vec F S256x256 .bf16) :
    ℕ → BitVec 32 → F .f32 → Vec F S2x256x128 .f32 → Vec F S256x256 .f32 → Vec F S256x256 .f32
  | 0, _, _, _, acc => acc
  | n + 1, j, am, a, acc =>
    if goes j am = 1#1 then
      if h : k0_chk1 j then
        loopAcc i xq xk xv xt n (Scalar.subi j 2#32) (nextMax i xq xk j h a) (nextA i xq xk j h a) (nextC i xq xk xv xt j h a acc)
      else acc
    else acc

/-- The index of the last key block the point's queries reach. -/
def jLast (i : grid0.Coords) : BitVec 32 :=
  let v7 : BitVec 32 := Scalar.subi (Scalar.addi (Scalar.addi 0#32 (Scalar.muli (BitVec.ofNat 32 (i 2).val) 256#32)) 256#32) 2#32
  let v13 := Scalar.subi (Scalar.extui (Scalar.cmpi .sgt v7 0#32)) (Scalar.extui (Scalar.cmpi .slt v7 0#32))
  let v18 := Scalar.subi (Scalar.extui (Scalar.cmpi .sgt 256#32 0#32)) (Scalar.extui (Scalar.cmpi .slt 256#32 0#32))
  Scalar.select (Scalar.andi (Scalar.cmpi .ne v13 v18) (Scalar.cmpi .ne (Scalar.remsi v7 256#32) 0#32))
    (Scalar.subi (Scalar.divsi v7 256#32) 1#32) (Scalar.divsi v7 256#32)

/-- What the body leaves in the output's block. -/
def outBlk (i : grid0.Coords) (xq : Vec F S1x256x256 .bf16) (xk xv : Vec F S1x16384x256 .bf16) (xt : Vec F S256x256 .bf16) :
    Vec F S1x256x256 .bf16 :=
  k0_pay1 (loopAcc i xq xk xv xt 32 (jLast i) (Scalar.ofBits .f32 0x00000000#32) (k0_pay4 (F := F)) (k0_pay5 (F := F)))

end Cert.SB

end
-- ==== Proof.SB.Loop.lean ====
/-
  The attention's loop meets its specification: entered with at most `n` trips to run it leaves in the accumulator
  what `loopAcc` says, by induction on `n`.
-/
module

public import proofs.«01_k».proof.Proof.SB.Step
public import Idealize.ShloMosaic.Lib.WordCmp

@[expose] public section

set_option maxRecDepth 16384

noncomputable section

namespace Cert.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The counter -/

/-- Every key block index the loop reaches passes the kernel's checks. -/
theorem chk_ofNat : ∀ k : Fin 64, k0_chk1 (BitVec.ofNat 32 k.val) := by decide

theorem toInt_ofNat (k : ℕ) (hk : k < 64) : (BitVec.ofNat 32 k).toInt = k := by
  rw [BitVec.toInt_eq_toNat_cond, BitVec.toNat_ofNat]
  have : k % 2 ^ 32 = k := Nat.mod_eq_of_lt (by omega)
  rw [this]; split <;> omega

theorem eq_ofNat (j : BitVec 32) (h0 : 0 ≤ j.toInt) (h1 : j.toInt ≤ 63) : ∃ k : Fin 64, j = BitVec.ofNat 32 k.val := by
  refine ⟨⟨j.toInt.toNat, by omega⟩, ?_⟩
  apply BitVec.eq_of_toInt_eq
  rw [toInt_ofNat _ (by show j.toInt.toNat < 64; omega)]
  show j.toInt = (j.toInt.toNat : ℤ)
  omega

theorem chk_of (j : BitVec 32) (h0 : 0 ≤ j.toInt) (h1 : j.toInt ≤ 63) : k0_chk1 j := by
  obtain ⟨k, rfl⟩ := eq_ofNat j h0 h1; exact chk_ofNat k

theorem sub_two : ∀ k : Fin 64, (Scalar.subi (BitVec.ofNat 32 k.val) 2#32).toInt = (k.val : ℤ) - 2 := by decide

theorem toInt_sub_two (j : BitVec 32) (h0 : 0 ≤ j.toInt) (h1 : j.toInt ≤ 63) : (Scalar.subi j 2#32).toInt = j.toInt - 2 := by
  obtain ⟨k, rfl⟩ := eq_ofNat j h0 h1; rw [sub_two, toInt_ofNat _ k.isLt]

theorem jLast_toInt (i : grid0.Coords) : (jLast i).toInt = (i 2).val := by
  have h : ∀ n : Fin 64, ∀ i : grid0.Coords, (i 2).val = n.val → (jLast i).toInt = (n.val : ℤ) := by
    intro n i hi; unfold jLast; rw [hi]; clear hi; revert n; decide
  exact h ⟨(i 2).val, (i 2).isLt⟩ i rfl

/-- A trip is made only at a key block that exists. -/
theorem nonneg_of_goes {j : BitVec 32} {am : F .f32} (h : goes j am = 1#1) : 0 ≤ j.toInt := by
  unfold goes at h
  by_contra hn
  have : Scalar.cmpi .sge j 0#32 = 0#1 := by
    show BitVec.ofBool (decide ((0#32 : BitVec 32).toInt ≤ j.toInt)) = 0#1
    rw [decide_eq_false (by simpa using hn)]; rfl
  rw [this] at h
  have hz : ∀ b : BitVec 1, Scalar.andi 0#1 b = 0#1 := by decide
  rw [hz] at h
  exact absurd h (by decide)

/-! ## The loop's label -/

abbrev 𝒱₀ : Variants := Variants.nat

section Label

variable (c : Dev nD) (i : grid0.Coords)
variable (mq : Memref sig .tc .vmem S1x256x256 .bf16) (hmq : mq.IsWhole) (mk : Memref sig .tc .vmem S1x16384x256 .bf16) (hmk : mk.IsWhole)
variable (mv : Memref sig .tc .vmem S1x16384x256 .bf16) (hmv : mv.IsWhole) (mt : Memref sig .tc .vmem S256x256 .bf16) (hmt : mt.IsWhole)
variable (ma : Memref sig .tc .vmem S2x256x128 .f32) (hma : ma.IsWhole) (mc : Memref sig .tc .vmem S256x256 .f32) (hmc : mc.IsWhole)
variable (xq : Vec F S1x256x256 .bf16) (xk xv : Vec F S1x16384x256 .bf16) (xt : Vec F S256x256 .bf16)

/-- What the loop holds: the four inputs' blocks, the running sums `a` and the accumulator `acc`. -/
def held (a : Vec F S2x256x128 .f32) (acc : Vec F S256x256 .f32) : sProp 𝕄 :=
  iprop((owns (c : Thread nD τ) mq fullShare xq ∗ owns (c : Thread nD τ) mk fullShare xk ∗ owns (c : Thread nD τ) mv fullShare xv
    ∗ owns (c : Thread nD τ) mt fullShare xt) ∗ owns (c : Thread nD τ) ma fullShare a ∗ owns (c : Thread nD τ) mc fullShare acc)

/-- The loop's specification: from the running sums and the accumulator it ends with some running sums and `acc'`. -/
def spec (a : Vec F S2x256x128 .f32) (acc acc' : Vec F S256x256 .f32) : sWPT 𝕄 (BitVec 32 × F .f32) := do
  sWPT.consume (held c mq mk mv mt ma mc xq xk xv xt a acc)
  let r ← sWPT.arbitrary
  sWPT.produce iprop(∃ a', held c mq mk mv mt ma mc xq xk xv xt a' acc')
  pure r

theorem spec_apply (a : Vec F S2x256x128 .f32) (acc acc' : Vec F S256x256 .f32) (K : BitVec 32 × F .f32 → sProp 𝕄) :
    spec c mq mk mv mt ma mc xq xk xv xt a acc acc' K
      = iprop(held c mq mk mv mt ma mc xq xk xv xt a acc ∗ ∀ r : BitVec 32 × F .f32,
          ((∃ a', held c mq mk mv mt ma mc xq xk xv xt a' acc') -∗ K r)) := rfl

set_option maxHeartbeats 4000000 in
/-- The label's body, entered at variant `n` at a block index below `2 n`, meets the specification. -/
theorem spec_le (E : Set ℕ) :
    ∀ (n : ℕ) (j : BitVec 32), j.toInt ≤ 63 → j.toInt < 2 * (n : ℤ) → ∀ am a acc K,
      spec c mq mk mv mt ma mc xq xk xv xt a acc (loopAcc i xq xk xv xt n j am a acc) K
      ⊢ wp frame (wpE (defs₀ (F := F)) 𝒱₀ (c : Thread nD τ) (some n)) E
          (defs₀ (F := F) .tc 1 ⟨i, mt, hmt, cols, k0_pay3 i, mq, hmq, mk, hmk, ma, hma, mc, hmc, mv, hmv, j, am⟩) K := by
  intro n
  induction n with
  | zero =>
    intro j h1 h2 am a acc K
    rw [spec_apply]
    show _ ⊢ wp frame (wpE (defs₀ (F := F)) 𝒱₀ (c : Thread nD τ) (some 0)) E
      (cc0_while1 i mt hmt cols (k0_pay3 i) mq hmq mk hmk ma hma mc hmc mv hmv j am) K
    simp only [cc0_while1_eq_skeleton]; unfold cc0_while1_skel
    have hC : ¬ (Scalar.andi (Scalar.cmpi .sge j 0#32) (Scalar.cmpf .ogt am (Named.named κ "log2zero" 0xC3170000#32)) = 1#1) := fun h => by
      have := nonneg_of_goes h; omega
    simp only [hC, ↓reduceIte, Prog.pure_eq_ret]
    iintro ⟨H, Hk⟩
    rw [wp_ret]; imodintro
    iapply Hk
    iexists a
    iexact H
  | succ n ih =>
    intro j h1 h2 am a acc K
    rw [spec_apply]
    show _ ⊢ wp frame (wpE (defs₀ (F := F)) 𝒱₀ (c : Thread nD τ) (some (n + 1))) E
      (cc0_while1 i mt hmt cols (k0_pay3 i) mq hmq mk hmk ma hma mc hmc mv hmv j am) K
    simp only [cc0_while1_eq_skeleton]; unfold cc0_while1_skel
    by_cases hg : goes j am = 1#1
    · have hn := nonneg_of_goes hg
      have hw : k0_chk1 j := chk_of j hn h1
      have hC : Scalar.andi (Scalar.cmpi .sge j 0#32) (Scalar.cmpf .ogt am (Named.named κ "log2zero" 0xC3170000#32)) = 1#1 := hg
      have hacc : loopAcc i xq xk xv xt (n + 1) j am a acc
          = loopAcc i xq xk xv xt n (Scalar.subi j 2#32) (nextMax i xq xk j hw a) (nextA i xq xk j hw a) (nextC i xq xk xv xt j hw a acc) := by
        rw [loopAcc, if_pos hg, dif_pos hw]
      rw [hacc]
      simp only [hC, ↓reduceIte]
      unfold held owns
      iintro ⟨⟨⟨⟨%fq, %hfq, Hq⟩, ⟨%fk, %hfk, Hkk⟩, ⟨%fv, %hfv, Hv⟩, ⟨%ft, %hft, Ht⟩⟩, ⟨%fa, %hfa, Ha⟩, ⟨%fc, %hfc, Hc⟩⟩, Hk⟩
      subst hfq hfk hfv hft hfa hfc
      sl_exec
      iapply (wp_call_spec 𝒱₀ (c : Thread nD τ) (some (n + 1)) E (spec c mq mk mv mt ma mc (View.read (Elt F) mq.view fq) (View.read (Elt F) mk.view fk)
          (View.read (Elt F) mv.view fv) (View.read (Elt F) mt.view ft) (nextA i (View.read (Elt F) mq.view fq) (View.read (Elt F) mk.view fk) j hw (View.read (Elt F) ma.view fa))
          (nextC i (View.read (Elt F) mq.view fq) (View.read (Elt F) mk.view fk) (View.read (Elt F) mv.view fv) (View.read (Elt F) mt.view ft) j hw
            (View.read (Elt F) ma.view fa) (View.read (Elt F) mc.view fc)) _) n
        (fun u hu => by cases hu; exact Nat.lt_succ_self n)
        (ih (Scalar.subi j 2#32) (by rw [toInt_sub_two j hn h1]; omega) (by rw [toInt_sub_two j hn h1]; push_cast at h2; omega) _ _ _))
      rw [spec_apply]
      unfold held owns
      isplitl [Hq Hkk Hv Ht Ha Hc]
      · isplitl [Hq Hkk Hv Ht]
        · isplitl [Hq]
          · iexists _; isplitr; swap; · iexact Hq
            ipureintro; rfl
          isplitl [Hkk]
          · iexists _; isplitr; swap; · iexact Hkk
            ipureintro; rfl
          isplitl [Hv]
          · iexists _; isplitr; swap; · iexact Hv
            ipureintro; rfl
          iexists _; isplitr; swap; · iexact Ht
          ipureintro; rfl
        isplitl [Ha]
        · iexists _; isplitr; swap; · iexact Ha
          ipureintro
          exact View.read_writes_eq_canon _ _ _ (View.cover_of_tiled _ S1x256x128.size rfl)
        iexists _; isplitr; swap; · iexact Hc
        ipureintro
        exact View.read_writes_eq_canon _ _ _ (View.cover_of_tiled _ S256x128.size rfl)
      iintro %r ⟨%a', H⟩
      rw [wp_ret]; imodintro
      iapply Hk
      iexists a'
      iexact H
    · have hC : ¬ (Scalar.andi (Scalar.cmpi .sge j 0#32) (Scalar.cmpf .ogt am (Named.named κ "log2zero" 0xC3170000#32)) = 1#1) := hg
      have hacc : loopAcc i xq xk xv xt (n + 1) j am a acc = acc := by rw [loopAcc, if_neg hg]
      rw [hacc]
      simp only [hC, ↓reduceIte, Prog.pure_eq_ret]
      iintro ⟨H, Hk⟩
      rw [wp_ret]; imodintro
      iapply Hk
      iexists a
      iexact H

end Label

end Cert.SB

end
-- ==== Proof.SB.Body.lean ====
/-
  The attention's body at a grid point: it zeroes its scratch, runs the loop and leaves `outBlk` of the four input
  blocks in the output's block.
-/
module

public import proofs.«01_k».proof.Proof.SB.Loop
public import Idealize.ShloMosaic.Lib.Pipeline.ValueKit

@[expose] public section

set_option maxRecDepth 16384

noncomputable section

namespace Cert.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's triple: the inputs' blocks are kept, the output's block ends at `outBlk` of them. -/
theorem bodyRun (c : Dev nD) (i : grid0.Coords) (mq : Memref sig .tc .vmem S1x256x256 .bf16) (hmq : mq.IsWhole)
    (mk : Memref sig .tc .vmem S1x16384x256 .bf16) (hmk : mk.IsWhole) (mv : Memref sig .tc .vmem S1x16384x256 .bf16) (hmv : mv.IsWhole)
    (mt : Memref sig .tc .vmem S256x256 .bf16) (hmt : mt.IsWhole) (mo : Memref sig .tc .vmem S1x256x256 .bf16) (hmo : mo.IsWhole)
    (ma : Memref sig .tc .vmem S2x256x128 .f32) (hma : ma.IsWhole) (mc : Memref sig .tc .vmem S256x256 .f32) (hmc : mc.IsWhole)
    (xq : Vec F S1x256x256 .bf16) (xk xv : Vec F S1x16384x256 .bf16) (xt : Vec F S256x256 .bf16) (E : Set ℕ) (K : PUnit → sProp 𝕄) :
    iprop(owns (c : Thread nD τ) mq fullShare xq ∗ owns (c : Thread nD τ) mk fullShare xk ∗ owns (c : Thread nD τ) mv fullShare xv
        ∗ owns (c : Thread nD τ) mt fullShare xt ∗ (∃ d, owns (c : Thread nD τ) mo fullShare d)
        ∗ (∃ d, owns (c : Thread nD τ) ma fullShare d) ∗ (∃ d, owns (c : Thread nD τ) mc fullShare d)
        ∗ (iprop(owns (c : Thread nD τ) mq fullShare xq ∗ owns (c : Thread nD τ) mk fullShare xk ∗ owns (c : Thread nD τ) mv fullShare xv
            ∗ owns (c : Thread nD τ) mt fullShare xt ∗ owns (c : Thread nD τ) mo fullShare (outBlk i xq xk xv xt)
            ∗ (∃ d, owns (c : Thread nD τ) ma fullShare d) ∗ (∃ d, owns (c : Thread nD τ) mc fullShare d)) -∗ K ⟨⟩))
      ⊢ wp frame (wpE (defs₀ (F := F)) 𝒱₀ (c : Thread nD τ) none) E
          (cc0_sb_attention i mq hmq mk hmk mv hmv mt hmt mo hmo ma hma mc hmc) K := by
  simp only [cc0_sb_attention_eq_skeleton]; unfold cc0_sb_attention_skel
  unfold owns
  iintro ⟨⟨%fq, %hfq, Hq⟩, ⟨%fk, %hfk, Hkk⟩, ⟨%fv, %hfv, Hv⟩, ⟨%ft, %hft, Ht⟩, ⟨%xo, %fo, -, Ho⟩, ⟨%xa, %fa, -, Ha⟩, ⟨%xc, %fc, -, Hc⟩, Hk⟩
  subst hfq hfk hfv hft
  sl_exec
  iapply (wp_call_spec 𝒱₀ (c : Thread nD τ) none E
    (spec c mq mk mv mt ma mc (View.read (Elt F) mq.view fq) (View.read (Elt F) mk.view fk) (View.read (Elt F) mv.view fv) (View.read (Elt F) mt.view ft)
      (k0_pay4 (F := F)) (k0_pay5 (F := F)) (loopAcc i (View.read (Elt F) mq.view fq) (View.read (Elt F) mk.view fk) (View.read (Elt F) mv.view fv)
        (View.read (Elt F) mt.view ft) 32 (jLast i) (Scalar.ofBits .f32 0x00000000#32) (k0_pay4 (F := F)) (k0_pay5 (F := F)))) 32
    (fun u hu => nomatch hu)
    (spec_le c i mq hmq mk hmk mv hmv mt hmt ma hma mc hmc _ _ _ _ E 32 (jLast i)
      (by rw [jLast_toInt]; have : (i 2).val < 64 := (i 2).isLt; omega) (by rw [jLast_toInt]; have : (i 2).val < 64 := (i 2).isLt; push_cast; omega) _ _ _))
  rw [spec_apply]
  unfold held owns
  isplitl [Hq Hkk Hv Ht Ha Hc]
  · isplitl [Hq Hkk Hv Ht]
    · isplitl [Hq]
      · iexists _; isplitr; swap; · iexact Hq
        ipureintro; rfl
      isplitl [Hkk]
      · iexists _; isplitr; swap; · iexact Hkk
        ipureintro; rfl
      isplitl [Hv]
      · iexists _; isplitr; swap; · iexact Hv
        ipureintro; rfl
      iexists _; isplitr; swap; · iexact Ht
      ipureintro; rfl
    isplitl [Ha]
    · iexists _; isplitr; swap; · iexact Ha
      ipureintro
      exact (View.read_writes_eq_canon _ _ _ (View.cover_of_tiled _ S2x256x128.size rfl)).trans
        (View.canon_cons_unit_lit inb_S2x256x128_S2x256x128_0_0_0 _ _ (by decide))
    iexists _; isplitr; swap; · iexact Hc
    ipureintro
    exact (View.read_writes_eq_canon _ _ _ (View.cover_of_tiled _ S256x256.size rfl)).trans
      (View.canon_cons_unit_lit inb_S256x256_S256x256_0_0 _ _ (by decide))
  iintro %r ⟨%a', ⟨⟨⟨%gq, %hgq, Hq⟩, ⟨%gk, %hgk, Hkk⟩, ⟨%gv, %hgv, Hv⟩, ⟨%gt, %hgt, Ht⟩⟩, ⟨%ga, %hga, Ha⟩, ⟨%gc, %hgc, Hc⟩⟩⟩
  sl_exec
  sl_step
  iapply Hk
  isplitl [Hq]
  · iexists _; isplitr; swap; · iexact Hq
    ipureintro; exact hgq
  isplitl [Hkk]
  · iexists _; isplitr; swap; · iexact Hkk
    ipureintro; exact hgk
  isplitl [Hv]
  · iexists _; isplitr; swap; · iexact Hv
    ipureintro; exact hgv
  isplitl [Ht]
  · iexists _; isplitr; swap; · iexact Ht
    ipureintro; exact hgt
  isplitl [Ho]
  · iexists _; isplitr; swap; · iexact Ho
    ipureintro
    refine ((View.read_writes_eq_canon _ _ _ (View.cover_of_tiled _ S1x256x256.size rfl)).trans
      (View.canon_cons_unit_lit inb_S1x256x256_S1x256x256_0_0_0 _ _ (by decide))).trans ?_
    unfold outBlk
    rw [← hgc]
    exact congrArg _ (View.ld_unit_lit inb_S256x256_S256x256_0_0 _ (by decide))
  isplitl [Ha]
  · iexists _, _; isplitr; swap; · iexact Ha
    ipureintro; rfl
  iexists _, _; isplitr; swap; · iexact Hc
  ipureintro; rfl

end Cert.SB

end
-- ==== Proof.SB.Run.lean ====
/-
  The launch: every execution ends, the argument arrays are as they were, every counter is at zero, and the output
  array holds at each grid point's block what the body left there.
-/
module

public import proofs.«01_k».proof.Proof.SB.Body

@[expose] public section

set_option maxRecDepth 16384

noncomputable section

namespace Cert.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the output's block at point `t`. -/
def oblk (c : Dev nD) (t : Fin (cfg0 (F := F)).N) : Vec F S1x256x256 .bf16 :=
  outBlk (grid0.coords t) (iblk m c 0 t) (iblk m c 1 t) (iblk m c 2 t) (iblk m c 3 t)

/-- The pipeline's proof data: the arrays as they are found, each input's block kept, the output's at `oblk`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oblk m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t) : (dats m 0 c).after 0 t = iblk m c 0 t := by dsimp only [dats]; rfl
theorem after_1 (c : Dev nD) (t) : (dats m 0 c).after 1 t = iblk m c 1 t := by dsimp only [dats]; rfl
theorem after_2 (c : Dev nD) (t) : (dats m 0 c).after 2 t = iblk m c 2 t := by dsimp only [dats]; rfl
theorem after_3 (c : Dev nD) (t) : (dats m 0 c).after 3 t = iblk m c 3 t := by dsimp only [dats]; rfl
theorem after_4 (c : Dev nD) (t) : (dats m 0 c).after 4 t = oblk m c t := by dsimp only [dats]; rfl

theorem before_0 (c : Dev nD) (t) (d) : (dats m 0 c).before 0 t d = iblk m c 0 t := before_of_0 m (dats m 0 c) (A_eq m c 0) (after_0 m c) t d
theorem before_1 (c : Dev nD) (t) (d) : (dats m 0 c).before 1 t d = iblk m c 1 t := before_of_1 m (dats m 0 c) (A_eq m c 1) (after_1 m c) t d
theorem before_2 (c : Dev nD) (t) (d) : (dats m 0 c).before 2 t d = iblk m c 2 t := before_of_2 m (dats m 0 c) (A_eq m c 2) (after_2 m c) t d
theorem before_3 (c : Dev nD) (t) (d) : (dats m 0 c).before 3 t d = iblk m c 3 t := before_of_3 m (dats m 0 c) (A_eq m c 3) (after_3 m c) t d

/-- Each window's current staging memref at point `t`. -/
abbrev st_0 (t : Fin (cfg0 (F := F)).N) : Memref sig .tc .vmem S1x256x256 .bf16 := win0_0.stage ((cfg0 (F := F)).slots t 0)
abbrev st_1 (t : Fin (cfg0 (F := F)).N) : Memref sig .tc .vmem S1x16384x256 .bf16 := win0_1.stage ((cfg0 (F := F)).slots t 1)
abbrev st_2 (t : Fin (cfg0 (F := F)).N) : Memref sig .tc .vmem S1x16384x256 .bf16 := win0_2.stage ((cfg0 (F := F)).slots t 2)
abbrev st_3 (t : Fin (cfg0 (F := F)).N) : Memref sig .tc .vmem S256x256 .bf16 := win0_3.stage ((cfg0 (F := F)).slots t 3)
abbrev st_4 (t : Fin (cfg0 (F := F)).N) : Memref sig .tc .vmem S1x256x256 .bf16 := win0_4.stage ((cfg0 (F := F)).slots t 4)

/-- What the body is called with at point `t`, and what it returns. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st_0 (F := F) t) fullShare ((dats m 0 c).before 0 t d))
    ∗ (∃ d, owns (c : Thread nD τ) (st_1 (F := F) t) fullShare ((dats m 0 c).before 1 t d))
    ∗ (∃ d, owns (c : Thread nD τ) (st_2 (F := F) t) fullShare ((dats m 0 c).before 2 t d))
    ∗ (∃ d, owns (c : Thread nD τ) (st_3 (F := F) t) fullShare ((dats m 0 c).before 3 t d))
    ∗ (∃ d, owns (c : Thread nD τ) (st_4 (F := F) t) fullShare ((dats m 0 c).before 4 t d)))
def bodyPost (c : Dev nD) (t : Fin (cfg0 (F := F)).N) : sProp 𝕄 :=
  iprop((dats m 0 c).Φ t.succ ∗ (dats m 0 c).owesAt () t.succ
    ∗ owns (c : Thread nD τ) (st_0 (F := F) t) fullShare ((dats m 0 c).after 0 t)
    ∗ owns (c : Thread nD τ) (st_1 (F := F) t) fullShare ((dats m 0 c).after 1 t)
    ∗ owns (c : Thread nD τ) (st_2 (F := F) t) fullShare ((dats m 0 c).after 2 t)
    ∗ owns (c : Thread nD τ) (st_3 (F := F) t) fullShare ((dats m 0 c).after 3 t)
    ∗ owns (c : Thread nD τ) (st_4 (F := F) t) fullShare ((dats m 0 c).after 4 t))

/-- The body meets them. -/
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, PhiA_eq]
  iintro ⟨⟨⟨HS0, HS1⟩, Hg⟩, Ho, ⟨%d0, H0⟩, ⟨%d1, H1⟩, ⟨%d2, H2⟩, ⟨%d3, H3⟩, ⟨%d4, H4⟩⟩
  iapply ((bodyRun c (grid0.coords t) _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t` is the body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- Every execution ends with the pipeline's arrays as the proof data says and every counter at zero. -/
theorem run : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The argument arrays end as they began. -/
theorem args_of {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of (win := spec0) main_arg0 (by decide) (by decide))).trans (V_arg m c _ (.inl rfl)),
    ((h c).2 main_arg1 (Pipeline.mem_restRefs_of (win := spec0) main_arg1 (by decide) (by decide))).trans (V_arg m c _ (.inr (.inl rfl))),
    ((h c).2 main_arg2 (Pipeline.mem_restRefs_of (win := spec0) main_arg2 (by decide) (by decide))).trans (V_arg m c _ (.inr (.inr rfl)))⟩

/-- The frame: the argument arrays unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_of m h.1, h.2⟩) (run m ρ)

end Cert.SB

end
-- ==== Proof.SB.Pure.lean ====
/-
  The arithmetic of the attention in the extended reals, free of any program: the softplus of a score in base 2, the sum
  of the softplus from a key on, the weight of a key, and what one trip over two key blocks adds.
-/
module

public import Idealize.ShloMosaic.Lib.Pointwise

@[expose] public section

noncomputable section

namespace Cert.SB

open Idealize.ShloMosaic

/-- One over the natural logarithm of two. -/
def L : EReal := (((Real.log 2)⁻¹ : ℝ) : EReal)

/-- The softplus of a score in base 2, and of a score in base e. -/
def soft2 (z : EReal) : EReal := max z 0 + Ideal.log (1 + Ideal.exp2 (0 - max z (-z))) * L
def softE (z : EReal) : EReal := max z 0 + Ideal.log (1 + Ideal.exp (-max z (-z)))

theorem log2_pos : (0 : ℝ) < Real.log 2 := Real.log_pos one_lt_two

theorem L_pos : 0 < L := by unfold L; exact_mod_cast inv_pos.mpr log2_pos
theorem L_ne_top : L ≠ ⊤ := EReal.coe_ne_top _
theorem L_ne_bot : L ≠ ⊥ := EReal.coe_ne_bot _

/-- A power of two at a score in base 2 is the exponential of the score in base e. -/
theorem exp2_mul_L (x : EReal) : Ideal.exp2 (x * L) = Ideal.exp x := by
  induction x using EReal.rec with
  | bot => rw [EReal.bot_mul_of_pos L_pos]; rfl
  | top => rw [EReal.top_mul_of_pos L_pos]; rfl
  | coe r =>
    unfold L
    rw [← EReal.coe_mul, Ideal.exp2_coe, Ideal.exp_coe]
    congr 1
    show (2 : ℝ) ^ (r * (Real.log 2)⁻¹) = Real.exp r
    rw [Real.rpow_def_of_pos (by norm_num)]
    congr 1
    field_simp [log2_pos.ne']

theorem exp2_nonneg (x : EReal) : 0 ≤ Ideal.exp2 x := by
  induction x using EReal.rec with
  | bot => exact le_rfl
  | top => exact le_top
  | coe r => rw [Ideal.exp2_coe]; exact_mod_cast (Real.rpow_pos_of_pos (by norm_num) r).le

theorem log_one_add_nonneg (y : EReal) (h : 0 ≤ y) : 0 ≤ Ideal.log (1 + y) := by
  induction y using EReal.rec with
  | bot => exact absurd h (by simp)
  | top => show 0 ≤ Ideal.log (1 + ⊤); rw [EReal.add_top_of_ne_bot (by decide)]; exact le_top
  | coe r =>
    have hr : (0 : ℝ) ≤ r := by exact_mod_cast h
    have : (1 : EReal) + (r : EReal) = ((1 + r : ℝ) : EReal) := by push_cast; rfl
    rw [this, Ideal.log_coe]
    rw [if_neg (by linarith)]
    exact_mod_cast Real.log_nonneg (by linarith)

theorem soft2_nonneg (z : EReal) : 0 ≤ soft2 z :=
  add_nonneg (le_max_right _ _) (mul_nonneg (log_one_add_nonneg _ (exp2_nonneg _)) L_pos.le)

theorem soft2_bot : soft2 ⊥ = 0 := by
  unfold soft2
  have h1 : max (⊥ : EReal) (-⊥) = ⊤ := by simp
  have h2 : (0 : EReal) - ⊤ = ⊥ := by simp
  have h3 : Ideal.log (1 + 0) = 0 := by
    rw [add_zero]
    show Ideal.log ((1 : ℝ) : EReal) = 0
    rw [Ideal.log_coe, if_neg (by norm_num)]; simp
  rw [h1, h2, Ideal.exp2_bot, h3]; simp

theorem max_mul_L (a b : EReal) : max a b * L = max (a * L) (b * L) := by
  have hm : Monotone (fun x : EReal => x * L) := fun x y h => mul_le_mul_of_nonneg_right h L_pos.le
  exact hm.map_max

/-- The base-2 softplus of a score in base 2 is the softplus of the score in base e, in base 2. -/
theorem soft2_mul_L (z : EReal) : soft2 (z * L) = softE z * L := by
  unfold soft2 softE
  rw [EReal.right_distrib_of_nonneg (le_max_right _ _) (by
    refine log_one_add_nonneg _ ?_
    rw [← exp2_mul_L]; exact exp2_nonneg _)]
  congr 1
  · rw [max_mul_L, zero_mul]
  · congr 3
    rw [← exp2_mul_L, zero_sub, neg_mul, max_mul_L, neg_mul]

/-- The negative of a sum of nonnegative terms. -/
theorem neg_add_nonneg {x y : EReal} (hx : 0 ≤ x) (hy : 0 ≤ y) : -(x + y) = -x + -y := by
  rw [EReal.neg_add (.inl (ne_of_gt (lt_of_lt_of_le EReal.bot_lt_zero hx))) (.inr (ne_of_gt (lt_of_lt_of_le EReal.bot_lt_zero hy)))]
  rfl

theorem neg_sum_nonneg {ι : Type*} (s : Finset ι) (f : ι → EReal) (h : ∀ i, 0 ≤ f i) : -∑ i ∈ s, f i = ∑ i ∈ s, -f i := by
  classical
  induction s using Finset.induction_on with
  | empty => simp
  | insert a s ha ih => rw [Finset.sum_insert ha, Finset.sum_insert ha, neg_add_nonneg (h a) (Finset.sum_nonneg fun i _ => h i), ih]

/-- A positive finite factor goes into a sum, whatever its terms. -/
theorem sum_mul_pos {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-! ## Words that hold small numbers, and the mask's constant -/

theorem negInf : Ideal.ofBits .f32 0xFF800000#32 = ⊥ := by
  unfold Ideal.ofBits Ideal.ieee
  simp

theorem toInt_small (n : ℕ) (h : n < 2 ^ 31) : (BitVec.ofNat 32 n).toInt = n := by
  rw [BitVec.toInt_eq_toNat_cond, BitVec.toNat_ofNat, Nat.mod_eq_of_lt (by omega), if_pos (by omega)]

theorem word_mul (n m : ℕ) : IntOp.muli (BitVec.ofNat 32 n) (BitVec.ofNat 32 m) = BitVec.ofNat 32 (n * m) := (BitVec.ofNat_mul _ _).symm
theorem word_add (n m : ℕ) : IntOp.addi (BitVec.ofNat 32 n) (BitVec.ofNat 32 m) = BitVec.ofNat 32 (n + m) := (BitVec.ofNat_add _ _).symm

theorem word_slt (n m : ℕ) (hn : n < 2 ^ 31) (hm : m < 2 ^ 31) :
    IntOp.cmpi .slt (BitVec.ofNat 32 n) (BitVec.ofNat 32 m) = BitVec.ofBool (decide (n < m)) := by
  show BitVec.ofBool (decide ((BitVec.ofNat 32 n).toInt < (BitVec.ofNat 32 m).toInt)) = _
  rw [toInt_small n hn, toInt_small m hm]
  simp

theorem word_sge (n m : ℕ) (hn : n < 2 ^ 31) (hm : m < 2 ^ 31) :
    IntOp.cmpi .sge (BitVec.ofNat 32 n) (BitVec.ofNat 32 m) = BitVec.ofBool (decide (m ≤ n)) := by
  show BitVec.ofBool (decide ((BitVec.ofNat 32 m).toInt ≤ (BitVec.ofNat 32 n).toInt)) = _
  rw [toInt_small n hn, toInt_small m hm]
  simp

/-! ## A row of scores -/

/-- The number of keys. -/
abbrev NK : ℕ := 16384

section Row

variable (Z : ℕ → EReal)

/-- The softplus summed over the keys from `s` on, and the weight of key `s`. -/
def tail (s : ℕ) : EReal := ∑ u ∈ Finset.Ico s NK, soft2 (Z u)
def weight (s : ℕ) : EReal := Ideal.exp2 (Z s + -tail Z s)

theorem tail_nonneg (s : ℕ) : 0 ≤ tail Z s := Finset.sum_nonneg fun _ _ => soft2_nonneg _

theorem tail_split {s u : ℕ} (h : s ≤ u) (hu : u ≤ NK) : tail Z s = (∑ x ∈ Finset.Ico s u, soft2 (Z x)) + tail Z u :=
  (Finset.sum_Ico_consecutive _ h hu).symm

/-- A masked key weighs nothing. -/
theorem weight_bot {s : ℕ} (h : Z s = ⊥) : weight Z s = 0 := by
  unfold weight; rw [h, EReal.bot_add]; rfl

/-- Where the softplus from some key on is infinite, every key before it weighs nothing. -/
theorem weight_of_tail_top {s u : ℕ} (h : s ≤ u) (hu : u ≤ NK) (ht : tail Z u = ⊤) : weight Z s = 0 := by
  unfold weight
  rw [tail_split Z h hu, ht, EReal.add_top_of_ne_bot (ne_of_gt (lt_of_lt_of_le EReal.bot_lt_zero
    (Finset.sum_nonneg fun _ _ => soft2_nonneg _))), EReal.neg_top, EReal.add_bot]
  rfl

/-- A sum over a block of 256 keys, by their place in the block. -/
theorem sum_block (f : ℕ → EReal) (k : ℕ) :
    ∑ x : Fin 256, f (256 * k + x.val) = ∑ x ∈ Finset.Ico (256 * k) (256 * (k + 1)), f x := by
  rw [Finset.sum_Ico_eq_sum_range, show 256 * (k + 1) - 256 * k = 256 by omega, Fin.sum_univ_eq_sum_range (fun n => f (256 * k + n))]

/-- The part of a block from place `c` on. -/
theorem sum_block_from (f : ℕ → EReal) (k : ℕ) (c : Fin 256) :
    ∑ x : Fin 256, (if c ≤ x then f (256 * k + x.val) else 0) = ∑ x ∈ Finset.Ico (256 * k + c.val) (256 * (k + 1)), f x := by
  have h := sum_block (fun u => if 256 * k + c.val ≤ u then f u else 0) k
  rw [show (∑ x : Fin 256, if c ≤ x then f (256 * k + x.val) else 0)
      = ∑ x : Fin 256, (if 256 * k + c.val ≤ 256 * k + x.val then f (256 * k + x.val) else 0) from
    Finset.sum_congr rfl fun x _ => by
      have : (c ≤ x) ↔ (256 * k + c.val ≤ 256 * k + x.val) := by rw [Fin.le_def]; omega
      by_cases hx : c ≤ x
      · rw [if_pos hx, if_pos (this.mp hx)]
      · rw [if_neg hx, if_neg fun h => hx (this.mpr h)]]
  rw [h, ← Finset.sum_filter]
  refine Finset.sum_congr ?_ fun _ _ => rfl
  ext u
  simp only [Finset.mem_filter, Finset.mem_Ico]
  have := c.isLt
  omega

/-- The two halves of a block, lane by lane, are the block. -/
theorem sum_halves (f : Fin 256 → EReal) (h0 : ∀ x : Fin 128, x.val < 256 := by intro x; have := x.isLt; omega)
    (h1 : ∀ x : Fin 128, 128 + x.val < 256 := by intro x; have := x.isLt; omega) :
    ∑ x : Fin 128, (f ⟨x.val, h0 x⟩ + f ⟨128 + x.val, h1 x⟩) = ∑ x : Fin 256, f x := by
  rw [Finset.sum_add_distrib, Fin.sum_univ_two_halves 128 128 rfl f]

/-- The table of the block's suffix sums, with the sign in it. -/
def triNeg (x c : Fin 256) : EReal := if c ≤ x then -1 else 0

theorem sum_tri (f : Fin 256 → EReal) (hf : ∀ x, 0 ≤ f x) (c : Fin 256) :
    ∑ x, f x * triNeg x c = -∑ x, (if c ≤ x then f x else 0) := by
  rw [neg_sum_nonneg _ _ (fun x => by split; exacts [hf x, le_rfl])]
  refine Finset.sum_congr rfl fun x _ => ?_
  unfold triNeg
  split
  · rw [mul_neg, mul_one]
  · rw [mul_zero, neg_zero]

/-- Within block `k`, the score less the block's suffix sum and the sums of the later blocks gives the weight. -/
theorem weight_block (k : ℕ) (hk : k < 64) (c : Fin 256) :
    Ideal.exp2 (Z (256 * k + c.val) + ∑ x : Fin 256, soft2 (Z (256 * k + x.val)) * triNeg x c + -tail Z (256 * (k + 1)))
      = weight Z (256 * k + c.val) := by
  unfold weight
  rw [sum_tri _ (fun x => soft2_nonneg _), sum_block_from (fun u => soft2 (Z u)), add_assoc,
    ← neg_add_nonneg (Finset.sum_nonneg fun _ _ => soft2_nonneg _) (tail_nonneg Z _),
    ← tail_split Z (by have := c.isLt; omega) (by show _ ≤ 16384; omega)]

/-- The sums from a block on, from those from the next block on. -/
theorem tail_block (k : ℕ) (hk : k < 64) :
    -tail Z (256 * (k + 1)) - ∑ x : Fin 256, soft2 (Z (256 * k + x.val)) = -tail Z (256 * k) := by
  rw [sum_block (fun u => soft2 (Z u)), sub_eq_add_neg, ← neg_add_nonneg (tail_nonneg Z _) (Finset.sum_nonneg fun _ _ => soft2_nonneg _),
    add_comm, ← tail_split Z (by omega) (by show _ ≤ 16384; omega)]

/-- The scores of a trip's second block: the block before `k`, and no key when there is none. -/
def before (k : ℕ) (x : Fin 256) : EReal := if 1 ≤ k then Z (256 * (k - 1) + x.val) else ⊥

theorem tail_before (k : ℕ) (hk : k < 64) :
    -tail Z (256 * k) - ∑ x : Fin 256, soft2 (before Z k x) = -tail Z (256 * (k - 1)) := by
  unfold before
  by_cases h : 1 ≤ k
  · simp only [if_pos h]
    have := tail_block Z (k - 1) (by omega)
    rwa [show k - 1 + 1 = k by omega] at this
  · simp only [if_neg h, soft2_bot, Finset.sum_const_zero, sub_zero]
    rw [show k = 0 by omega]

theorem weight_before (k : ℕ) (hk : k < 64) (c : Fin 256) :
    Ideal.exp2 (before Z k c + ∑ x : Fin 256, soft2 (before Z k x) * triNeg x c + -tail Z (256 * k))
      = if 1 ≤ k then weight Z (256 * (k - 1) + c.val) else 0 := by
  unfold before
  by_cases h : 1 ≤ k
  · simp only [if_pos h]
    have := weight_block Z (k - 1) (by omega) c
    rwa [show k - 1 + 1 = k by omega] at this
  · simp only [if_neg h, EReal.bot_add]
    rfl

/-- What the accumulator gains in a trip. -/
theorem acc_trip (v : ℕ → EReal) (k : ℕ) (hk : k < 64) :
    (∑ s ∈ Finset.Ico (256 * (k + 1)) NK, weight Z s * v s)
      + (∑ x : Fin 256, weight Z (256 * k + x.val) * v (256 * k + x.val)
        + ∑ x : Fin 256, (if 1 ≤ k then weight Z (256 * (k - 1) + x.val) else 0) * v (256 * (k - 1) + x.val))
      = ∑ s ∈ Finset.Ico (256 * (k - 1)) NK, weight Z s * v s := by
  rw [sum_block (fun s => weight Z s * v s)]
  have e1 := Finset.sum_Ico_consecutive (fun s => weight Z s * v s) (show 256 * k ≤ 256 * (k + 1) by omega) (show 256 * (k + 1) ≤ NK by show _ ≤ 16384; omega)
  by_cases h : 1 ≤ k
  · simp only [if_pos h]
    rw [sum_block (fun s => weight Z s * v s), show k - 1 + 1 = k by omega, ← Finset.sum_Ico_consecutive (fun s => weight Z s * v s)
      (show 256 * (k - 1) ≤ 256 * k by omega) (show 256 * k ≤ NK by show _ ≤ 16384; omega), ← e1]
    abel
  · simp only [if_neg h, zero_mul, Finset.sum_const_zero, add_zero]
    rw [add_comm, e1]
    rw [show k - 1 = k by omega]

end Row

end Cert.SB

end
-- ==== Proof.SB.Trip.lean ====
/-
  One trip read at an index, in the extended reals: the scores of its two key blocks, the running sums it leaves and
  what it adds to the accumulator, for a trip at key block `k`.
-/
module

public import proofs.«01_k».proof.Proof.SB.Loop
public import proofs.«01_k».proof.Proof.SB.Pure
public import Idealize.ShloMosaic.Lib.Pipeline.ValueKit

@[expose] public section

set_option maxRecDepth 16384

noncomputable section

namespace Cert.SB

open Cert.KernelIdeal Cert.KernelIdeal.Gen
open Idealize.ShloMosaic Idealize.ShloMosaic.TcCoe

/-! ## The constants and the words -/

theorem named_log2e : (Named.named κ "log2e" 0x3FB8AA3B#32 : Ideal .f32) = L := rfl
theorem named_log2zero : (Named.named κ "log2zero" 0xC3170000#32 : Ideal .f32) = ⊥ := rfl
/-- The trip's counter at key block `k`. -/
abbrev jw (k : Fin 64) : BitVec 32 := BitVec.ofNat 32 k.val

theorem off1 : ∀ k : Fin 64, k0_off1 (jw k) = ![0, 256 * k.val, 0] := by decide
theorem off2 : ∀ k : Fin 64, k0_off2 (jw k) = ![0, 256 * k.val, 128] := by decide
theorem off3 : ∀ k : Fin 64, k0_off3 (jw k) = ![0, 256 * (k.val - 1), 0] := by decide
theorem off4 : ∀ k : Fin 64, k0_off4 (jw k) = ![0, 256 * (k.val - 1), 128] := by decide

/-- The query at row `r` of the point's block. -/
abbrev qpos (i : grid0.Coords) (r : Fin 256) : ℕ := 256 * (i 2).val + r.val

theorem i2_lt (i : grid0.Coords) : (i 2).val < 64 := (i 2).isLt

/-- The mask of a trip's first block: the key comes before the query. -/
theorem mask0 (i : grid0.Coords) (k : Fin 64) (r c : Fin 256) :
    k0_pay7 cols (k0_pay3 i) (jw k) (ix2 r c) = BitVec.ofBool (decide (256 * k.val + c.val < qpos i r)) := by
  pointwise [k0_pay7, k0_pay3]
  have h1 := i2_lt i
  have h2 := k.isLt
  have h3 := r.isLt
  have h4 := c.isLt
  have e1 : Scalar.muli (jw k) 256#32 = BitVec.ofNat 32 (k.val * 256) := word_mul _ _
  have e2 : Scalar.addi 0#32 (Scalar.muli (BitVec.ofNat 32 (i 2).val) 256#32) = BitVec.ofNat 32 ((i 2).val * 256) := by
    rw [show Scalar.muli (BitVec.ofNat 32 (i 2).val) 256#32 = BitVec.ofNat 32 ((i 2).val * 256) from word_mul _ _]
    exact (word_add 0 _).trans (by rw [Nat.zero_add])
  rw [e1, e2, word_add, word_add, word_slt _ _ (by omega) (by omega)]
  congr 2
  rw [mul_comm k.val, mul_comm (i 2).val]

theorem max_sub_one : ∀ k : Fin 64, Scalar.muli (Scalar.maxsi (Scalar.subi (jw k) 1#32) 0#32) 256#32 = BitVec.ofNat 32 (256 * (k.val - 1)) := by decide
theorem ge_one : ∀ k : Fin 64, Scalar.cmpi .sge (jw k) 1#32 = BitVec.ofBool (decide (1 ≤ k.val)) := by decide

/-- The mask of a trip's second block. -/
theorem mask1 (i : grid0.Coords) (k : Fin 64) (r c : Fin 256) :
    k0_pay8 cols (k0_pay3 i) (jw k) (ix2 r c)
      = BitVec.ofBool (decide (1 ≤ k.val ∧ 256 * (k.val - 1) + c.val < qpos i r)) := by
  pointwise [k0_pay8, k0_pay3]
  have h1 := i2_lt i
  have h2 := k.isLt
  have h3 := r.isLt
  have h4 := c.isLt
  have e2 : Scalar.addi 0#32 (Scalar.muli (BitVec.ofNat 32 (i 2).val) 256#32) = BitVec.ofNat 32 ((i 2).val * 256) := by
    rw [show Scalar.muli (BitVec.ofNat 32 (i 2).val) 256#32 = BitVec.ofNat 32 ((i 2).val * 256) from word_mul _ _]
    exact (word_add 0 _).trans (by rw [Nat.zero_add])
  rw [max_sub_one, e2, word_add, word_add, word_slt _ _ (by omega) (by omega), ge_one, mul_comm (i 2).val]
  by_cases ha : 1 ≤ k.val <;> by_cases hb : 256 * (k.val - 1) + c.val < 256 * (i 2).val + r.val <;> simp [ha, hb] <;> rfl

/-- An index by its coordinates. -/
theorem ext2 {A B : ℕ} (y : (⟨2, ![A, B]⟩ : Shape).Idx) {a : Fin A} {b : Fin B} (h0 : (y 0).val = a.val) (h1 : (y 1).val = b.val) :
    y = ix2 a b := by
  rw [eq_ix2 y]; exact congrArg₂ ix2 (Fin.ext h0) (Fin.ext h1)
theorem ext3 {A B C : ℕ} (y : (⟨3, ![A, B, C]⟩ : Shape).Idx) {a : Fin A} {b : Fin B} {c : Fin C} (h0 : (y 0).val = a.val)
    (h1 : (y 1).val = b.val) (h2 : (y 2).val = c.val) : y = ix3 a b c := by
  rw [eq_ix3 y, show y 0 = a from Fin.ext h0, show y 1 = b from Fin.ext h1, show y 2 = c from Fin.ext h2]

theorem sel_true {α : Type} (x y : α) : Scalar.select (BitVec.ofBool true) x y = x := rfl

/-- Two reads at the same three coordinates. -/
theorem at3 {α : Type} {A B C : ℕ} (X : (⟨3, ![A, B, C]⟩ : Shape).Idx → α) {a a' : Fin A} {b b' : Fin B} {c c' : Fin C}
    (ha : a.val = a'.val) (hb : b.val = b'.val) (hc : c.val = c'.val) : X (ix3 a b c) = X (ix3 a' b' c') := by
  rw [Fin.ext ha, Fin.ext hb, Fin.ext hc]

/-! ## The scores -/

section Scores

variable (i : grid0.Coords) (xq : Vec Ideal S1x256x256 .bf16) (xk xv : Vec Ideal S1x16384x256 .bf16)

/-- Lane `l` of head `c`, among the block's 256. -/
abbrev lane (c : Fin 2) (l : Fin 128) : Fin 256 := ⟨128 * c.val + l.val, by have := c.isLt; have := l.isLt; omega⟩

/-- The score of key `s` for the query at row `r` and head `c`; `⊥` where the key is masked. -/
def score (c : Fin 2) (r : Fin 256) (s : ℕ) : EReal :=
  if h : s < NK ∧ s < qpos i r then ∑ d : Fin 128, xq (ix3 0 r (lane c d)) * xk (ix3 0 ⟨s, h.1⟩ (lane c d)) else ⊥

/-- Lane `l` of head `c` of the value at key `s`. -/
def val (c : Fin 2) (l : Fin 128) (s : ℕ) : EReal := if h : s < NK then xv (ix3 0 ⟨s, h⟩ (lane c l)) else 0

variable (k : Fin 64) (h : k0_chk1 (jw k)) (r x : Fin 256)

theorem z00_apply : z00 i xq xk (jw k) h (ix2 r x) = score i xq xk 0 r (256 * k.val + x.val) := by
  pointwise [z00, k0_pay9]
  rw [mask0]
  have hk := k.isLt
  have hx := x.isLt
  unfold score
  by_cases hc : 256 * k.val + x.val < qpos i r
  · rw [dif_pos ⟨by show _ < 16384; omega, hc⟩, decide_eq_true hc]
    rw [sel_true]
    refine Finset.sum_congr rfl fun d _ => ?_
    exact congrArg₂ (· * ·) (at3 xq rfl rfl (by simp)) (at3 xk (by simp [off1]) (by simp [off1]) (by simp [off1]))
  · rw [dif_neg fun h => hc h.2, decide_eq_false hc, negInf]
    rfl

theorem z01_apply : z01 i xq xk (jw k) h (ix2 r x) = score i xq xk 1 r (256 * k.val + x.val) := by
  pointwise [z01, k0_pay10]
  rw [mask0]
  have hk := k.isLt
  have hx := x.isLt
  unfold score
  by_cases hc : 256 * k.val + x.val < qpos i r
  · rw [dif_pos ⟨by show _ < 16384; omega, hc⟩, decide_eq_true hc]
    rw [sel_true]
    refine Finset.sum_congr rfl fun d _ => ?_
    exact congrArg₂ (· * ·) (at3 xq rfl rfl (by simp)) (at3 xk (by simp [off2]) (by simp [off2]) (by simp [off2]))
  · rw [dif_neg fun h => hc h.2, decide_eq_false hc, negInf]
    rfl

theorem z10_apply : z10 i xq xk (jw k) h (ix2 r x) = before (score i xq xk 0 r) k.val x := by
  pointwise [z10, k0_pay11]
  rw [mask1]
  have hk := k.isLt
  have hx := x.isLt
  unfold before score
  by_cases h1 : 1 ≤ k.val
  · rw [if_pos h1]
    by_cases hc : 256 * (k.val - 1) + x.val < qpos i r
    · rw [dif_pos ⟨by show _ < 16384; omega, hc⟩, decide_eq_true ⟨h1, hc⟩]
      rw [sel_true]
      refine Finset.sum_congr rfl fun d _ => ?_
      exact congrArg₂ (· * ·) (at3 xq rfl rfl (by simp)) (at3 xk (by simp [off3]) (by simp [off3]) (by simp [off3]))
    · rw [dif_neg fun h => hc h.2, decide_eq_false fun h => hc h.2, negInf]
      rfl
  · rw [if_neg h1, decide_eq_false fun h => h1 h.1, negInf]
    rfl

theorem z11_apply : z11 i xq xk (jw k) h (ix2 r x) = before (score i xq xk 1 r) k.val x := by
  pointwise [z11, k0_pay12]
  rw [mask1]
  have hk := k.isLt
  have hx := x.isLt
  unfold before score
  by_cases h1 : 1 ≤ k.val
  · rw [if_pos h1]
    by_cases hc : 256 * (k.val - 1) + x.val < qpos i r
    · rw [dif_pos ⟨by show _ < 16384; omega, hc⟩, decide_eq_true ⟨h1, hc⟩]
      rw [sel_true]
      refine Finset.sum_congr rfl fun d _ => ?_
      exact congrArg₂ (· * ·) (at3 xq rfl rfl (by simp)) (at3 xk (by simp [off4]) (by simp [off4]) (by simp [off4]))
    · rw [dif_neg fun h => hc h.2, decide_eq_false fun h => hc h.2, negInf]
      rfl
  · rw [if_neg h1, decide_eq_false fun h => h1 h.1, negInf]
    rfl

/-! ## The running sums -/

/-- The softplus payloads at an index. -/
theorem pay13_apply (z : FVec Ideal S256x256 .f32) (y : S256x256.Idx) : k0_pay13 z y = soft2 (z y) := by
  pointwise [k0_pay13]; rfl
theorem pay17_apply (z : FVec Ideal S256x256 .f32) (y : S256x256.Idx) : k0_pay17 z y = soft2 (z y) := by
  pointwise [k0_pay17]; rfl
theorem pay18_apply (z : FVec Ideal S256x256 .f32) (y : S256x256.Idx) : k0_pay18 z y = soft2 (z y) := by
  pointwise [k0_pay18]; rfl
theorem pay16_apply (z : FVec Ideal S256x256 .f32) (y : S256x256.Idx) : k0_pay16 (k0_pay14 z) (k0_pay15 z) y = soft2 (z y) := by
  pointwise [k0_pay16, k0_pay14, k0_pay15]; rfl

variable (a : Vec Ideal S2x256x128 .f32) (l : Fin 128)

/-- A head's running sum after a trip, from that before it. -/
def subs (z0 z1 : Fin 256 → EReal) (a : EReal) : EReal := a - ∑ x, soft2 (z0 x) - ∑ x, soft2 (z1 x)

theorem nextA0_apply : nextA0 i xq xk (jw k) h a (ix3 0 r l)
    = subs (fun x => score i xq xk 0 r (256 * k.val + x.val)) (before (score i xq xk 0 r) k.val) (a (ix3 0 r l)) := by
  pointwise [nextA0, k0_pay28, k0_pay27, k0_pay25, k0_pay24, k0_pay22]
  simp only [pay13_apply, pay17_apply, z00_apply, z10_apply]
  rw [sum_halves (fun x : Fin 256 => soft2 (score i xq xk 0 r (256 * k.val + x.val))),
    sum_halves (fun x : Fin 256 => soft2 (before (score i xq xk 0 r) k.val x))]
  rfl

theorem nextA1_apply : nextA1 i xq xk (jw k) h a (ix3 0 r l)
    = subs (fun x => score i xq xk 1 r (256 * k.val + x.val)) (before (score i xq xk 1 r) k.val) (a (ix3 1 r l)) := by
  pointwise [nextA1, subA1, k0_pay36, k0_pay35, k0_pay34, k0_pay32, k0_pay30]
  simp only [pay16_apply, pay18_apply, z01_apply, z11_apply]
  rw [sum_halves (fun x : Fin 256 => soft2 (score i xq xk 1 r (256 * k.val + x.val))),
    sum_halves (fun x : Fin 256 => soft2 (before (score i xq xk 1 r) k.val x))]
  rfl

theorem nextA_apply (c : Fin 2) : nextA i xq xk (jw k) h a (ix3 c r l)
    = subs (fun x => score i xq xk c r (256 * k.val + x.val)) (before (score i xq xk c r) k.val) (a (ix3 c r l)) := by
  unfold nextA
  match c with
  | 0 =>
    rw [← nextA0_apply i xq xk k h]
    canon_tiles y hy
    · exact absurd (show (0 : ℕ) = 1 + (y 0).val from hy0) (by omega)
    · exact congrArg _ (ext3 y hy0.symm hy1.symm hy2.symm)
  | 1 =>
    rw [← nextA1_apply i xq xk k h]
    canon_tiles y hy
    · exact congrArg _ (ext3 y (by have : (1 : ℕ) = 1 + (y 0).val := hy0; show (y 0).val = 0; omega) hy1.symm hy2.symm)
    · exact absurd (show (1 : ℕ) = (y 0).val from hy0) (by omega)

/-- The largest running sum after a trip bounds every one of them. -/
theorem le_nextMax (c : Fin 2) : nextA i xq xk (jw k) h a (ix3 c r l) ≤ nextMax i xq xk (jw k) h a := by
  rw [nextA_apply]
  pointwise [nextMax, k0_pay37, k0_pay29]
  match c with
  | 0 =>
    rw [← nextA0_apply i xq xk k h]
    refine le_max_of_le_left (le_max_of_le_right ?_)
    rw [Finset.le_fold_max]
    refine .inr ⟨(r, l), Finset.mem_univ _, le_of_eq ?_⟩
    pointwise [nextA0, k0_pay28]
  | 1 =>
    rw [← nextA1_apply i xq xk k h]
    refine le_max_of_le_right ?_
    rw [Finset.le_fold_max]
    refine .inr ⟨(r, l), Finset.mem_univ _, le_of_eq ?_⟩
    pointwise [nextA1, k0_pay36]

/-! ## The accumulator -/

variable (xt : Vec Ideal S256x256 .bf16) (ht : ∀ x y : Fin 256, xt (ix2 x y) = triNeg x y) (acc : Vec Ideal S256x256 .f32)

/-- The weight of a key of the first block and of one of the second, from the scores and the running sum. -/
def wgt0 (z0 : Fin 256 → EReal) (a : EReal) (y : Fin 256) : EReal :=
  Ideal.exp2 (z0 y + ∑ x, soft2 (z0 x) * triNeg x y + a)
def wgt1 (z0 z1 : Fin 256 → EReal) (a : EReal) (y : Fin 256) : EReal :=
  Ideal.exp2 (z1 y + ∑ x, soft2 (z1 x) * triNeg x y + (a - ∑ x, soft2 (z0 x)))

/-- What a trip adds to lane `l` of head `c`. -/
def gain (c : Fin 2) (a : EReal) : EReal :=
  (∑ x, wgt0 (fun x => score i xq xk c r (256 * k.val + x.val)) a x * val xv c l (256 * k.val + x.val))
    + ∑ x, wgt1 (fun x => score i xq xk c r (256 * k.val + x.val)) (before (score i xq xk c r) k.val) a x
        * val xv c l (256 * (k.val - 1) + x.val)

include ht in
theorem w00_apply (v : EReal) (hv : ∀ l, a (ix3 0 r l) = v) (y : Fin 256) :
    k0_pay23 (k0_pay6 (View.ld xt rT)) (z00 i xq xk (jw k) h) (k0_pay13 (z00 i xq xk (jw k) h)) (View.ld a rA0) (ix2 r y)
      = wgt0 (fun x => score i xq xk 0 r (256 * k.val + x.val)) v y := by
  pointwise [k0_pay23, k0_pay22, k0_pay6]
  simp only [pay13_apply, z00_apply, ht, hv, dite_eq_ite, ite_self]
  rfl

include ht in
theorem w10_apply (v : EReal) (hv : ∀ l, a (ix3 0 r l) = v) (y : Fin 256) :
    k0_pay26 (z10 i xq xk (jw k) h) (k0_pay20 (k0_pay6 (View.ld xt rT)) (z10 i xq xk (jw k) h)) (k0_pay22 (View.ld a rA0))
      (k0_pay24 (k0_pay13 (z00 i xq xk (jw k) h))) (ix2 r y)
      = wgt1 (fun x => score i xq xk 0 r (256 * k.val + x.val)) (before (score i xq xk 0 r) k.val) v y := by
  pointwise [k0_pay26, k0_pay25, k0_pay24, k0_pay22, k0_pay20, k0_pay6]
  simp only [pay13_apply, pay17_apply, z00_apply, z10_apply, ht, hv, dite_eq_ite, ite_self]
  rw [sum_halves (fun x : Fin 256 => soft2 (score i xq xk 0 r (256 * k.val + x.val)))]
  rfl

include ht in
theorem w01_apply (v : EReal) (hv : ∀ l, a (ix3 1 r l) = v) (y : Fin 256) :
    k0_pay31 (z01 i xq xk (jw k) h) (k0_pay19 (k0_pay6 (View.ld xt rT)) (k0_pay14 (z01 i xq xk (jw k) h)) (k0_pay15 (z01 i xq xk (jw k) h)))
      (View.ld a rA1) (ix2 r y)
      = wgt0 (fun x => score i xq xk 1 r (256 * k.val + x.val)) v y := by
  pointwise [k0_pay31, k0_pay30, k0_pay19, k0_pay6]
  simp only [pay16_apply, z01_apply, ht, hv, dite_eq_ite, ite_self]
  rfl

include ht in
theorem w11_apply (v : EReal) (hv : ∀ l, a (ix3 1 r l) = v) (y : Fin 256) :
    k0_pay33 (z11 i xq xk (jw k) h) (k0_pay16 (k0_pay14 (z01 i xq xk (jw k) h)) (k0_pay15 (z01 i xq xk (jw k) h)))
      (k0_pay21 (k0_pay6 (View.ld xt rT)) (z11 i xq xk (jw k) h)) (View.ld a rA1) (ix2 r y)
      = wgt1 (fun x => score i xq xk 1 r (256 * k.val + x.val)) (before (score i xq xk 1 r) k.val) v y := by
  pointwise [k0_pay33, k0_pay32, k0_pay30, k0_pay21, k0_pay6]
  simp only [pay16_apply, pay18_apply, z01_apply, z11_apply, ht, hv, dite_eq_ite, ite_self]
  rw [sum_halves (fun x : Fin 256 => soft2 (score i xq xk 1 r (256 * k.val + x.val)))]
  rfl

/-- A read of the values' block at a key of the array. -/
theorem val_eq (c : Fin 2) (s : ℕ) {p : Fin 1} {q : Fin 16384} {u : Fin 256} (hq : q.val = s) (hu : u.val = 128 * c.val + l.val) :
    xv (ix3 p q u) = val xv c l s := by
  unfold val
  rw [dif_pos (by rw [← hq]; exact q.isLt)]
  exact at3 xv (by omega) hq hu

include ht in
theorem nextC0_apply (v : EReal) (hv : ∀ l, a (ix3 0 r l) = v) :
    nextC0 i xq xk xv xt (jw k) h a acc (ix2 r l) = acc (ix2 r (lane 0 l)) + gain i xq xk xv k r l 0 v := by
  pointwise [nextC0, k0_pay38]
  simp only [w00_apply i xq xk k h r a xt ht v hv, w10_apply i xq xk k h r a xt ht v hv]
  unfold gain
  refine congrArg₂ (· + ·) (congrArg acc ?_) (congrArg₂ (· + ·) (Finset.sum_congr rfl fun x _ => ?_) (Finset.sum_congr rfl fun x _ => ?_))
  · rw [show lane 0 l = ⟨l.val, by have := l.isLt; omega⟩ from Fin.ext (by simp)]
  · exact congrArg _ (val_eq xv l 0 _ (by simp [off1]) (by simp [off1]))
  · exact congrArg _ (val_eq xv l 0 _ (by simp [off3]) (by simp [off3]))

include ht in
theorem nextC1_apply (v : EReal) (hv : ∀ l, a (ix3 1 r l) = v) :
    nextC1 i xq xk xv xt (jw k) h a acc (ix2 r l) = acc (ix2 r (lane 1 l)) + gain i xq xk xv k r l 1 v := by
  pointwise [nextC1, k0_pay2, k0_pay39]
  simp only [w01_apply i xq xk k h r a xt ht v hv, w11_apply i xq xk k h r a xt ht v hv]
  unfold gain
  refine congrArg₂ (· + ·) (congrArg acc ?_) (congrArg₂ (· + ·) (Finset.sum_congr rfl fun x _ => ?_) (Finset.sum_congr rfl fun x _ => ?_))
  · rw [show lane 1 l = ⟨128 + l.val, by have := l.isLt; omega⟩ from Fin.ext (by simp)]
  · exact congrArg _ (val_eq xv l 1 _ (by simp [off2]) (by simp [off2]))
  · exact congrArg _ (val_eq xv l 1 _ (by simp [off4]) (by simp [off4]))

include ht in
theorem nextC_apply (c : Fin 2) (v : EReal) (hv : ∀ l, a (ix3 c r l) = v) :
    nextC i xq xk xv xt (jw k) h a acc (ix2 r (lane c l)) = acc (ix2 r (lane c l)) + gain i xq xk xv k r l c v := by
  unfold nextC
  match c with
  | 0 =>
    rw [← nextC0_apply i xq xk xv k h r a l xt ht acc v hv]
    canon_tiles y hy
    · exact absurd (show 128 * 0 + l.val = 128 + (y 1).val from hy1) (by have := l.isLt; omega)
    · exact congrArg _ (ext2 y hy0.symm (by have : 128 * 0 + l.val = (y 1).val := hy1; omega))
  | 1 =>
    rw [← nextC1_apply i xq xk xv k h r a l xt ht acc v hv]
    canon_tiles y hy
    · exact congrArg _ (ext2 y hy0.symm (by have : 128 * 1 + l.val = 128 + (y 1).val := hy1; omega))
    · exact absurd (show 128 * 1 + l.val = (y 1).val from hy1) (by omega)

end Scores

end Cert.SB

end
-- ==== Proof.SB.Final.lean ====
/-
  The block the body leaves, read at an index: lane `l` of head `c` at row `r` is the sum over all keys of their weights
  times their values. The loop's invariant: before a trip at key block `J - 1` the running sums are the softplus summed
  from key `256 J` on, and the accumulator is the part of the result those keys give.
-/
module

public import proofs.«01_k».proof.Proof.SB.Trip

@[expose] public section

set_option maxRecDepth 16384

noncomputable section

namespace Cert.SB

open Cert.KernelIdeal Cert.KernelIdeal.Gen
open Idealize.ShloMosaic Idealize.ShloMosaic.TcCoe

variable (i : grid0.Coords) (xq : Vec Ideal S1x256x256 .bf16) (xk xv : Vec Ideal S1x16384x256 .bf16)
variable (xt : Vec Ideal S256x256 .bf16) (ht : ∀ x y : Fin 256, xt (ix2 x y) = triNeg x y)

/-- The result at row `r`, head `c`, lane `l`, from key `s` on. -/
def outFrom (c : Fin 2) (r : Fin 256) (l : Fin 128) (s : ℕ) : EReal :=
  ∑ u ∈ Finset.Ico s NK, weight (score i xq xk c r) u * val xv c l u

/-- What holds when `J` key blocks are left. -/
structure Inv (J : ℕ) (am : EReal) (a : Vec Ideal S2x256x128 .f32) (acc : Vec Ideal S256x256 .f32) : Prop where
  sums : ∀ c r l, a (ix3 c r l) = -tail (score i xq xk c r) (256 * J)
  acc : ∀ c r l, acc (ix2 r (lane c l)) = outFrom i xq xk xv c r l (256 * J)
  bound : ∀ c r l, a (ix3 c r l) ≤ am

variable {i xq xk xv}

include ht in
/-- A trip at block `k` takes `k + 1` blocks left to `k - 1`. -/
theorem Inv.step {k : Fin 64} (h : k0_chk1 (jw k)) {am : EReal} {a : Vec Ideal S2x256x128 .f32} {acc : Vec Ideal S256x256 .f32}
    (H : Inv i xq xk xv (k.val + 1) am a acc) :
    Inv i xq xk xv (k.val - 1) (nextMax i xq xk (jw k) h a) (nextA i xq xk (jw k) h a) (nextC i xq xk xv xt (jw k) h a acc) where
  sums c r l := by
    rw [nextA_apply, H.sums]
    unfold subs
    rw [tail_block _ _ k.isLt, tail_before _ _ k.isLt]
  acc c r l := by
    rw [nextC_apply i xq xk xv k h r a l xt ht acc c _ fun l => H.sums c r l, H.acc]
    unfold gain outFrom wgt0 wgt1
    simp only [tail_block _ _ k.isLt, weight_block _ _ k.isLt, weight_before _ _ k.isLt]
    exact acc_trip _ (val xv c l) k.val k.isLt
  bound c r l := le_nextMax i xq xk k h r a l c

/-- With no block left, or every running sum at `⊥`, the accumulator is the whole result. -/
theorem Inv.done {J : ℕ} (hJ : J ≤ 64) {am : EReal} {a : Vec Ideal S2x256x128 .f32} {acc : Vec Ideal S256x256 .f32}
    (H : Inv i xq xk xv J am a acc) (h : J = 0 ∨ am ≤ ⊥) (c : Fin 2) (r : Fin 256) (l : Fin 128) :
    acc (ix2 r (lane c l)) = outFrom i xq xk xv c r l 0 := by
  rw [H.acc]
  rcases h with rfl | h
  · rfl
  · have ht : tail (score i xq xk c r) (256 * J) = ⊤ := by
      have := le_antisymm ((H.bound c r l).trans h) bot_le
      rw [H.sums] at this
      rwa [EReal.neg_eq_bot_iff] at this
    unfold outFrom
    rw [← Finset.sum_Ico_consecutive _ (Nat.zero_le _) (show 256 * J ≤ NK by show _ ≤ 16384; omega)]
    rw [Finset.sum_eq_zero (s := Finset.Ico 0 (256 * J)) fun u hu => by
      rw [weight_of_tail_top _ (Finset.mem_Ico.mp hu).2.le (by show _ ≤ 16384; omega) ht, zero_mul], zero_add]

theorem goes_iff (k : Fin 64) (am : EReal) : goes (F := Ideal) (jw k) am = 1#1 ↔ ⊥ < am := by
  have h : ∀ k : Fin 64, Scalar.cmpi .sge (jw k) 0#32 = 1#1 := by decide
  have h1 : ∀ b : BitVec 1, Scalar.andi 1#1 b = b := by decide
  unfold goes
  rw [h, h1]
  show BitVec.ofBool (decide ((⊥ : EReal) < am)) = 1#1 ↔ _
  by_cases hb : (⊥ : EReal) < am
  · rw [decide_eq_true hb]; simp [hb]
  · rw [decide_eq_false hb]; simp [hb]

include ht in
/-- The loop leaves the whole result. -/
theorem loopAcc_apply : ∀ (n : ℕ) (j : BitVec 32), j.toInt ≤ 63 → j.toInt < 2 * (n : ℤ) →
    ∀ (am : EReal) (a : Vec Ideal S2x256x128 .f32) (acc : Vec Ideal S256x256 .f32), Inv i xq xk xv (j.toInt + 1).toNat am a acc →
    ∀ c r l, loopAcc i xq xk xv xt n j am a acc (ix2 r (lane c l)) = outFrom i xq xk xv c r l 0 := by
  intro n
  induction n with
  | zero =>
    intro j h1 h2 am a acc H c r l
    exact H.done (by omega) (.inl (by omega)) c r l
  | succ n ih =>
    intro j h1 h2 am a acc H c r l
    unfold loopAcc
    by_cases hg : goes (F := Ideal) j am = 1#1
    · have h0 := nonneg_of_goes (F := Ideal) hg
      have hchk := chk_of j h0 h1
      rw [if_pos hg, dif_pos hchk]
      obtain ⟨k, rfl⟩ := eq_ofNat j h0 h1
      have hk := toInt_ofNat k.val k.isLt
      have hk2 := sub_two k
      refine ih _ (by omega) (by omega) _ _ _ ?_ c r l
      rw [show ((Scalar.subi (BitVec.ofNat 32 k.val) 2#32).toInt + 1).toNat = k.val - 1 by omega]
      exact Inv.step xt ht hchk (by rwa [show ((BitVec.ofNat 32 k.val).toInt + 1).toNat = k.val + 1 by omega] at H)
    · rw [if_neg hg]
      refine H.done (by omega) ?_ c r l
      by_cases h0 : 0 ≤ j.toInt
      · right
        obtain ⟨k, rfl⟩ := eq_ofNat j h0 h1
        rw [goes_iff] at hg
        exact not_lt.mp hg
      · left; omega

/-- Before the first trip: the keys after the point's queries are masked, so they give nothing. -/
theorem inv_start : Inv i xq xk xv ((i 2).val + 1) (0 : EReal) (k0_pay4 (F := Ideal)) (k0_pay5 (F := Ideal)) := by
  have hbot : ∀ c r u, u ∈ Finset.Ico (256 * ((i 2).val + 1)) NK → score i xq xk c r u = ⊥ := by
    intro c r u hu
    unfold score
    rw [dif_neg]
    rintro ⟨-, h⟩
    have := (Finset.mem_Ico.mp hu).1
    have hr := r.isLt
    unfold qpos at h
    omega
  have h4 : ∀ c r l, k0_pay4 (F := Ideal) (ix3 c r l) = (0 : EReal) := by intro c r l; pointwise [k0_pay4]
  have h5 : ∀ r l, k0_pay5 (F := Ideal) (ix2 r l) = (0 : EReal) := by intro r l; pointwise [k0_pay5]
  refine ⟨fun c r l => ?_, fun c r l => ?_, fun c r l => ?_⟩
  · rw [h4]
    unfold tail
    rw [Finset.sum_eq_zero fun u hu => by rw [hbot c r u hu, soft2_bot], neg_zero]
  · rw [h5]
    unfold outFrom
    rw [Finset.sum_eq_zero fun u hu => by rw [weight_bot _ (hbot c r u hu), zero_mul]]
  · rw [h4]

include ht in
/-- The output's block at row `r` and lane `l` of head `c`. -/
theorem outBlk_apply (c : Fin 2) (r : Fin 256) (l : Fin 128) :
    outBlk i xq xk xv xt (ix3 0 r (lane c l)) = outFrom i xq xk xv c r l 0 := by
  pointwise [outBlk, k0_pay1]
  have hj := jLast_toInt i
  have hi := i2_lt i
  refine loopAcc_apply xt ht 32 (jLast i) (by omega) (by omega) _ _ _ ?_ c r l
  rw [show ((jLast i).toInt + 1).toNat = (i 2).val + 1 by omega]
  exact inv_start

end Cert.SB

end
-- ==== Proof.SB.Out.lean ====
/-
  The output array at an index: at batch `b`, query `t`, head `H`, lane `d` it is the sum over the keys of their weights
  times their values, read off the three arguments.
-/
module

public import proofs.«01_k».proof.Proof.SB.Run
public import proofs.«01_k».proof.Proof.SB.Final
public import Idealize.ShloMosaic.Lib.Tactic.CleanTypes
public import Idealize.ShloMosaic.Lib.StableHlo.ReadAt

@[expose] public section

set_option maxRecDepth 16384

noncomputable section

namespace Cert.SB

open Cert.KernelIdeal Cert.KernelIdeal.Gen
open Idealize.ShloMosaic Idealize.ShloMosaic.TcCoe

/-- An argument array: batch, position, head, lane. -/
abbrev Arr : Type := (⟨4, ![2, 16384, 8, 128]⟩ : Shape).Idx → EReal

/-- The factor the queries are scaled by: one over the root of the lane count, in base 2. -/
def qscale : EReal := Ideal.div 1 (Ideal.sqrt (Ideal.ofBits .f32 0x43000000#32) * Ideal.log (Ideal.ofBits .f32 0x40000000#32))

/-- The score of key `s` for query `t`, and the value at key `s`. -/
def gscore (q k : Arr) (b : Fin 2) (t : Fin 16384) (H : Fin 8) (s : ℕ) : EReal :=
  if h : s < NK ∧ s < t.val then ∑ d : Fin 128, q (ix4 b t H d) * qscale * k (ix4 b ⟨s, h.1⟩ H d) else ⊥
def gval (v : Arr) (b : Fin 2) (H : Fin 8) (d : Fin 128) (s : ℕ) : EReal := if h : s < NK then v (ix4 b ⟨s, h⟩ H d) else 0

/-- The attention's result. -/
def attn (q k v : Arr) (b : Fin 2) (t : Fin 16384) (H : Fin 8) (d : Fin 128) : EReal :=
  ∑ s ∈ Finset.Ico 0 NK, weight (gscore q k b t H) s * gval v b H d s

/-- The same, laid out as the output array is: batch, position, heads' lanes. -/
def attnOut (q k v : Arr) : (⟨3, ![2, 16384, 1024]⟩ : Shape).Idx → EReal := fun x =>
  attn q k v (x 0) (x 1) ⟨(x 2).val / 128, by have := (x 2).isLt; change _ < 1024 at this; omega⟩ ⟨(x 2).val % 128, by omega⟩

theorem attnOut_at (q k v : Arr) (x : (⟨3, ![2, 16384, 1024]⟩ : Shape).Idx) {b : Fin 2} {t : Fin 16384} {H : Fin 8} {d : Fin 128}
    (h0 : (x 0).val = b.val) (h1 : (x 1).val = t.val) (h2 : (x 2).val = 128 * H.val + d.val) : attnOut q k v x = attn q k v b t H d := by
  have hd := d.isLt
  obtain rfl : x 0 = b := Fin.ext h0
  obtain rfl : x 1 = t := Fin.ext h1
  unfold attnOut
  rw [show (⟨(x 2).val / 128, _⟩ : Fin 8) = H from Fin.ext (by show (x 2).val / 128 = _; omega),
    show (⟨(x 2).val % 128, _⟩ : Fin 128) = d from Fin.ext (by show (x 2).val % 128 = _; omega)]

variable (m : (ℓ : Loc nD τ sig) → Buf (Elt Ideal) ℓ) (c : Dev nD)

/-- The three arguments. -/
abbrev aq : Arr := m ((c : Thread nD τ).loc main_arg0)
abbrev ak : Arr := m ((c : Thread nD τ).loc main_arg1)
abbrev av : Arr := m ((c : Thread nD τ).loc main_arg2)

/-! ## The arrays the pipeline is entered with -/

theorem V_q (b : Fin 2) (t : Fin 16384) (h : Fin 1024) : V m c main_v7 (ix3 b t h)
    = aq m c (ix4 b t ⟨h.val / 128, by have := h.isLt; omega⟩ ⟨h.val % 128, by omega⟩) * qscale := by
  unfold V hostAll hostOps0 hostOps0_1 hostOps0_2
  simp only [List.flatten_cons, List.flatten_nil, List.append_nil, List.cons_append, List.nil_append]
  after_reads_at
  rfl

theorem V_k (b : Fin 2) (t : Fin 16384) (h : Fin 1024) : V m c main_v9 (ix3 b t h)
    = ak m c (ix4 b t ⟨h.val / 128, by have := h.isLt; omega⟩ ⟨h.val % 128, by omega⟩) := by
  unfold V hostAll hostOps0 hostOps0_1 hostOps0_2
  simp only [List.flatten_cons, List.flatten_nil, List.append_nil, List.cons_append, List.nil_append]
  after_reads_at
  try rfl

theorem V_v (b : Fin 2) (t : Fin 16384) (h : Fin 1024) : V m c main_v11 (ix3 b t h)
    = av m c (ix4 b t ⟨h.val / 128, by have := h.isLt; omega⟩ ⟨h.val % 128, by omega⟩) := by
  unfold V hostAll hostOps0 hostOps0_1 hostOps0_2
  simp only [List.flatten_cons, List.flatten_nil, List.append_nil, List.cons_append, List.nil_append]
  after_reads_at
  try rfl

theorem V_tri (x y : Fin 256) : V m c main_v15 (ix2 x y) = triNeg x y := by
  unfold V hostAll hostOps0 hostOps0_1 hostOps0_2
  simp only [List.flatten_cons, List.flatten_nil, List.append_nil, List.cons_append, List.nil_append]
  after_reads_at
  have hx := x.isLt
  have hy := y.isLt
  have e : IntOp.cmpi .sge (IntOp.addi (BitVec.ofNat 32 x.val) 0#32) (BitVec.ofNat 32 y.val) = BitVec.ofBool (decide (y.val ≤ x.val)) :=
    (congrArg (fun w => IntOp.cmpi .sge w (BitVec.ofNat 32 y.val)) (word_add x.val 0)).trans (word_sge _ _ (by omega) (by omega))
  rw [e]
  unfold triNeg
  by_cases h : y.val ≤ x.val
  · rw [decide_eq_true h, sel_true, if_pos (Fin.le_def.mpr h)]
  · rw [decide_eq_false h, if_neg (fun hh => h (Fin.le_def.mp hh))]
    show -(0 : EReal) = 0
    exact neg_zero

/-! ## The blocks -/

theorem index_q : ∀ t : Fin (cfg0 (F := Ideal)).N, win0_0.index t = ![(grid0.coords t 0).val, (grid0.coords t 2).val, (grid0.coords t 1).val] := by
  decide +kernel
theorem index_k : ∀ t : Fin (cfg0 (F := Ideal)).N, win0_1.index t = ![(grid0.coords t 0).val, 0, (grid0.coords t 1).val] := by
  decide +kernel
theorem index_v : ∀ t : Fin (cfg0 (F := Ideal)).N, win0_2.index t = ![(grid0.coords t 0).val, 0, (grid0.coords t 1).val] := by
  decide +kernel
theorem index_t : ∀ t : Fin (cfg0 (F := Ideal)).N, win0_3.index t = ![0, 0] := by
  decide +kernel
theorem index_o : ∀ t : Fin (cfg0 (F := Ideal)).N, win0_4.index t = ![(grid0.coords t 0).val, (grid0.coords t 2).val, (grid0.coords t 1).val] := by
  decide +kernel

section Block

variable (t : Fin (cfg0 (F := Ideal)).N)

theorem c0_lt : (grid0.coords t 0).val < 2 := (grid0.coords t 0).isLt
theorem c1_lt : (grid0.coords t 1).val < 4 := (grid0.coords t 1).isLt

/-- The batch, the query at a row, the head and lane at a lane of the point's block. -/
abbrev gb : Fin 2 := ⟨(grid0.coords t 0).val, c0_lt t⟩
abbrev gq (r : Fin 256) : Fin 16384 := ⟨qpos (grid0.coords t) r, by have := i2_lt (grid0.coords t); have := r.isLt; unfold qpos; omega⟩
abbrev gh (e : Fin 2) : Fin 8 := ⟨2 * (grid0.coords t 1).val + e.val, by have := c1_lt t; have := e.isLt; omega⟩

/-- The array's column of a head and a lane, and back. -/
theorem col_div (n e d : ℕ) (hd : d < 128) : (256 * n + (128 * e + d)) / 128 = 2 * n + e := by omega
theorem col_mod (n e d : ℕ) (hd : d < 128) : (256 * n + (128 * e + d)) % 128 = d := by omega

/-- The array's column at lane `d` of the point's head `e`. -/
abbrev gcol (e : Fin 2) (d : Fin 128) : Fin 1024 :=
  ⟨256 * (grid0.coords t 1).val + (128 * e.val + d.val), by have := c1_lt t; have := e.isLt; have := d.isLt; omega⟩

theorem at4 (X : Arr) {a a' : Fin 2} {b b' : Fin 16384} {h h' : Fin 8} {d d' : Fin 128} (ha : a = a') (hb : b = b')
    (hh : h.val = h'.val) (hd : d.val = d'.val) : X (ix4 a b h d) = X (ix4 a' b' h' d') := by
  rw [ha, hb, Fin.ext hh, Fin.ext hd]

theorem blk_q (e : Fin 2) (r : Fin 256) (d : Fin 128) :
    iblk m c 0 t (ix3 0 r (lane e d)) = aq m c (ix4 (gb t) (gq t r) (gh t e) d) * qscale := by
  refine Eq.trans (?_ : _ = V m c main_v7 (ix3 (gb t) (gq t r) (gcol t e d))) ?_
  · blk_ext [iblk, index_q t, gcol]
    all_goals (try unfold qpos; omega)
  · rw [V_q]
    exact congrArg (· * qscale) (at4 _ rfl rfl (col_div _ _ _ d.isLt) (col_mod _ _ _ d.isLt))

theorem blk_k (e : Fin 2) (s : Fin 16384) (d : Fin 128) :
    iblk m c 1 t (ix3 0 s (lane e d)) = ak m c (ix4 (gb t) s (gh t e) d) := by
  refine Eq.trans (?_ : _ = V m c main_v9 (ix3 (gb t) s (gcol t e d))) ?_
  · blk_ext [iblk, index_k t, gcol]
    all_goals omega
  · rw [V_k]
    exact at4 _ rfl rfl (col_div _ _ _ d.isLt) (col_mod _ _ _ d.isLt)

theorem blk_v (e : Fin 2) (s : Fin 16384) (d : Fin 128) :
    iblk m c 2 t (ix3 0 s (lane e d)) = av m c (ix4 (gb t) s (gh t e) d) := by
  refine Eq.trans (?_ : _ = V m c main_v11 (ix3 (gb t) s (gcol t e d))) ?_
  · blk_ext [iblk, index_v t, gcol]
    all_goals omega
  · rw [V_v]
    exact at4 _ rfl rfl (col_div _ _ _ d.isLt) (col_mod _ _ _ d.isLt)

theorem blk_t (x y : Fin 256) : iblk m c 3 t (ix2 x y) = triNeg x y := by
  rw [← V_tri m c x y]
  blk_ext [iblk, index_t t]

/-- The point's scores and values are the arrays'. -/
theorem score_blk (e : Fin 2) (r : Fin 256) :
    score (grid0.coords t) (iblk m c 0 t) (iblk m c 1 t) e r = gscore (aq m c) (ak m c) (gb t) (gq t r) (gh t e) := by
  funext s
  unfold score gscore
  refine dite_congr rfl (fun h => ?_) fun _ => rfl
  refine Finset.sum_congr rfl fun d _ => ?_
  rw [blk_q, blk_k]

theorem val_blk (e : Fin 2) (d : Fin 128) : val (iblk m c 2 t) e d = gval (av m c) (gb t) (gh t e) d := by
  funext s
  unfold val gval
  refine dite_congr rfl (fun h => ?_) fun _ => rfl
  rw [blk_v]

theorem oblk_apply (e : Fin 2) (r : Fin 256) (d : Fin 128) :
    oblk m c t (ix3 0 r (lane e d)) = attn (aq m c) (ak m c) (av m c) (gb t) (gq t r) (gh t e) d := by
  unfold oblk
  rw [outBlk_apply _ (blk_t m c t)]
  unfold outFrom attn
  rw [score_blk, val_blk]

end Block

theorem covers : ((cfg0 (F := Ideal)).win 4).Covers := by decide +kernel

/-- The output array after the run. -/
theorem out_eq : (dats m 0 c).arrAt 4 (cfg0 (F := Ideal)).N = attnOut (aq m c) (ak m c) (av m c) := by
  refine (dats m 0 c).arrAt_eq_of_covers 4 _ covers fun t hf y => ?_
  blk_simp
  rw [after_4]
  idx_vars y
  have h2 := y2.isLt
  obtain rfl : y0 = 0 := Subsingleton.elim _ _
  obtain ⟨e, d, rfl⟩ : ∃ (e : Fin 2) (d : Fin 128), y2 = lane e d :=
    ⟨⟨y2.val / 128, by omega⟩, ⟨y2.val % 128, by omega⟩, Fin.ext (by show y2.val = 128 * (y2.val / 128) + y2.val % 128; omega)⟩
  rw [oblk_apply]
  refine (attnOut_at _ _ _ _ ?_ ?_ ?_).symm
  · blk_simp [index_o t]
    try (show _ = (grid0.coords t 0).val; omega)
  · blk_simp [index_o t]
    show _ = 256 * (grid0.coords t 2).val + y1.val
    omega
  · blk_simp [index_o t]
    show _ = 128 * (2 * (grid0.coords t 1).val + e.val) + d.val
    have : (lane e d).val = 128 * e.val + d.val := rfl
    omega

end Cert.SB

end
-- ==== Proof.SB.Ref.lean ====
/-
  The reference's result at an index, as its plain formula over the three arguments.
-/
module

public import proofs.«01_k».proof.Proof.Gen.ReferenceIdeal.Run
public import proofs.«01_k».proof.Proof.SB.Pure
public import Idealize.ShloMosaic.Lib.Tactic.CleanTypes

@[expose] public section

set_option maxRecDepth 16384

noncomputable section

namespace Cert.SBRef

open Cert.ReferenceIdeal
open Idealize.ShloMosaic Idealize.ShloMosaic.TcCoe Cert.SB

abbrev Arr : Type := (⟨4, ![2, 16384, 8, 128]⟩ : Shape).Idx → EReal

/-- The score of key `s` for query `t`, before the mask. -/
def rz (q k : Arr) (b : Fin 2) (t : Fin 16384) (H : Fin 8) (s : Fin 16384) : EReal :=
  Ideal.div (∑ d : Fin 128, q (ix4 b t H d) * k (ix4 b s H d)) (Ideal.sqrt (Ideal.ofBits .f32 0x43000000#32))

/-- The logarithm of the weight of key `s`. -/
def rlog (q k : Arr) (b : Fin 2) (t : Fin 16384) (H : Fin 8) (s : Fin 16384) : EReal :=
  if s.val < t.val then
    rz q k b t H s + ∑ u : Fin 16384, (if u.val < t.val then -softE (rz q k b t H u) else 0) * (if s.val ≤ u.val then 1 else 0)
  else ⊥

/-- The result. -/
def rattn (q k v : Arr) (b : Fin 2) (t : Fin 16384) (H : Fin 8) (d : Fin 128) : EReal :=
  ∑ s : Fin 16384, v (ix4 b s H d) * Ideal.exp (rlog q k b t H s)

theorem slt_fin (x t : Fin 16384) : IntOp.cmpi .slt (BitVec.ofNat 32 x.val) (BitVec.ofNat 32 t.val) = BitVec.ofBool (decide (x.val < t.val)) :=
  word_slt _ _ (by have := x.isLt; omega) (by have := t.isLt; omega)
theorem sge_fin (x t : Fin 16384) : IntOp.cmpi .sge (BitVec.ofNat 32 x.val) (BitVec.ofNat 32 t.val) = BitVec.ofBool (decide (t.val ≤ x.val)) :=
  word_sge _ _ (by have := x.isLt; omega) (by have := t.isLt; omega)

theorem sel_dec {α : Type} (p : Prop) [Decidable p] (x y : α) : Scalar.select (BitVec.ofBool (decide p)) x y = if p then x else y := by
  by_cases h : p
  · rw [decide_eq_true h, if_pos h]; rfl
  · rw [decide_eq_false h, if_neg h]; rfl

theorem ui_dec (p : Prop) [Decidable p] : (FloatOps.uitofp .f32 (BitVec.ofBool (decide p)) : Ideal .f32) = (if p then (1 : EReal) else 0) := by
  by_cases h : p
  · rw [decide_eq_true h, if_pos h]
    show (((BitVec.ofBool true).toNat : ℝ) : EReal) = 1
    simp
  · rw [decide_eq_false h, if_neg h]
    show (((BitVec.ofBool false).toNat : ℝ) : EReal) = 0
    simp

variable (m : (ℓ : Loc nD τ sig) → Buf (Elt Ideal) ℓ) (c : Dev nD)

theorem ref_apply (b : Fin 2) (t : Fin 16384) (h : Fin 1024) :
    Value.res_main_v26 m c (ix3 b t h)
      = rattn (m (c.tc.loc main_arg0)) (m (c.tc.loc main_arg1)) (m (c.tc.loc main_arg2)) b t
          ⟨h.val / 128, by have := h.isLt; omega⟩ ⟨h.val % 128, by omega⟩ := by
  unfold Value.res_main_v26
  clean_types
  pointwise
  simp only [slt_fin, sge_fin, sel_dec, ui_dec, neg_neg, ne_eq, not_true_eq_false, if_false]
  unfold rattn rlog rz softE
  refine Finset.sum_congr rfl fun s _ => ?_
  have h0 : (id (constant (F := Ideal) S_ .f32 0#32) ix0 : EReal) = 0 := Ideal.ofBits_zero_f32
  have hb : (id (constant (F := Ideal) S_ .f32 4286578688#32) ix0 : EReal) = ⊥ := negInf
  by_cases hs : s.val < t.val
  · rw [if_pos hs, if_pos hs]
    simp only [h0]
    rfl
  · rw [if_neg hs, if_neg hs]
    simp only [hb]

end Cert.SBRef

end
-- ==== Proof.SB.Equation.lean ====
/-
  The equation of the attention: the sum of the keys' base-2 weights is the reference's formula. The queries' factor is
  the reference's divisor and the change of base at once; a positive finite factor goes through every sum.
-/
module

public import proofs.«01_k».proof.Proof.SB.Out
public import proofs.«01_k».proof.Proof.SB.Ref

@[expose] public section

set_option maxRecDepth 16384

noncomputable section

namespace Cert.SBEq

open Idealize.ShloMosaic Cert.SB Cert.SBRef

theorem bits_128 : Ideal.ofBits .f32 0x43000000#32 = ((128 : ℝ) : EReal) := by
  unfold Ideal.ofBits Ideal.ieee
  simp only [BitVec.toNat_ofNat]
  rw [show BitVec.extractLsb' 31 1 (0x43000000#32 : BitVec 32) = 0#1 from by decide]
  norm_num [Nat.shiftRight_eq_div_pow]

theorem bits_two : Ideal.ofBits .f32 0x40000000#32 = ((2 : ℝ) : EReal) := by
  unfold Ideal.ofBits Ideal.ieee
  simp only [BitVec.toNat_ofNat]
  rw [show BitVec.extractLsb' 31 1 (0x40000000#32 : BitVec 32) = 0#1 from by decide]
  norm_num [Nat.shiftRight_eq_div_pow]

theorem root_pos : (0 : ℝ) < Real.sqrt 128 := Real.sqrt_pos.mpr (by norm_num)

/-- The reciprocal of the root of the lane count. -/
def R : EReal := (((Real.sqrt 128)⁻¹ : ℝ) : EReal)

theorem div_root (x : EReal) : Ideal.div x (Ideal.sqrt (Ideal.ofBits .f32 0x43000000#32)) = x * R := by
  rw [bits_128, Ideal.sqrt_coe, if_neg (by norm_num)]
  unfold Ideal.div R
  rw [if_neg (by exact_mod_cast root_pos.ne'), EReal.coe_inv]

theorem qscale_eq : qscale = R * L := by
  unfold qscale
  rw [bits_128, bits_two, Ideal.sqrt_coe, if_neg (by norm_num), Ideal.log_coe, if_neg (by norm_num), ← EReal.coe_mul]
  unfold Ideal.div R L
  rw [if_neg (by exact_mod_cast (mul_pos root_pos log2_pos).ne'), ← EReal.coe_inv, one_mul, mul_inv, EReal.coe_mul]

theorem R_nonneg : 0 ≤ R := by unfold R; exact_mod_cast (inv_pos.mpr root_pos).le

theorem qscale_nonneg : 0 ≤ qscale := by rw [qscale_eq]; exact mul_nonneg R_nonneg L_pos.le
theorem qscale_ne_top : qscale ≠ ⊤ := by
  rw [qscale_eq]; unfold R L; rw [← EReal.coe_mul]; exact EReal.coe_ne_top _

variable (q k v : Cert.SB.Arr) (b : Fin 2) (t : Fin 16384) (H : Fin 8)

/-- A score of the attention is the reference's, in base 2, where the key is not masked. -/
theorem gscore_eq (s : Fin 16384) : gscore q k b t H s.val = if s.val < t.val then rz q k b t H s * L else ⊥ := by
  unfold gscore
  by_cases h : s.val < t.val
  · rw [dif_pos ⟨s.isLt, h⟩, if_pos h]
    unfold rz
    rw [div_root, mul_assoc, ← qscale_eq, sum_mul_pos _ _ qscale_nonneg qscale_ne_top]
    refine Finset.sum_congr rfl fun d _ => ?_
    rw [mul_assoc, mul_assoc, mul_comm qscale]
  · rw [dif_neg fun hh => h hh.2, if_neg h]

theorem soft_gscore (u : Fin 16384) : soft2 (gscore q k b t H u.val) = if u.val < t.val then softE (rz q k b t H u) * L else 0 := by
  rw [gscore_eq]
  split
  · exact soft2_mul_L _
  · exact soft2_bot

/-- The sum from key `s` on, over all keys with the others at zero. -/
theorem sum_from (f : ℕ → EReal) (s : Fin 16384) :
    ∑ u ∈ Finset.Ico s.val NK, f u = ∑ u : Fin 16384, if s.val ≤ u.val then f u.val else 0 := by
  rw [Fin.sum_univ_eq_sum_range (fun n => if s.val ≤ n then f n else 0) 16384, ← Finset.sum_filter]
  refine Finset.sum_congr ?_ fun _ _ => rfl
  ext u
  simp only [Finset.mem_filter, Finset.mem_Ico, Finset.mem_range, NK]
  omega

theorem weight_eq (s : Fin 16384) : weight (gscore q k b t H) s.val = Ideal.exp (rlog q k b t H s) := by
  unfold rlog
  by_cases h : s.val < t.val
  · rw [if_pos h, ← exp2_mul_L, EReal.right_distrib_of_nonneg_of_ne_top L_pos.le L_ne_top, sum_mul_pos _ _ L_pos.le L_ne_top]
    unfold weight tail
    rw [sum_from, gscore_eq, if_pos h, neg_sum_nonneg _ _ (fun u => by split; exacts [soft2_nonneg _, le_rfl])]
    have e : ∀ u : Fin 16384, -(if s.val ≤ u.val then soft2 (gscore q k b t H u.val) else 0)
        = (if u.val < t.val then -softE (rz q k b t H u) else 0) * (if s.val ≤ u.val then 1 else 0) * L := by
      intro u
      rw [soft_gscore]
      by_cases h1 : s.val ≤ u.val <;> by_cases h2 : u.val < t.val <;> simp [h1, h2]
    simp only [e]
  · rw [if_neg h, weight_bot _ (by rw [gscore_eq, if_neg h])]
    rfl

/-- The two formulas are one. -/
theorem attn_eq (d : Fin 128) : attn q k v b t H d = rattn q k v b t H d := by
  unfold attn rattn
  rw [show Finset.Ico 0 NK = Finset.range 16384 from (Finset.range_eq_Ico 16384).symm,
    ← Fin.sum_univ_eq_sum_range (fun s => weight (gscore q k b t H) s * gval v b H d s) 16384]
  refine Finset.sum_congr rfl fun s _ => ?_
  rw [weight_eq, mul_comm]
  unfold gval
  rw [dif_pos s.isLt]

open Idealize.ShloMosaic.TcCoe in
/-- The reference's result is the attention's, laid out as the output array is. -/
theorem ref_out (m : (ℓ : Loc Cert.ReferenceIdeal.nD Cert.ReferenceIdeal.τ Cert.ReferenceIdeal.sig) → Buf (Elt Ideal) ℓ)
    (c : Dev Cert.ReferenceIdeal.nD) : Cert.ReferenceIdeal.Value.res_main_v26 m c
      = attnOut (m (c.tc.loc Cert.ReferenceIdeal.main_arg0)) (m (c.tc.loc Cert.ReferenceIdeal.main_arg1))
          (m (c.tc.loc Cert.ReferenceIdeal.main_arg2)) := by
  have h : ∀ x : (⟨3, ![2, 16384, 1024]⟩ : Shape).Idx, Cert.ReferenceIdeal.Value.res_main_v26 m c x
      = attnOut (m (c.tc.loc Cert.ReferenceIdeal.main_arg0)) (m (c.tc.loc Cert.ReferenceIdeal.main_arg1))
          (m (c.tc.loc Cert.ReferenceIdeal.main_arg2)) x := by
    intro x
    rw [eq_ix3 x]
    exact (ref_apply m c _ _ _).trans (attn_eq _ _ _ _ _ _ _).symm
  exact funext h

end Cert.SBEq

end
-- ==== Proof.FF.Pure.lean ====
/-
  One row of the feed-forward call as a formula of extended reals: the attention's output through its projection and
  onto the layer's input, the gated feed-forward of the normalised row onto that, and the last normalisation.
-/
module

public import Idealize.ShloMosaic.PureOps.Ideal
public import Idealize.ShloMosaic.Lib.Pointwise
public import Idealize.ShloMosaic.Lib.Pipeline.ValueKit

@[expose] public section

noncomputable section

namespace Cert.FF

open Idealize.ShloMosaic

/-- A row divided by the root of its mean square, times the gains. -/
def rms (x g : Fin 1024 → EReal) (c : Fin 1024) : EReal :=
  x c * Ideal.rsqrt (Ideal.div (∑ j, x j * x j) (Ideal.ofBits .f32 1149239296#32) + Ideal.ofBits .f32 897988541#32) * g c

/-- The gate: a value over one plus the exponential of its opposite. -/
def gate (z : EReal) : EReal := Ideal.div z (1 + Ideal.exp (0 - z))

theorem exp_nonneg (z : EReal) : 0 ≤ Ideal.exp z := by
  induction z using EReal.rec with
  | bot => exact le_refl _
  | top => exact le_top
  | coe r => exact EReal.coe_nonneg.mpr (Real.exp_pos r).le

/-- Dividing by the gate's denominator is multiplying by one over it. -/
theorem gate_eq (z : EReal) : z * Ideal.div 1 (1 + Ideal.exp (-z)) = gate z := by
  have h : (1 : EReal) + Ideal.exp (-z) ≠ 0 :=
    (lt_of_lt_of_le zero_lt_one (le_add_of_nonneg_right (exp_nonneg _))).ne'
  unfold gate Ideal.div
  rw [zero_sub, if_neg h, if_neg h, one_mul]

variable (x a : Fin 1024 → EReal) (wo : Fin 1024 → Fin 1024 → EReal) (g : Fin 1024 → EReal)
  (wg : Fin 1024 → Fin 5632 → EReal) (wd : Fin 2816 → Fin 1024 → EReal) (gf : Fin 1024 → EReal)

/-- The row after the projection of the attention's output. -/
def mid (c : Fin 1024) : EReal := x c + ∑ j, a j * wo j c

/-- What hidden unit `f` of a normalised row `h` adds to lane `c`. -/
def unit (h : Fin 1024 → EReal) (f : Fin 2816) (c : Fin 1024) : EReal :=
  (gate (∑ d, h d * wg d ⟨f.val, by omega⟩) * ∑ d, h d * wg d ⟨2816 + f.val, by omega⟩) * wd f c

/-- The row after the feed-forward. -/
def ffn (c : Fin 1024) : EReal := mid x a wo c + ∑ f, unit wg wd (rms (mid x a wo) g) f c

/-- The row of the result. -/
def rowOut : Fin 1024 → EReal := rms (ffn x a wo g wg wd) gf

/-- Eleven stretches of 256 hidden units, added one after another, are all the units. -/
theorem stretches (s : EReal) (u : Fin 2816 → EReal) (S : Fin 11 → EReal)
    (hS : ∀ k : Fin 11, S k = ∑ j : Fin 256, u ⟨k.val * 256 + j.val, by omega⟩) :
    s + S 0 + S 1 + S 2 + S 3 + S 4 + S 5 + S 6 + S 7 + S 8 + S 9 + S 10 = s + ∑ f, u f := by
  rw [← Fin.sum_mul_add_fin 11 256 u, ← Finset.sum_congr rfl (fun k _ => hS k)]
  simp only [Fin.sum_univ_succ, Fin.sum_univ_zero, add_zero, add_assoc]
  rfl

/-- A block or matrix of extended reals. -/
abbrev M (a b : ℕ) : Type := (⟨2, ![a, b]⟩ : Shape).Idx → EReal

/-- Row `r` of a matrix, and a matrix as a function of its two indices. -/
abbrev row {a b : ℕ} (X : M a b) (r : Fin a) (c : Fin b) : EReal := X (ix2 r c)

end Cert.FF

end
-- ==== Proof.FF.Block.lean ====
/-
  What one grid point of the feed-forward call writes: each row of its block is the row's formula over the row of the
  input blocks. The eleven stretches of hidden units are one and the same step at eleven places.
-/
module

public import proofs.«01_k».proof.Proof.Gen.KernelFfnIdeal.Value
public import proofs.«01_k».proof.Proof.FF.Pure

@[expose] public section

set_option maxRecDepth 16384

noncomputable section

namespace Cert.FF

open Cert.KernelFfnIdeal Cert.KernelFfnIdeal.Gen
open Idealize.ShloMosaic Idealize.ShloMosaic.TcCoe

theorem mid_block (X A : M 512 1024) (W : M 1024 1024) (r : Fin 512) :
    row (k0_pay3 (F := Ideal) X A W) r = mid (row X r) (row A r) (row W) := by
  funext c
  show k0_pay3 (F := Ideal) X A W (ix2 r c) = _
  pointwise [k0_pay3]
  rfl

theorem hidden_block (X A : M 512 1024) (W : M 1024 1024) (g : M 1 1024) (r : Fin 512) :
    row (k0_pay4 (F := Ideal) X A W g) r = rms (row (k0_pay3 (F := Ideal) X A W) r) (row g 0) := by
  funext c
  show k0_pay4 (F := Ideal) X A W g (ix2 r c) = _
  pointwise [k0_pay4]
  rfl

theorem last_block (A : M 512 1024) (g : M 1 1024) (r : Fin 512) :
    row (k0_pay2 (F := Ideal) A g) r = rms (row A r) (row g 0) := by
  funext c
  show k0_pay2 (F := Ideal) A g (ix2 r c) = _
  pointwise [k0_pay2]
  rfl

/-- The step at a stretch of hidden units, from what came before it. -/
theorem step_block (H A : M 512 1024) (W : M 1024 5632) (D : M 2816 1024) (k : Fin 11) (og ou : ℕ)
    (pg : ∀ i, (![0, og] : Fin 2 → ℕ) i + (![1024, 256] : Fin 2 → ℕ) i ≤ (![1024, 5632] : Fin 2 → ℕ) i)
    (pu : ∀ i, (![0, ou] : Fin 2 → ℕ) i + (![1024, 256] : Fin 2 → ℕ) i ≤ (![1024, 5632] : Fin 2 → ℕ) i)
    (pd : ∀ i, (![og, 0] : Fin 2 → ℕ) i + (![256, 1024] : Fin 2 → ℕ) i ≤ (![2816, 1024] : Fin 2 → ℕ) i)
    (hg : og = k.val * 256) (hu : ou = 2816 + k.val * 256) (r : Fin 512) (c : Fin 1024) (h : Fin 1024 → EReal)
    (hH : row H r = h) (s : EReal) (hA : A (ix2 r c) = s) :
    k0_pay16 (F := Ideal) H (View.ld (Val := Elt Ideal) (e' := .bf16) (S := ⟨2, ![1024, 5632]⟩) W (Rect.unit ![0, og] ![1024, 256] pg)) H
        (View.ld (Val := Elt Ideal) (e' := .bf16) (S := ⟨2, ![1024, 5632]⟩) W (Rect.unit ![0, ou] ![1024, 256] pu)) A
        (View.ld (Val := Elt Ideal) (e' := .bf16) (S := ⟨2, ![2816, 1024]⟩) D (Rect.unit ![og, 0] ![256, 1024] pd)) (ix2 r c)
      = s + ∑ j : Fin 256, unit (row W) (row D) h ⟨k.val * 256 + j.val, by omega⟩ c := by
  subst hg hu hH hA
  pointwise [k0_pay16]
  refine congrArg (A (ix2 r c) + ·) (Finset.sum_congr rfl fun x _ => ?_)
  unfold unit gate
  simp only [Nat.add_assoc]

variable (H A : M 512 1024) (G U : M 1024 256) (D : M 256 1024)

/-! The eleven steps are written in several ways, each the same step. -/

theorem step_0 : k0_pay7 (F := Ideal) H (k0_pay6 G) (constant (F := Ideal) S512x256 FTy.f32 0#32) H U A D = k0_pay16 H G H U A D := by
  simp only [k0_pay7, k0_pay6, k0_pay16, shapeCast_self]
theorem step_1 : k0_pay9 (F := Ideal) (k0_pay8 H G) H U A D = k0_pay16 H G H U A D := by
  simp only [k0_pay9, k0_pay8, k0_pay16, shapeCast_self]
theorem step_2 : k0_pay13 (F := Ideal) (k0_pay10 H G) (k0_pay11 H U) (k0_pay12 H G) (FloatOps.ofBits (F := Ideal) FTy.f32 1065353216#32) A D
    = k0_pay16 H G H U A D := by
  simp only [k0_pay13, k0_pay10, k0_pay11, k0_pay12, k0_pay16, shapeCast_self]
theorem step_3 : k0_pay15 (F := Ideal) (k0_pay14 H G H U) A D = k0_pay16 H G H U A D := by
  simp only [k0_pay15, k0_pay14, k0_pay16, shapeCast_self]
theorem step_4 : k0_pay17 (F := Ideal) A = A := by
  simp only [k0_pay17, shapeCast_self]
theorem step_5 : k0_pay18 (F := Ideal) H G H U A D = k0_pay16 H G H U A D := by
  simp only [k0_pay18, k0_pay16, shapeCast_self]
theorem step_6 : k0_pay19 (F := Ideal) H G H U A D = k0_pay16 H G H U A D := by
  simp only [k0_pay19, k0_pay16, shapeCast_self]
theorem step_7 : k0_pay21 (F := Ideal) (k0_pay20 H G) H U A D = k0_pay16 H G H U A D := by
  simp only [k0_pay21, k0_pay20, k0_pay16, shapeCast_self]
theorem step_8 : k0_pay24 (F := Ideal) (k0_pay22 H G) H (k0_pay23 U) (constant (F := Ideal) S512x256 FTy.f32 0#32) A D = k0_pay16 H G H U A D := by
  simp only [k0_pay24, k0_pay22, k0_pay23, k0_pay16, shapeCast_self]
theorem step_9 : k0_pay27 (F := Ideal) (k0_pay25 H U) (k0_pay26 H G) A D = k0_pay16 H G H U A D := by
  simp only [k0_pay27, k0_pay25, k0_pay26, k0_pay16, shapeCast_self]
theorem step_10 : k0_pay1 (F := Ideal) (k0_pay28 H G H U) A (k0_pay29 D) = k0_pay16 H G H U A D := by
  simp only [k0_pay1, k0_pay28, k0_pay29, k0_pay16, shapeCast_self]
theorem start_mid (X B : M 512 1024) (W : M 1024 1024) : k0_pay5 (F := Ideal) X B W = k0_pay3 X B W := by
  simp only [k0_pay5, k0_pay3, shapeCast_self]

end Cert.FF

end
-- ==== Proof.FF.Out.lean ====
/-
  The output array of the feed-forward call: its row `r` is the row's formula over row `r` of the arguments, rows counted
  over both batches.
-/
module

public import proofs.«01_k».proof.Proof.FF.Block
public import Idealize.ShloMosaic.Lib.Tactic.CleanTypes
public import Idealize.ShloMosaic.Lib.StableHlo.ReadAt

@[expose] public section

set_option maxRecDepth 16384

noncomputable section

namespace Cert.FF

open Cert.KernelFfnIdeal Cert.KernelFfnIdeal.Gen
open Idealize.ShloMosaic Idealize.ShloMosaic.TcCoe

variable (m : (ℓ : Loc nD τ sig) → Buf (Elt Ideal) ℓ) (c : Dev nD)

/-- The arguments. -/
abbrev X0 : (⟨3, ![2, 16384, 1024]⟩ : Shape).Idx → EReal := m (c.tc.loc main_arg0)
abbrev X1 : (⟨3, ![2, 16384, 1024]⟩ : Shape).Idx → EReal := m (c.tc.loc main_arg1)
abbrev X2 : M 1024 1024 := m (c.tc.loc main_arg2)
abbrev X3 : (⟨1, ![1024]⟩ : Shape).Idx → EReal := m (c.tc.loc main_arg3)
abbrev X4 : M 1024 5632 := m (c.tc.loc main_arg4)
abbrev X5 : M 2816 1024 := m (c.tc.loc main_arg5)
abbrev X6 : (⟨1, ![1024]⟩ : Shape).Idx → EReal := m (c.tc.loc main_arg6)

/-- Row `r`, both batches' rows counted on, of an argument. -/
abbrev flat (X : (⟨3, ![2, 16384, 1024]⟩ : Shape).Idx → EReal) (r : Fin 32768) (j : Fin 1024) : EReal :=
  X (ix3 ⟨r.val / 16384, by omega⟩ ⟨r.val % 16384, by omega⟩ j)

theorem V_x (r : Fin 32768) (j : Fin 1024) : V m c main_v0 (ix2 r j) = flat (X0 m c) r j := by
  unfold V hostOps0
  simp only [List.flatten_cons, List.flatten_nil, List.append_nil, List.cons_append, List.nil_append]
  after_reads_at
  try rfl
theorem V_a (r : Fin 32768) (j : Fin 1024) : V m c main_v2 (ix2 r j) = flat (X1 m c) r j := by
  unfold V hostOps0
  simp only [List.flatten_cons, List.flatten_nil, List.append_nil, List.cons_append, List.nil_append]
  after_reads_at
  try rfl
theorem V_wo (i j : Fin 1024) : V m c main_v3 (ix2 i j) = X2 m c (ix2 i j) := by
  unfold V hostOps0
  simp only [List.flatten_cons, List.flatten_nil, List.append_nil, List.cons_append, List.nil_append]
  after_reads_at
  try rfl
theorem V_g (j : Fin 1024) : V m c main_v6 (ix2 0 j) = X3 m c (ix1 j) := by
  unfold V hostOps0
  simp only [List.flatten_cons, List.flatten_nil, List.append_nil, List.cons_append, List.nil_append]
  after_reads_at
  try rfl
theorem V_wg (i : Fin 1024) (j : Fin 5632) : V m c main_v4 (ix2 i j) = X4 m c (ix2 i j) := by
  unfold V hostOps0
  simp only [List.flatten_cons, List.flatten_nil, List.append_nil, List.cons_append, List.nil_append]
  after_reads_at
  try rfl
theorem V_wd (i : Fin 2816) (j : Fin 1024) : V m c main_v5 (ix2 i j) = X5 m c (ix2 i j) := by
  unfold V hostOps0
  simp only [List.flatten_cons, List.flatten_nil, List.append_nil, List.cons_append, List.nil_append]
  after_reads_at
  try rfl
theorem V_gf (j : Fin 1024) : V m c main_v7 (ix2 0 j) = X6 m c (ix1 j) := by
  unfold V hostOps0
  simp only [List.flatten_cons, List.flatten_nil, List.append_nil, List.cons_append, List.nil_append]
  after_reads_at
  try rfl

theorem index_x : ∀ t : Fin cfg0.N, win0_0.index t = ![t.val, 0] := by decide +kernel
theorem index_a : ∀ t : Fin cfg0.N, win0_1.index t = ![t.val, 0] := by decide +kernel
theorem index_wo : ∀ t : Fin cfg0.N, win0_2.index t = ![0, 0] := by decide +kernel
theorem index_g : ∀ t : Fin cfg0.N, win0_3.index t = ![0, 0] := by decide +kernel
theorem index_wg : ∀ t : Fin cfg0.N, win0_4.index t = ![0, 0] := by decide +kernel
theorem index_wd : ∀ t : Fin cfg0.N, win0_5.index t = ![0, 0] := by decide +kernel
theorem index_gf : ∀ t : Fin cfg0.N, win0_6.index t = ![0, 0] := by decide +kernel
theorem index_o : ∀ t : Fin cfg0.N, win0_7.index t = ![t.val, 0] := by decide +kernel

section Point

variable (t : Fin cfg0.N)

/-- The array's row of row `r` of the point's block. -/
abbrev arow (r : Fin 512) : Fin 32768 :=
  ⟨t.val * 512 + r.val, by have h : t.val < 64 := t.isLt; have := r.isLt; omega⟩

theorem blk_x (r : Fin 512) (j : Fin 1024) : iblk m c 0 t (ix2 r j) = flat (X0 m c) (arow t r) j := by
  refine Eq.trans (?_ : _ = V m c main_v0 (ix2 (arow t r) j)) (V_x m c (arow t r) j)
  blk_ext [iblk, index_x t]
  all_goals omega
theorem blk_a (r : Fin 512) (j : Fin 1024) : iblk m c 1 t (ix2 r j) = flat (X1 m c) (arow t r) j := by
  refine Eq.trans (?_ : _ = V m c main_v2 (ix2 (arow t r) j)) (V_a m c (arow t r) j)
  blk_ext [iblk, index_a t]
  all_goals omega
theorem blk_wo (i j : Fin 1024) : iblk m c 2 t (ix2 i j) = X2 m c (ix2 i j) := by
  refine Eq.trans (?_ : _ = V m c main_v3 (ix2 i j)) (V_wo m c i j)
  blk_ext [iblk, index_wo t]
theorem blk_g (j : Fin 1024) : iblk m c 3 t (ix2 0 j) = X3 m c (ix1 j) := by
  refine Eq.trans (?_ : _ = V m c main_v6 (ix2 0 j)) (V_g m c j)
  blk_ext [iblk, index_g t]
theorem blk_wg (i : Fin 1024) (j : Fin 5632) : iblk m c 4 t (ix2 i j) = X4 m c (ix2 i j) := by
  refine Eq.trans (?_ : _ = V m c main_v4 (ix2 i j)) (V_wg m c i j)
  blk_ext [iblk, index_wg t]
theorem blk_wd (i : Fin 2816) (j : Fin 1024) : iblk m c 5 t (ix2 i j) = X5 m c (ix2 i j) := by
  refine Eq.trans (?_ : _ = V m c main_v5 (ix2 i j)) (V_wd m c i j)
  blk_ext [iblk, index_wd t]
theorem blk_gf (j : Fin 1024) : iblk m c 6 t (ix2 0 j) = X6 m c (ix1 j) := by
  refine Eq.trans (?_ : _ = V m c main_v7 (ix2 0 j)) (V_gf m c j)
  blk_ext [iblk, index_gf t]

theorem outs_block (r : Fin 512) : row (a := 512) (b := 1024) (outsAt0 m c t) r
    = rowOut (row (a := 512) (b := 1024) (iblk m c 0 t) r) (row (a := 512) (b := 1024) (iblk m c 1 t) r)
        (row (a := 1024) (b := 1024) (iblk m c 2 t)) (row (a := 1) (b := 1024) (iblk m c 3 t) 0)
        (row (a := 1024) (b := 5632) (iblk m c 4 t)) (row (a := 2816) (b := 1024) (iblk m c 5 t))
        (row (a := 1) (b := 1024) (iblk m c 6 t) 0) := by
  unfold outsAt0
  frame_out
  generalize iblk m c 0 t = B0
  generalize iblk m c 1 t = B1
  generalize iblk m c 2 t = B2
  generalize iblk m c 3 t = B3
  generalize iblk m c 4 t = B4
  generalize iblk m c 5 t = B5
  generalize iblk m c 6 t = B6
  rw [last_block]
  unfold rowOut
  refine congrArg (rms · _) (funext fun j => ?_)
  show (_ : M 512 1024) (ix2 r j) = _
  rw [step_10, step_9, step_8, step_7, step_6, step_5, step_4, step_3, step_2, step_1, step_0, start_mid]
  have hH : row (k0_pay4 (F := Ideal) B0 B1 B2 B3) r = _ := hidden_block _ _ _ _ r
  rw [mid_block] at hH
  refine Eq.trans ?_ (stretches _ _ (fun k => ∑ i : Fin 256, unit (row B4) (row B5) _ ⟨k.val * 256 + i.val, by omega⟩ j)
    fun _ => rfl)
  iterate 11 refine step_block _ _ B4 B5 _ _ _ _ _ _ (by decide) (by decide) r j _ hH _ ?_
  exact congrFun (mid_block _ _ _ r) j

/-- The same over the arguments. -/
theorem outs_apply (r : Fin 512) (j : Fin 1024) : outsAt0 m c t (ix2 r j)
    = rowOut (flat (X0 m c) (arow t r)) (flat (X1 m c) (arow t r)) (row (X2 m c)) (fun j => X3 m c (ix1 j)) (row (X4 m c))
        (row (X5 m c)) (fun j => X6 m c (ix1 j)) j := by
  refine (congrFun (outs_block m c t r) j).trans ?_
  have h0 : row (a := 512) (b := 1024) (iblk m c 0 t) r = flat (X0 m c) (arow t r) := funext fun j => blk_x m c t r j
  have h1 : row (a := 512) (b := 1024) (iblk m c 1 t) r = flat (X1 m c) (arow t r) := funext fun j => blk_a m c t r j
  have h2 : row (a := 1024) (b := 1024) (iblk m c 2 t) = row (X2 m c) := funext fun i => funext fun j => blk_wo m c t i j
  have h3 : row (a := 1) (b := 1024) (iblk m c 3 t) 0 = fun j => X3 m c (ix1 j) := funext fun j => blk_g m c t j
  have h4 : row (a := 1024) (b := 5632) (iblk m c 4 t) = row (X4 m c) := funext fun i => funext fun j => blk_wg m c t i j
  have h5 : row (a := 2816) (b := 1024) (iblk m c 5 t) = row (X5 m c) := funext fun i => funext fun j => blk_wd m c t i j
  have h6 : row (a := 1) (b := 1024) (iblk m c 6 t) 0 = fun j => X6 m c (ix1 j) := funext fun j => blk_gf m c t j
  rw [h0, h1, h2, h3, h4, h5, h6]

end Point

theorem covers : (cfg0.win 7).Covers := by decide +kernel

/-- The result, laid out as the output array is. -/
def resOut (x a : (⟨3, ![2, 16384, 1024]⟩ : Shape).Idx → EReal) (wo : M 1024 1024) (g : (⟨1, ![1024]⟩ : Shape).Idx → EReal)
    (wg : M 1024 5632) (wd : M 2816 1024) (gf : (⟨1, ![1024]⟩ : Shape).Idx → EReal) : M 32768 1024 := fun y =>
  rowOut (flat x (y 0)) (flat a (y 0)) (row wo) (fun j => g (ix1 j)) (row wg) (row wd) (fun j => gf (ix1 j)) (y 1)

theorem resOut_at (x a : (⟨3, ![2, 16384, 1024]⟩ : Shape).Idx → EReal) (wo : M 1024 1024) (g : (⟨1, ![1024]⟩ : Shape).Idx → EReal)
    (wg : M 1024 5632) (wd : M 2816 1024) (gf : (⟨1, ![1024]⟩ : Shape).Idx → EReal) (y : (⟨2, ![32768, 1024]⟩ : Shape).Idx)
    {r : Fin 32768} {j : Fin 1024} (h0 : (y 0).val = r.val) (h1 : (y 1).val = j.val) : resOut x a wo g wg wd gf y
      = rowOut (flat x r) (flat a r) (row wo) (fun j => g (ix1 j)) (row wg) (row wd) (fun j => gf (ix1 j)) j := by
  obtain rfl : y 0 = r := Fin.ext h0
  obtain rfl : y 1 = j := Fin.ext h1
  rfl

/-- The output array after the run. -/
theorem out_eq : (dats m 0 c).arrAt 7 cfg0.N = resOut (X0 m c) (X1 m c) (X2 m c) (X3 m c) (X4 m c) (X5 m c) (X6 m c) := by
  refine (dats m 0 c).arrAt_eq_of_covers 7 _ covers fun t hf y => ?_
  blk_simp
  rw [after0_7]
  idx_vars y
  rw [outs_apply]
  refine (resOut_at _ _ _ _ _ _ _ _ ?_ ?_).symm
  · blk_simp [index_o t]
    try (show _ = t.val * 512 + y0.val; omega)
  · blk_simp [index_o t]
    try omega

end Cert.FF

end
-- ==== Proof.FF.Ref.lean ====
/-
  The reference's result at an index is the row's formula over the row of its arguments.
-/
module

public import proofs.«01_k».proof.Proof.Gen.ReferenceFfnIdeal.Run
public import proofs.«01_k».proof.Proof.FF.Pure
public import Idealize.ShloMosaic.Lib.Tactic.CleanTypes

@[expose] public section

set_option maxRecDepth 16384

noncomputable section

namespace Cert.FFRef

open Cert.ReferenceFfnIdeal
open Idealize.ShloMosaic Idealize.ShloMosaic.TcCoe Cert.FF

variable (m : (ℓ : Loc nD τ sig) → Buf (Elt Ideal) ℓ) (c : Dev nD)

/-- The arguments. -/
abbrev X0 : (⟨3, ![2, 16384, 1024]⟩ : Shape).Idx → EReal := m (c.tc.loc main_arg0)
abbrev X1 : (⟨3, ![2, 16384, 1024]⟩ : Shape).Idx → EReal := m (c.tc.loc main_arg1)
abbrev X2 : (⟨2, ![1024, 1024]⟩ : Shape).Idx → EReal := m (c.tc.loc main_arg2)
abbrev X3 : (⟨1, ![1024]⟩ : Shape).Idx → EReal := m (c.tc.loc main_arg3)
abbrev X4 : (⟨2, ![1024, 5632]⟩ : Shape).Idx → EReal := m (c.tc.loc main_arg4)
abbrev X5 : (⟨2, ![2816, 1024]⟩ : Shape).Idx → EReal := m (c.tc.loc main_arg5)
abbrev X6 : (⟨1, ![1024]⟩ : Shape).Idx → EReal := m (c.tc.loc main_arg6)

theorem ref_apply (r : Fin 32768) (k : Fin 1024) :
    Value.res_main_v35 m c (ix2 r k)
      = rowOut (fun j => X0 m c (ix3 ⟨r.val / 16384, by omega⟩ ⟨r.val % 16384, by omega⟩ j))
          (fun j => X1 m c (ix3 ⟨r.val / 16384, by omega⟩ ⟨r.val % 16384, by omega⟩ j)) (fun i j => X2 m c (ix2 i j))
          (fun j => X3 m c (ix1 j)) (fun i j => X4 m c (ix2 i j)) (fun i j => X5 m c (ix2 i j)) (fun j => X6 m c (ix1 j)) k := by
  unfold Value.res_main_v35
  clean_types
  pointwise
  simp only [gate_eq]
  rfl

end Cert.FFRef

end
-- ==== Proof.FF.Equation.lean ====
/-
  The equation of the feed-forward call: both results are the row's formula over the row of the arguments.
-/
module

public import proofs.«01_k».proof.Proof.FF.Out
public import proofs.«01_k».proof.Proof.FF.Ref

@[expose] public section

noncomputable section

namespace Cert.FFEq

open Idealize.ShloMosaic Idealize.ShloMosaic.TcCoe Cert.FF

/-- The reference's result, over its arguments. -/
theorem ref_out (m : (ℓ : Loc Cert.ReferenceFfnIdeal.nD Cert.ReferenceFfnIdeal.τ Cert.ReferenceFfnIdeal.sig) → Buf (Elt Ideal) ℓ)
    (c : Dev Cert.ReferenceFfnIdeal.nD) : Cert.ReferenceFfnIdeal.Value.res_main_v35 m c
      = resOut (Cert.FFRef.X0 m c) (Cert.FFRef.X1 m c) (Cert.FFRef.X2 m c) (Cert.FFRef.X3 m c) (Cert.FFRef.X4 m c)
          (Cert.FFRef.X5 m c) (Cert.FFRef.X6 m c) := by
  have h : ∀ y : (⟨2, ![32768, 1024]⟩ : Shape).Idx, Cert.ReferenceFfnIdeal.Value.res_main_v35 m c y
      = resOut (Cert.FFRef.X0 m c) (Cert.FFRef.X1 m c) (Cert.FFRef.X2 m c) (Cert.FFRef.X3 m c) (Cert.FFRef.X4 m c)
          (Cert.FFRef.X5 m c) (Cert.FFRef.X6 m c) y := by
    intro y
    idx_vars y
    exact Cert.FFRef.ref_apply m c y0 y1
  exact funext h

end Cert.FFEq

end
-- ==== Proof.QK.Pure.lean ====
/-
  One lane of the projected row, as a formula of extended reals: the normalised row against a column of the weights; and
  the scale of the queries as one factor or as a divisor.
-/
module

public import proofs.«01_k».proof.Proof.FF.Pure
public import Idealize.ShloMosaic.Lib.Pointwise

@[expose] public section

noncomputable section

namespace Cert.QK

open Idealize.ShloMosaic

/-- A column of the projection of a normalised row. -/
def lane (x g : Fin 1024 → EReal) (w : Fin 1024 → Fin 3072 → EReal) (col : Fin 3072) : EReal :=
  ∑ d, Cert.FF.rms x g d * w d col

/-- A block or matrix of extended reals. -/
abbrev M (a b : ℕ) : Type := (⟨2, ![a, b]⟩ : Shape).Idx → EReal

/-- Row `r` of a matrix, and a matrix as a function of its two indices. -/
abbrev row {a b : ℕ} (X : M a b) (r : Fin a) (c : Fin b) : EReal := X (ix2 r c)

/-- Row `r`, rows counted over the batch, of an array of `b` times `s` rows. -/
abbrev rowsOf {n b s : ℕ} (hn : n = b * s) (X : (⟨3, ![b, s, 1024]⟩ : Shape).Idx → EReal) (r : Fin n) (j : Fin 1024) : EReal :=
  X (ix3 ⟨r.val / s, Nat.div_lt_of_lt_mul (lt_of_lt_of_eq r.isLt (hn.trans (Nat.mul_comm b s)))⟩
    ⟨r.val % s, Nat.mod_lt _ (Nat.pos_of_ne_zero fun h0 => absurd (lt_of_lt_of_eq r.isLt hn) (by simp [h0]))⟩ j)

/-- Column `j` of part `p` of the weights: the queries', the keys' or the values'. -/
abbrev col (p : Fin 3) (j : Fin 1024) : Fin 3072 := ⟨p.val * 1024 + j.val, by omega⟩

/-- A part of the projection, a row per row of the input. -/
def part {n : ℕ} (p : Fin 3) (x : Fin n → Fin 1024 → EReal) (g : Fin 1024 → EReal) (w : Fin 1024 → Fin 3072 → EReal)
    (r : Fin n) (j : Fin 1024) : EReal := lane (x r) g w (col p j)

/-- A lane at a column written in another way. -/
theorem part_of {n : ℕ} (p : Fin 3) (x : Fin n → Fin 1024 → EReal) (g : Fin 1024 → EReal) (w : Fin 1024 → Fin 3072 → EReal)
    (r : Fin n) (j : Fin 1024) (k : Fin 3072) (h : k.val = p.val * 1024 + j.val) : lane (x r) g w k = part p x g w r j :=
  congrArg (lane (x r) g w) (Fin.ext h)

/-- Each stretch of 128 lanes followed by 128 ones. -/
def withOnes {n : ℕ} (f : Fin n → Fin 1024 → EReal) (r : Fin n) (j : Fin 2048) : EReal :=
  if j.val % 256 < 128 then f r ⟨j.val / 256 * 128 + j.val % 128, by omega⟩ else 1

theorem withOnes_lane {n : ℕ} (f : Fin n → Fin 1024 → EReal) (r r' : Fin n) (j : Fin 2048) (k : Fin 1024) (hr : r.val = r'.val)
    (h : j.val % 256 < 128) (hk : k.val = j.val / 256 * 128 + j.val % 128) : withOnes f r j = f r' k := by
  obtain rfl : r = r' := Fin.ext hr
  unfold withOnes
  rw [if_pos h]
  exact congrArg (f r) (Fin.ext hk.symm)
theorem withOnes_one {n : ℕ} (f : Fin n → Fin 1024 → EReal) (r : Fin n) (j : Fin 2048) (h : 128 ≤ j.val % 256) :
    withOnes f r j = 1 := by
  unfold withOnes
  rw [if_neg (by omega)]

theorem withOnes_of {n : ℕ} (f : Fin n → Fin 1024 → EReal) (r : Fin n) (j : Fin 2048) (e : j.val % 256 < 128 → EReal)
    (he : ∀ h, e h = f r ⟨j.val / 256 * 128 + j.val % 128, by omega⟩) :
    (if h : j.val % 256 < 128 then e h else 1) = withOnes f r j := by
  unfold withOnes
  split
  · exact he _
  · rfl

/-- A function of row and lane as an array. -/
def arr {n k : ℕ} (f : Fin n → Fin k → EReal) : M n k := fun y => f (y 0) (y 1)

theorem arr_at {n k : ℕ} (f : Fin n → Fin k → EReal) (y : (⟨2, ![n, k]⟩ : Shape).Idx) {r : Fin n} {j : Fin k}
    (h0 : (y 0).val = r.val) (h1 : (y 1).val = j.val) : arr f y = f r j := by
  obtain rfl : y 0 = r := Fin.ext h0
  obtain rfl : y 1 = j := Fin.ext h1
  rfl

/-- The scale of the queries at head width `n`: one over its root, over the logarithm of two. -/
def scale (n : ℝ) : EReal := ((Real.sqrt n)⁻¹ * (Real.log 2)⁻¹ : ℝ)

theorem bits_two : Ideal.ofBits .f32 0x40000000#32 = ((2 : ℝ) : EReal) := by
  unfold Ideal.ofBits Ideal.ieee
  simp only [BitVec.toNat_ofNat]
  rw [show BitVec.extractLsb' 31 1 (0x40000000#32 : BitVec 32) = 0#1 from by decide]
  norm_num [Nat.shiftRight_eq_div_pow]
theorem bits_128 : Ideal.ofBits .f32 0x43000000#32 = ((128 : ℝ) : EReal) := by
  unfold Ideal.ofBits Ideal.ieee
  simp only [BitVec.toNat_ofNat]
  rw [show BitVec.extractLsb' 31 1 (0x43000000#32 : BitVec 32) = 0#1 from by decide]
  norm_num [Nat.shiftRight_eq_div_pow]
theorem bits_64 : Ideal.ofBits .f32 0x42800000#32 = ((64 : ℝ) : EReal) := by
  unfold Ideal.ofBits Ideal.ieee
  simp only [BitVec.toNat_ofNat]
  rw [show BitVec.extractLsb' 31 1 (0x42800000#32 : BitVec 32) = 0#1 from by decide]
  norm_num [Nat.shiftRight_eq_div_pow]

/-- The queries' part, scaled. -/
def queries {n : ℕ} (k : ℝ) (x : Fin n → Fin 1024 → EReal) (g : Fin 1024 → EReal) (w : Fin 1024 → Fin 3072 → EReal)
    (r : Fin n) (j : Fin 1024) : EReal := part 0 x g w r j * scale k

/-- Dividing by the root times the logarithm is multiplying by the scale. -/
theorem div_scale (n : ℝ) (hn : 0 < n) (z : EReal) :
    Ideal.div z (Ideal.sqrt (n : EReal) * Ideal.log (Ideal.ofBits .f32 0x40000000#32)) = z * scale n := by
  have h2 : (0 : ℝ) < Real.log 2 := Real.log_pos (by norm_num)
  have hs : (0 : ℝ) < Real.sqrt n := Real.sqrt_pos.mpr hn
  have e : Ideal.sqrt (n : EReal) * Ideal.log (Ideal.ofBits .f32 0x40000000#32) = ((Real.sqrt n * Real.log 2 : ℝ) : EReal) := by
    rw [bits_two, Ideal.sqrt_coe, if_neg (not_lt.mpr hn.le), Ideal.log_coe, if_neg (by norm_num), ← EReal.coe_mul]
  rw [e, Ideal.div_coe (mul_pos hs h2).ne']
  unfold scale
  rw [one_div, mul_inv]

/-- A lane of the first part over the scores' divisor is the query lane. -/
theorem queries_128 {n : ℕ} (x : Fin n → Fin 1024 → EReal) (g : Fin 1024 → EReal) (w : Fin 1024 → Fin 3072 → EReal)
    (r : Fin n) (j : Fin 1024) (k : Fin 3072) (h : k.val = j.val) :
    Ideal.div (lane (x r) g w k)
      (Ideal.sqrt (Ideal.ofBits .f32 0x43000000#32) * Ideal.log (Ideal.ofBits .f32 0x40000000#32))
    = queries 128 x g w r j := by
  rw [bits_128, div_scale 128 (by norm_num), part_of 0 x g w r j k (by simp [h])]
  rfl
theorem queries_64 {n : ℕ} (x : Fin n → Fin 1024 → EReal) (g : Fin 1024 → EReal) (w : Fin 1024 → Fin 3072 → EReal)
    (r : Fin n) (j : Fin 1024) (k : Fin 3072) (h : k.val = j.val) :
    Ideal.div (lane (x r) g w k)
      (Ideal.sqrt (Ideal.ofBits .f32 0x42800000#32) * Ideal.log (Ideal.ofBits .f32 0x40000000#32))
    = queries 64 x g w r j := by
  rw [bits_64, div_scale 64 (by norm_num), part_of 0 x g w r j k (by simp [h])]
  rfl

end Cert.QK

end
-- ==== Proof.QK.Block.lean ====
/-
  What one grid point of the projection call writes: each lane of each row of its blocks is the lane's formula over the
  row of the input blocks.
-/
module

public import proofs.«01_k».proof.Proof.Gen.KernelQkvIdeal.Value
public import proofs.«01_k».proof.Proof.QK.Pure

@[expose] public section

set_option maxRecDepth 16384

noncomputable section

namespace Cert.QK

open Cert.KernelQkvIdeal Cert.KernelQkvIdeal.Gen
open Idealize.ShloMosaic Idealize.ShloMosaic.TcCoe

variable (m : (ℓ : Loc nD τ sig) → Buf (Elt Ideal) ℓ) (c : Dev nD) (t : Fin cfg0.N)

theorem out_q (r : Fin 512) (j : Fin 1024) : (outsAt0 m c t).1 (ix2 r j)
    = lane (row (a := 512) (b := 1024) (iblk m c 0 t) r) (row (a := 1) (b := 1024) (iblk m c 1 t) 0)
        (row (a := 1024) (b := 3072) (iblk m c 2 t)) ⟨j.val, by omega⟩ * scale 128 := by
  unfold outsAt0
  frame_out
  generalize iblk m c 0 t = B0
  generalize iblk m c 1 t = B1
  generalize iblk m c 2 t = B2
  pointwise [k0_pay5, k0_pay4]
  rfl

theorem out_k (r : Fin 512) (h : Fin 8) (j : Fin 128) : (outsAt0 m c t).2.1 (ix4 0 r h j)
    = lane (row (a := 512) (b := 1024) (iblk m c 0 t) r) (row (a := 1) (b := 1024) (iblk m c 1 t) 0)
        (row (a := 1024) (b := 3072) (iblk m c 2 t)) ⟨1024 + (h.val * 128 + j.val), by omega⟩ := by
  unfold outsAt0
  frame_out
  generalize iblk m c 0 t = B0
  generalize iblk m c 1 t = B1
  generalize iblk m c 2 t = B2
  pointwise [k0_pay1, k0_pay9, k0_pay6, k0_pay4]
  rfl

theorem out_v (r : Fin 512) (h : Fin 8) (j : Fin 128) : (outsAt0 m c t).2.2.1 (ix4 0 r h j)
    = lane (row (a := 512) (b := 1024) (iblk m c 0 t) r) (row (a := 1) (b := 1024) (iblk m c 1 t) 0)
        (row (a := 1024) (b := 3072) (iblk m c 2 t)) ⟨2048 + (h.val * 128 + j.val), by omega⟩ := by
  unfold outsAt0
  frame_out
  generalize iblk m c 0 t = B0
  generalize iblk m c 1 t = B1
  generalize iblk m c 2 t = B2
  pointwise [k0_pay2, k0_pay8, k0_pay4]
  rfl

theorem out_kb (r : Fin 512) (j : Fin 1024) : (outsAt0 m c t).2.2.2.1 (ix2 r j)
    = lane (row (a := 512) (b := 1024) (iblk m c 0 t) r) (row (a := 1) (b := 1024) (iblk m c 1 t) 0)
        (row (a := 1024) (b := 3072) (iblk m c 2 t)) ⟨1024 + j.val, by omega⟩ := by
  unfold outsAt0
  frame_out
  generalize iblk m c 0 t = B0
  generalize iblk m c 1 t = B1
  generalize iblk m c 2 t = B2
  pointwise [k0_pay7, k0_pay6, k0_pay4]
  rfl

theorem out_vb (r : Fin 512) (j : Fin 1024) : (outsAt0 m c t).2.2.2.2 (ix2 r j)
    = lane (row (a := 512) (b := 1024) (iblk m c 0 t) r) (row (a := 1) (b := 1024) (iblk m c 1 t) 0)
        (row (a := 1024) (b := 3072) (iblk m c 2 t)) ⟨2048 + j.val, by omega⟩ := by
  unfold outsAt0
  frame_out
  generalize iblk m c 0 t = B0
  generalize iblk m c 1 t = B1
  generalize iblk m c 2 t = B2
  pointwise [k0_pay3, k0_pay8, k0_pay4]
  rfl

end Cert.QK

end
-- ==== Proof.QK.Stack.lean ====
/-
  A stack of two layers' keys or values, the second of which a part of the projection fills.
-/
module

public import proofs.«01_k».proof.Proof.QK.Pure

@[expose] public section

noncomputable section

namespace Cert.QK

open Idealize.ShloMosaic

/-- A stack whose second slot holds a part of the projection, its lanes head by head. -/
def stack (f : Fin 32768 → Fin 1024 → EReal) (buf : (⟨4, ![2, 32768, 8, 128]⟩ : Shape).Idx → EReal) :
    (⟨4, ![2, 32768, 8, 128]⟩ : Shape).Idx → EReal := fun y =>
  if (y 0).val = 1 then f (y 1) ⟨(y 2).val * 128 + (y 3).val, by have h := (y 2).isLt; have := (y 3).isLt; simp at *; omega⟩
  else buf y

theorem stack_at (f : Fin 32768 → Fin 1024 → EReal) (buf : (⟨4, ![2, 32768, 8, 128]⟩ : Shape).Idx → EReal)
    (y : (⟨4, ![2, 32768, 8, 128]⟩ : Shape).Idx) {r : Fin 32768} {j : Fin 1024} (ha : (y 0).val = 1)
    (h0 : (y 1).val = r.val) (h1 : (y 2).val * 128 + (y 3).val = j.val) : stack f buf y = f r j := by
  unfold stack
  rw [if_pos ha]
  obtain rfl : y 1 = r := Fin.ext h0
  exact congrArg (f (y 1)) (Fin.ext h1)

/-- A choice by the slot is the stack. -/
theorem stack_of (f : Fin 32768 → Fin 1024 → EReal) (buf : (⟨4, ![2, 32768, 8, 128]⟩ : Shape).Idx → EReal)
    (a : Fin 2) (r : Fin 32768) (h : Fin 8) (j : Fin 128) (e0 e1 : EReal) (h0 : e0 = buf (ix4 0 r h j))
    (h1 : e1 = f r ⟨h.val * 128 + j.val, by omega⟩) : (if _h : a.val < 1 then e0 else e1) = stack f buf (ix4 a r h j) := by
  unfold stack
  split
  · obtain rfl : a = 0 := Fin.ext (by simp; omega)
    exact h0
  · obtain rfl : a = 1 := Fin.ext (by simp; omega)
    exact h1

end Cert.QK

end
-- ==== Proof.QK.Out.lean ====
/-
  The output arrays of the projection call: a row of queries, keys or values per row of the input, rows counted over both
  batches; and the two stacks, whose second slot holds the rows and whose first is what the given stack held.
-/
module

public import proofs.«01_k».proof.Proof.QK.Block
public import proofs.«01_k».proof.Proof.QK.Stack
public import Idealize.ShloMosaic.Lib.Tactic.CleanTypes
public import Idealize.ShloMosaic.Lib.StableHlo.ReadAt

@[expose] public section

set_option maxRecDepth 16384

noncomputable section

namespace Cert.QK

open Cert.KernelQkvIdeal Cert.KernelQkvIdeal.Gen
open Idealize.ShloMosaic Idealize.ShloMosaic.TcCoe

variable (m : (ℓ : Loc nD τ sig) → Buf (Elt Ideal) ℓ) (c : Dev nD)

/-- The arguments: the rows of the input, the gains, the weights, and the stacks as given. -/
abbrev x (r : Fin 32768) : Fin 1024 → EReal :=
  rowsOf (n := 32768) (b := 2) (s := 16384) rfl (m (c.tc.loc main_arg0)) r
abbrev g (j : Fin 1024) : EReal := (m (c.tc.loc main_arg1) : (⟨1, ![1024]⟩ : Shape).Idx → EReal) (ix1 j)
abbrev w : Fin 1024 → Fin 3072 → EReal := row (m (c.tc.loc main_arg2) : M 1024 3072)
abbrev kbuf : (⟨4, ![2, 32768, 8, 128]⟩ : Shape).Idx → EReal := m (c.tc.loc main_arg3)
abbrev vbuf : (⟨4, ![2, 32768, 8, 128]⟩ : Shape).Idx → EReal := m (c.tc.loc main_arg4)

theorem V_x (r : Fin 32768) (j : Fin 1024) : V m c main_v0 (ix2 r j) = x m c r j := by
  unfold V hostOps0
  simp only [List.flatten_cons, List.flatten_nil, List.append_nil, List.cons_append, List.nil_append]
  after_reads_at
  try rfl
theorem V_g (j : Fin 1024) : V m c main_v2 (ix2 0 j) = g m c j := by
  unfold V hostOps0
  simp only [List.flatten_cons, List.flatten_nil, List.append_nil, List.cons_append, List.nil_append]
  after_reads_at
  try rfl
theorem V_w (i : Fin 1024) (j : Fin 3072) : V m c main_v1 (ix2 i j) = w m c i j := by
  unfold V hostOps0
  simp only [List.flatten_cons, List.flatten_nil, List.append_nil, List.cons_append, List.nil_append]
  after_reads_at
  try rfl
theorem V_k (a : Fin 2) (r : Fin 32768) (h : Fin 8) (j : Fin 128) : V m c main_v3_1 (ix4 a r h j) = kbuf m c (ix4 a r h j) := by
  unfold V hostOps0
  simp only [List.flatten_cons, List.flatten_nil, List.append_nil, List.cons_append, List.nil_append]
  after_reads_at
  try rfl
theorem V_v (a : Fin 2) (r : Fin 32768) (h : Fin 8) (j : Fin 128) : V m c main_v3_2 (ix4 a r h j) = vbuf m c (ix4 a r h j) := by
  unfold V hostOps0
  simp only [List.flatten_cons, List.flatten_nil, List.append_nil, List.cons_append, List.nil_append]
  after_reads_at
  try rfl

theorem index_x : ∀ t : Fin cfg0.N, win0_0.index t = ![t.val, 0] := by decide +kernel
theorem index_g : ∀ t : Fin cfg0.N, win0_1.index t = ![0, 0] := by decide +kernel
theorem index_w : ∀ t : Fin cfg0.N, win0_2.index t = ![0, 0] := by decide +kernel
theorem index_q : ∀ t : Fin cfg0.N, win0_3.index t = ![t.val, 0] := by decide +kernel
theorem index_k : ∀ t : Fin cfg0.N, win0_4.index t = ![1, t.val, 0, 0] := by decide +kernel
theorem index_v : ∀ t : Fin cfg0.N, win0_5.index t = ![1, t.val, 0, 0] := by decide +kernel
theorem index_kb : ∀ t : Fin cfg0.N, win0_6.index t = ![t.val, 0] := by decide +kernel
theorem index_vb : ∀ t : Fin cfg0.N, win0_7.index t = ![t.val, 0] := by decide +kernel

section Point

variable (t : Fin cfg0.N)

/-- The array's row of row `r` of the point's block. -/
abbrev arow (r : Fin 512) : Fin 32768 :=
  ⟨t.val * 512 + r.val, by have h : t.val < 64 := t.isLt; have := r.isLt; omega⟩

theorem blk_x (r : Fin 512) (j : Fin 1024) : iblk m c 0 t (ix2 r j) = x m c (arow t r) j := by
  refine Eq.trans (?_ : _ = V m c main_v0 (ix2 (arow t r) j)) (V_x m c (arow t r) j)
  blk_ext [iblk, index_x t]
  all_goals omega
theorem blk_g (j : Fin 1024) : iblk m c 1 t (ix2 0 j) = g m c j := by
  refine Eq.trans (?_ : _ = V m c main_v2 (ix2 0 j)) (V_g m c j)
  blk_ext [iblk, index_g t]
theorem blk_w (i : Fin 1024) (j : Fin 3072) : iblk m c 2 t (ix2 i j) = w m c i j := by
  refine Eq.trans (?_ : _ = V m c main_v1 (ix2 i j)) (V_w m c i j)
  blk_ext [iblk, index_w t]

/-- A lane over the point's blocks is the lane over the arguments. -/
theorem lane_blk (r : Fin 512) (p : Fin 3) (j : Fin 1024) :
    lane (row (a := 512) (b := 1024) (iblk m c 0 t) r) (row (a := 1) (b := 1024) (iblk m c 1 t) 0)
        (row (a := 1024) (b := 3072) (iblk m c 2 t)) (col p j) = part p (x m c) (g m c) (w m c) (arow t r) j := by
  have h0 : row (a := 512) (b := 1024) (iblk m c 0 t) r = x m c (arow t r) := funext fun j => blk_x m c t r j
  have h1 : row (a := 1) (b := 1024) (iblk m c 1 t) 0 = g m c := funext fun j => blk_g m c t j
  have h2 : row (a := 1024) (b := 3072) (iblk m c 2 t) = w m c := funext fun i => funext fun j => blk_w m c t i j
  rw [h0, h1, h2]
  rfl

end Point

theorem covers_q : (cfg0.win 3).Covers := by decide +kernel
theorem covers_kb : (cfg0.win 6).Covers := by decide +kernel
theorem covers_vb : (cfg0.win 7).Covers := by decide +kernel
theorem covers_k : (cfg0.win 4).CoversWhere (fun β => β (0 : Fin 4) = 1) := by decide +kernel
theorem covers_v : (cfg0.win 5).CoversWhere (fun β => β (0 : Fin 4) = 1) := by decide +kernel

theorem out_q_arg (t : Fin cfg0.N) (r : Fin 512) (j : Fin 1024) :
    (outsAt0 m c t).1 (ix2 r j) = queries 128 (x m c) (g m c) (w m c) (arow t r) j := by
  unfold queries
  rw [out_q, ← lane_blk m c t r 0 j]
  have e : (⟨j.val, by omega⟩ : Fin 3072) = col 0 j := Fin.ext (by simp)
  rw [e]

theorem q_eq : (dats m 0 c).arrAt 3 cfg0.N = arr (queries 128 (x m c) (g m c) (w m c)) := by
  refine (dats m 0 c).arrAt_eq_of_covers 3 _ covers_q fun t hf y => ?_
  blk_simp
  rw [after0_3]
  idx_vars y
  refine (out_q_arg m c t y0 y1).trans (arr_at _ _ ?_ ?_).symm
  · blk_simp [index_q t]
    try (show _ = t.val * 512 + y0.val; omega)
  · blk_simp [index_q t]
    try omega

theorem kb_eq : (dats m 0 c).arrAt 6 cfg0.N = arr (part 1 (x m c) (g m c) (w m c)) := by
  refine (dats m 0 c).arrAt_eq_of_covers 6 _ covers_kb fun t hf y => ?_
  blk_simp
  rw [after0_6]
  idx_vars y
  refine (out_kb m c t y0 y1).trans ((lane_blk m c t y0 1 y1).trans (arr_at _ _ ?_ ?_).symm)
  · blk_simp [index_kb t]
    try (show _ = t.val * 512 + y0.val; omega)
  · blk_simp [index_kb t]
    try omega

theorem vb_eq : (dats m 0 c).arrAt 7 cfg0.N = arr (part 2 (x m c) (g m c) (w m c)) := by
  refine (dats m 0 c).arrAt_eq_of_covers 7 _ covers_vb fun t hf y => ?_
  blk_simp
  rw [after0_7]
  idx_vars y
  refine (out_vb m c t y0 y1).trans ((lane_blk m c t y0 2 y1).trans (arr_at _ _ ?_ ?_).symm)
  · blk_simp [index_vb t]
    try (show _ = t.val * 512 + y0.val; omega)
  · blk_simp [index_vb t]
    try omega

theorem k_eq : (dats m 0 c).arrAt 4 cfg0.N = stack (part 1 (x m c) (g m c) (w m c)) (kbuf m c) := by
  refine (dats m 0 c).arrAt_eq_of_coversWhere_of_agree 4 _ (fun β => β (0 : Fin 4) = 1) covers_k (fun t hf y => ?_) (fun y hq => ?_)
  · blk_simp
    rw [after0_4]
    idx_vars y
    obtain rfl : y0 = 0 := Subsingleton.elim _ _
    refine (out_k m c t y1 y2 y3).trans ((lane_blk m c t y1 1 ⟨y2.val * 128 + y3.val, by omega⟩).trans (stack_at _ _ _ ?_ ?_ ?_).symm)
    · blk_simp [index_k t]
      rfl
    · blk_simp [index_k t]
      try (show _ = t.val * 512 + y1.val; omega)
    · blk_simp [index_k t]
  · rw [A_eq]
    idx_vars y
    have h : ¬y0.val = 1 := fun h => hq (by blk_simp [Pipeline.Window.cell_apply]; omega)
    refine (V_k m c y0 y1 y2 y3).trans ?_
    exact (if_neg h).symm

theorem v_eq : (dats m 0 c).arrAt 5 cfg0.N = stack (part 2 (x m c) (g m c) (w m c)) (vbuf m c) := by
  refine (dats m 0 c).arrAt_eq_of_coversWhere_of_agree 5 _ (fun β => β (0 : Fin 4) = 1) covers_v (fun t hf y => ?_) (fun y hq => ?_)
  · blk_simp
    rw [after0_5]
    idx_vars y
    obtain rfl : y0 = 0 := Subsingleton.elim _ _
    refine (out_v m c t y1 y2 y3).trans ((lane_blk m c t y1 2 ⟨y2.val * 128 + y3.val, by omega⟩).trans (stack_at _ _ _ ?_ ?_ ?_).symm)
    · blk_simp [index_v t]
      rfl
    · blk_simp [index_v t]
      try (show _ = t.val * 512 + y1.val; omega)
    · blk_simp [index_v t]
  · rw [A_eq]
    idx_vars y
    have h : ¬y0.val = 1 := fun h => hq (by blk_simp [Pipeline.Window.cell_apply]; omega)
    refine (V_v m c y0 y1 y2 y3).trans ?_
    exact (if_neg h).symm

end Cert.QK

end
-- ==== Proof.QK.Ref.lean ====
/-
  The projection's reference: each of its results at an index is the lane's formula over the row of its arguments.
-/
module

public import proofs.«01_k».proof.Proof.Gen.ReferenceQkvIdeal.Run
public import proofs.«01_k».proof.Proof.QK.Stack
public import Idealize.ShloMosaic.Lib.Tactic.CleanTypes

@[expose] public section

set_option maxRecDepth 16384

noncomputable section

namespace Cert.QKRef

open Cert.ReferenceQkvIdeal
open Idealize.ShloMosaic Idealize.ShloMosaic.TcCoe Idealize.SL.Sem Cert.QK

variable (m : (ℓ : Loc nD τ sig) → Buf (Elt Ideal) ℓ) (ρ : Dev nD → PrngReg) (c : Dev nD)

/-- The arguments. -/
abbrev x (r : Fin 32768) : Fin 1024 → EReal :=
  rowsOf (n := 32768) (b := 2) (s := 16384) rfl (m (c.tc.loc main_arg0)) r
abbrev g (j : Fin 1024) : EReal := (m (c.tc.loc main_arg1) : (⟨1, ![1024]⟩ : Shape).Idx → EReal) (ix1 j)
abbrev w : Fin 1024 → Fin 3072 → EReal := row (m (c.tc.loc main_arg2) : M 1024 3072)
abbrev kbuf : (⟨4, ![2, 32768, 8, 128]⟩ : Shape).Idx → EReal := m (c.tc.loc main_arg3)
abbrev vbuf : (⟨4, ![2, 32768, 8, 128]⟩ : Shape).Idx → EReal := m (c.tc.loc main_arg4)

/-- The run's results, over the arguments. -/
theorem run : θ_run defs (onTc (τ := τ) (main (F := Ideal))) ⟨m, fun _ => 0, ρ⟩ fun r => ∀ c : Dev nD,
      r.2.mem (c.tc.loc main_v27) = arr (queries 128 (x m c) (g m c) (w m c))
      ∧ r.2.mem (c.tc.loc main_v33) = stack (part 1 (x m c) (g m c) (w m c)) (kbuf m c)
      ∧ r.2.mem (c.tc.loc main_v39) = stack (part 2 (x m c) (g m c) (w m c)) (vbuf m c)
      ∧ r.2.mem (c.tc.loc main_v41) = arr (part 1 (x m c) (g m c) (w m c))
      ∧ r.2.mem (c.tc.loc main_v43) = arr (part 2 (x m c) (g m c) (w m c))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) := by
  refine (θ_run defs _ _).mono (fun r h c => ?_) (Value.run m ρ)
  obtain ⟨h0, h1, h2, h3, h4, h5⟩ := h c
  refine ⟨h0.trans ?_, h1.trans ?_, h2.trans ?_, h3.trans ?_, h4.trans ?_, h5⟩
  all_goals clear h0 h1 h2 h3 h4 h5 h r
  all_goals
    funext y
    idx_vars y
    clean_types
    pointwise
  · refine queries_128 (x m c) (g m c) (w m c) y0 y1 _ ?_
    simp
    omega
  · refine stack_of (part 1 (x m c) (g m c) (w m c)) (kbuf m c) y0 y1 y2 y3 _ _ rfl ?_
    refine part_of 1 (x m c) (g m c) (w m c) y1 _ _ ?_
    simp
    omega
  · refine stack_of (part 2 (x m c) (g m c) (w m c)) (vbuf m c) y0 y1 y2 y3 _ _ rfl ?_
    refine part_of 2 (x m c) (g m c) (w m c) y1 _ _ ?_
    simp
    omega
  · refine part_of 1 (x m c) (g m c) (w m c) y0 y1 _ ?_
    simp
    omega
  · refine part_of 2 (x m c) (g m c) (w m c) y0 y1 _ ?_
    simp
    omega

end Cert.QKRef

end
-- ==== Proof.BD.Block.lean ====
/-
  What one grid point of the band layer's projection call writes: each lane of each row of its blocks is the lane's formula over the
  row of the input blocks.
-/
module

public import proofs.«01_k».proof.Proof.Gen.KernelBandQkvIdeal.Value
public import proofs.«01_k».proof.Proof.QK.Pure

@[expose] public section

set_option maxRecDepth 16384

noncomputable section

namespace Cert.BD

open Cert.KernelBandQkvIdeal Cert.KernelBandQkvIdeal.Gen
open Idealize.ShloMosaic Idealize.ShloMosaic.TcCoe Cert.QK

variable (B0 : Vec Ideal S512x1024 .f32) (B1 : Vec Ideal S1x1024 .f32) (B2 : Vec Ideal S1024x3072 .bf16)

theorem out_q (r : Fin 512) (j : Fin 1024) : out0_3 B0 B1 B2 (ix2 r j)
    = lane (row (a := 512) (b := 1024) B0 r) (row (a := 1) (b := 1024) B1 0)
        (row (a := 1024) (b := 3072) B2) ⟨j.val, by omega⟩ * scale 64 := by
  unfold_out out0_3
  frame_out
  pointwise [k0_pay4, k0_pay3]
  rfl

theorem out_k (r : Fin 512) (j : Fin 1024) : out0_4 B0 B1 B2 (ix2 r j)
    = lane (row (a := 512) (b := 1024) B0 r) (row (a := 1) (b := 1024) B1 0)
        (row (a := 1024) (b := 3072) B2) ⟨1024 + j.val, by omega⟩ := by
  unfold_out out0_4
  frame_out
  pointwise [k0_pay5, k0_pay3]
  rfl

theorem out_v (r : Fin 512) (j : Fin 1024) : out0_5 B0 B1 B2 (ix2 r j)
    = lane (row (a := 512) (b := 1024) B0 r) (row (a := 1) (b := 1024) B1 0)
        (row (a := 1024) (b := 3072) B2) ⟨2048 + j.val, by omega⟩ := by
  unfold_out out0_5
  frame_out
  pointwise [k0_pay7, k0_pay3]
  rfl

theorem out_kb (r : Fin 512) (j : Fin 1024) : out0_6 B0 B1 B2 (ix2 r j)
    = lane (row (a := 512) (b := 1024) B0 r) (row (a := 1) (b := 1024) B1 0)
        (row (a := 1024) (b := 3072) B2) ⟨1024 + j.val, by omega⟩ := by
  unfold_out out0_6
  frame_out
  pointwise [k0_pay6, k0_pay5, k0_pay3]
  rfl

/-- The lanes of the values and the ones, as the stores take them. -/
theorem lane_v (r : Fin 512) (j : Fin 1024) : k0_pay7 B0 B1 (View.ld B2 r0_4) (ix2 r j)
    = lane (row (a := 512) (b := 1024) B0 r) (row (a := 1) (b := 1024) B1 0) (row (a := 1024) (b := 3072) B2) (col 2 j) := by
  pointwise [k0_pay7, k0_pay3]
  rfl
theorem ones (r : Fin 512) (j : Fin 128) : k0_pay8 (F := Ideal) (ix2 r j) = 1 := by
  pointwise [k0_pay8]

theorem out_vb (r : Fin 512) (j : Fin 2048) : out0_7 B0 B1 B2 (ix2 r j)
    = withOnes (fun r j => lane (row (a := 512) (b := 1024) B0 r) (row (a := 1) (b := 1024) B1 0)
        (row (a := 1024) (b := 3072) B2) (col 2 j)) r j := by
  unfold_out out0_7
  frame_out
  have hV := lane_v B0 B1 B2
  generalize k0_pay7 B0 B1 (View.ld B2 r0_4) = A at hV ⊢
  generalize hf : (fun (r : Fin 512) (j : Fin 1024) => lane (row (a := 512) (b := 1024) B0 r) (row (a := 1) (b := 1024) B1 0)
    (row (a := 1024) (b := 3072) B2) (col 2 j)) = f
  replace hV : ∀ (r : Fin 512) (j : Fin 1024), A (ix2 r j) = f r j := fun r j => (hV r j).trans (by rw [← hf])
  canon_tiles x h
  all_goals
    idx_vars x
    replace h0 : r.val = _ := h0
    replace h1 : j.val = _ := h1
    first
      | refine (ones _ _).trans (withOnes_one _ _ _ ?_).symm
        omega
      | pointwise [k0_pay1, k0_pay2, k0_pay9, k0_pay10, k0_pay11, k0_pay12, k0_pay13, k0_pay14]
        refine (hV _ _).trans (withOnes_lane f _ _ _ _ ?_ ?_ ?_).symm
        all_goals first | omega | (simp; omega)

end Cert.BD

end
-- ==== Proof.BD.Out.lean ====
/-
  The output arrays of the band layer's projection call: a row of queries, keys or values per row of the input, rows counted over
  both batches; in the last array ones stand after each stretch of 128 lanes.
-/
module

public import proofs.«01_k».proof.Proof.BD.Block
public import Idealize.ShloMosaic.Lib.Tactic.CleanTypes
public import Idealize.ShloMosaic.Lib.StableHlo.ReadAt

@[expose] public section

set_option maxRecDepth 16384

noncomputable section

namespace Cert.BD

open Cert.KernelBandQkvIdeal Cert.KernelBandQkvIdeal.Gen
open Idealize.ShloMosaic Idealize.ShloMosaic.TcCoe Cert.QK

variable (m : (ℓ : Loc nD τ sig) → Buf (Elt Ideal) ℓ) (c : Dev nD)

/-- The arguments: the rows of the input, the gains and the weights. -/
abbrev x (r : Fin 32768) : Fin 1024 → EReal :=
  rowsOf (n := 32768) (b := 2) (s := 16384) rfl (m (c.tc.loc main_arg0)) r
abbrev g (j : Fin 1024) : EReal := (m (c.tc.loc main_arg1) : (⟨1, ![1024]⟩ : Shape).Idx → EReal) (ix1 j)
abbrev w : Fin 1024 → Fin 3072 → EReal := row (m (c.tc.loc main_arg2) : M 1024 3072)

theorem V_x (r : Fin 32768) (j : Fin 1024) : V m c main_v0 (ix2 r j) = x m c r j := by
  unfold V hostOps0
  simp only [List.flatten_cons, List.flatten_nil, List.append_nil, List.cons_append, List.nil_append]
  after_reads_at
  try rfl
theorem V_g (j : Fin 1024) : V m c main_v2 (ix2 0 j) = g m c j := by
  unfold V hostOps0
  simp only [List.flatten_cons, List.flatten_nil, List.append_nil, List.cons_append, List.nil_append]
  after_reads_at
  try rfl
theorem V_w (i : Fin 1024) (j : Fin 3072) : V m c main_v1 (ix2 i j) = w m c i j := by
  unfold V hostOps0
  simp only [List.flatten_cons, List.flatten_nil, List.append_nil, List.cons_append, List.nil_append]
  after_reads_at
  try rfl
theorem index_x : ∀ t : Fin cfg0.N, win0_0.index t = ![t.val, 0] := by decide +kernel
theorem index_g : ∀ t : Fin cfg0.N, win0_1.index t = ![0, 0] := by decide +kernel
theorem index_w : ∀ t : Fin cfg0.N, win0_2.index t = ![0, 0] := by decide +kernel
theorem index_q : ∀ t : Fin cfg0.N, win0_3.index t = ![t.val, 0] := by decide +kernel
theorem index_k : ∀ t : Fin cfg0.N, win0_4.index t = ![t.val, 0] := by decide +kernel
theorem index_v : ∀ t : Fin cfg0.N, win0_5.index t = ![t.val, 0] := by decide +kernel
theorem index_kb : ∀ t : Fin cfg0.N, win0_6.index t = ![t.val, 0] := by decide +kernel
theorem index_vb : ∀ t : Fin cfg0.N, win0_7.index t = ![t.val, 0] := by decide +kernel

section Point

variable (t : Fin cfg0.N)

/-- The array's row of row `r` of the point's block. -/
abbrev arow (r : Fin 512) : Fin 32768 :=
  ⟨t.val * 512 + r.val, by have h : t.val < 64 := t.isLt; have := r.isLt; omega⟩

theorem blk_x (r : Fin 512) (j : Fin 1024) : iblk m c 0 t (ix2 r j) = x m c (arow t r) j := by
  refine Eq.trans (?_ : _ = V m c main_v0 (ix2 (arow t r) j)) (V_x m c (arow t r) j)
  blk_ext [iblk, index_x t]
  all_goals omega
theorem blk_g (j : Fin 1024) : iblk m c 1 t (ix2 0 j) = g m c j := by
  refine Eq.trans (?_ : _ = V m c main_v2 (ix2 0 j)) (V_g m c j)
  blk_ext [iblk, index_g t]
theorem blk_w (i : Fin 1024) (j : Fin 3072) : iblk m c 2 t (ix2 i j) = w m c i j := by
  refine Eq.trans (?_ : _ = V m c main_v1 (ix2 i j)) (V_w m c i j)
  blk_ext [iblk, index_w t]

/-- A lane over the point's blocks is the lane over the arguments. -/
theorem lane_blk (r : Fin 512) (p : Fin 3) (j : Fin 1024) :
    lane (row (a := 512) (b := 1024) (iblk m c 0 t) r) (row (a := 1) (b := 1024) (iblk m c 1 t) 0)
        (row (a := 1024) (b := 3072) (iblk m c 2 t)) (col p j) = part p (x m c) (g m c) (w m c) (arow t r) j := by
  have h0 : row (a := 512) (b := 1024) (iblk m c 0 t) r = x m c (arow t r) := funext fun j => blk_x m c t r j
  have h1 : row (a := 1) (b := 1024) (iblk m c 1 t) 0 = g m c := funext fun j => blk_g m c t j
  have h2 : row (a := 1024) (b := 3072) (iblk m c 2 t) = w m c := funext fun i => funext fun j => blk_w m c t i j
  rw [h0, h1, h2]
  rfl

end Point

theorem covers_q : (cfg0.win 3).Covers := by decide +kernel
theorem covers_kb : (cfg0.win 6).Covers := by decide +kernel
theorem covers_vb : (cfg0.win 7).Covers := by decide +kernel
theorem covers_k : (cfg0.win 4).Covers := by decide +kernel
theorem covers_v : (cfg0.win 5).Covers := by decide +kernel

theorem out_q_arg (t : Fin cfg0.N) (r : Fin 512) (j : Fin 1024) :
    out0_3 (iblk m c 0 t) (iblk m c 1 t) (iblk m c 2 t) (ix2 r j) = queries 64 (x m c) (g m c) (w m c) (arow t r) j := by
  unfold queries
  rw [out_q, ← lane_blk m c t r 0 j]
  have e : (⟨j.val, by omega⟩ : Fin 3072) = col 0 j := Fin.ext (by simp)
  rw [e]

theorem q_eq : (dats m 0 c).arrAt 3 cfg0.N = arr (queries 64 (x m c) (g m c) (w m c)) := by
  refine (dats m 0 c).arrAt_eq_of_covers 3 _ covers_q fun t hf y => ?_
  blk_simp
  rw [after0_3]
  idx_vars y
  refine (out_q_arg m c t y0 y1).trans (arr_at _ _ ?_ ?_).symm
  · blk_simp [index_q t]
    try (show _ = t.val * 512 + y0.val; omega)
  · blk_simp [index_q t]
    try omega

theorem kb_eq : (dats m 0 c).arrAt 6 cfg0.N = arr (part 1 (x m c) (g m c) (w m c)) := by
  refine (dats m 0 c).arrAt_eq_of_covers 6 _ covers_kb fun t hf y => ?_
  blk_simp
  rw [after0_6]
  idx_vars y
  refine (out_kb _ _ _ y0 y1).trans ((lane_blk m c t y0 1 y1).trans (arr_at _ _ ?_ ?_).symm)
  · blk_simp [index_kb t]
    try (show _ = t.val * 512 + y0.val; omega)
  · blk_simp [index_kb t]
    try omega

theorem k_eq : (dats m 0 c).arrAt 4 cfg0.N = arr (part 1 (x m c) (g m c) (w m c)) := by
  refine (dats m 0 c).arrAt_eq_of_covers 4 _ covers_k fun t hf y => ?_
  blk_simp
  rw [after0_4]
  idx_vars y
  refine (out_k _ _ _ y0 y1).trans ((lane_blk m c t y0 1 y1).trans (arr_at _ _ ?_ ?_).symm)
  · blk_simp [index_k t]
    try (show _ = t.val * 512 + y0.val; omega)
  · blk_simp [index_k t]
    try omega

theorem v_eq : (dats m 0 c).arrAt 5 cfg0.N = arr (part 2 (x m c) (g m c) (w m c)) := by
  refine (dats m 0 c).arrAt_eq_of_covers 5 _ covers_v fun t hf y => ?_
  blk_simp
  rw [after0_5]
  idx_vars y
  refine (out_v _ _ _ y0 y1).trans ((lane_blk m c t y0 2 y1).trans (arr_at _ _ ?_ ?_).symm)
  · blk_simp [index_v t]
    try (show _ = t.val * 512 + y0.val; omega)
  · blk_simp [index_v t]
    try omega

theorem out_vb_arg (t : Fin cfg0.N) (r : Fin 512) (j : Fin 2048) :
    out0_7 (iblk m c 0 t) (iblk m c 1 t) (iblk m c 2 t) (ix2 r j) = withOnes (part 2 (x m c) (g m c) (w m c)) (arow t r) j := by
  rw [out_vb]
  unfold withOnes
  simp only [lane_blk]

theorem vb_eq : (dats m 0 c).arrAt 7 cfg0.N = arr (withOnes (part 2 (x m c) (g m c) (w m c))) := by
  refine (dats m 0 c).arrAt_eq_of_covers 7 _ covers_vb fun t hf y => ?_
  blk_simp
  rw [after0_7]
  idx_vars y
  refine (out_vb_arg m c t y0 y1).trans (arr_at _ _ ?_ ?_).symm
  · blk_simp [index_vb t]
    try (show _ = t.val * 512 + y0.val; omega)
  · blk_simp [index_vb t]
    try omega

end Cert.BD

end
-- ==== Proof.BD.Ref.lean ====
/-
  The projection's reference: each of its results at an index is the lane's formula over the row of its arguments.
-/
module

public import proofs.«01_k».proof.Proof.Gen.ReferenceBandQkvIdeal.Run
public import proofs.«01_k».proof.Proof.QK.Stack
public import Idealize.ShloMosaic.Lib.Tactic.CleanTypes

@[expose] public section

set_option maxRecDepth 16384

noncomputable section

namespace Cert.BDRef

open Cert.ReferenceBandQkvIdeal
open Idealize.ShloMosaic Idealize.ShloMosaic.TcCoe Idealize.SL.Sem Cert.QK

variable (m : (ℓ : Loc nD τ sig) → Buf (Elt Ideal) ℓ) (ρ : Dev nD → PrngReg) (c : Dev nD)

/-- The arguments. -/
abbrev x (r : Fin 32768) : Fin 1024 → EReal :=
  rowsOf (n := 32768) (b := 2) (s := 16384) rfl (m (c.tc.loc main_arg0)) r
abbrev g (j : Fin 1024) : EReal := (m (c.tc.loc main_arg1) : (⟨1, ![1024]⟩ : Shape).Idx → EReal) (ix1 j)
abbrev w : Fin 1024 → Fin 3072 → EReal := row (m (c.tc.loc main_arg2) : M 1024 3072)

/-- The run's results, over the arguments. -/
theorem run : θ_run defs (onTc (τ := τ) (main (F := Ideal))) ⟨m, fun _ => 0, ρ⟩ fun r => ∀ c : Dev nD,
      r.2.mem (c.tc.loc main_v32) = arr (queries 64 (x m c) (g m c) (w m c))
      ∧ r.2.mem (c.tc.loc main_v33) = arr (part 1 (x m c) (g m c) (w m c))
      ∧ r.2.mem (c.tc.loc main_v34) = arr (part 2 (x m c) (g m c) (w m c))
      ∧ r.2.mem (c.tc.loc main_v36) = arr (part 1 (x m c) (g m c) (w m c))
      ∧ r.2.mem (c.tc.loc main_v25) = arr (withOnes (part 2 (x m c) (g m c) (w m c)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ?_) (Value.run m ρ)
  obtain ⟨h0, h1, h2, h3, h4, h5⟩ := h c
  refine ⟨h0.trans ?_, h1.trans ?_, h2.trans ?_, h3.trans ?_, h4.trans ?_, h5⟩
  all_goals clear h0 h1 h2 h3 h4 h5 h r
  all_goals
    funext y
    idx_vars y
    clean_types
    pointwise
  · refine queries_64 (x m c) (g m c) (w m c) y0 y1 _ ?_
    simp
    omega
  · refine part_of 1 (x m c) (g m c) (w m c) y0 y1 _ ?_
    simp
    omega
  · refine part_of 2 (x m c) (g m c) (w m c) y0 y1 _ ?_
    simp
    omega
  · refine part_of 1 (x m c) (g m c) (w m c) y0 y1 _ ?_
    simp
    omega
  · refine withOnes_of (part 2 (x m c) (g m c) (w m c)) y0 y1 _ fun h => ?_
    refine part_of 2 (x m c) (g m c) (w m c) y0 _ _ ?_
    simp
    omega

end Cert.BDRef

end
-- ==== Proof.FS.Block.lean ====
/-
  What one grid point of the feed-forward call writes on the sample batch: each row of its block is the row's formula over the row of the
  input blocks. The eleven stretches of hidden units are one and the same step at eleven places.
-/
module

public import proofs.«01_k».proof.Proof.Gen.KernelFfnSampleIdeal.Value
public import proofs.«01_k».proof.Proof.FF.Pure

@[expose] public section

set_option maxRecDepth 16384

noncomputable section

namespace Cert.FS

open Cert.KernelFfnSampleIdeal Cert.KernelFfnSampleIdeal.Gen
open Idealize.ShloMosaic Idealize.ShloMosaic.TcCoe Cert.FF

theorem mid_block (X A : M 128 1024) (W : M 1024 1024) (r : Fin 128) :
    row (k0_pay3 (F := Ideal) X A W) r = mid (row X r) (row A r) (row W) := by
  funext c
  show k0_pay3 (F := Ideal) X A W (ix2 r c) = _
  pointwise [k0_pay3]
  rfl

theorem hidden_block (X A : M 128 1024) (W : M 1024 1024) (g : M 1 1024) (r : Fin 128) :
    row (k0_pay4 (F := Ideal) X A W g) r = rms (row (k0_pay3 (F := Ideal) X A W) r) (row g 0) := by
  funext c
  show k0_pay4 (F := Ideal) X A W g (ix2 r c) = _
  pointwise [k0_pay4]
  rfl

theorem last_block (A : M 128 1024) (g : M 1 1024) (r : Fin 128) :
    row (k0_pay2 (F := Ideal) A g) r = rms (row A r) (row g 0) := by
  funext c
  show k0_pay2 (F := Ideal) A g (ix2 r c) = _
  pointwise [k0_pay2]
  rfl

/-- The step at a stretch of hidden units, from what came before it. -/
theorem step_block (H A : M 128 1024) (W : M 1024 5632) (D : M 2816 1024) (k : Fin 11) (og ou : ℕ)
    (pg : ∀ i, (![0, og] : Fin 2 → ℕ) i + (![1024, 256] : Fin 2 → ℕ) i ≤ (![1024, 5632] : Fin 2 → ℕ) i)
    (pu : ∀ i, (![0, ou] : Fin 2 → ℕ) i + (![1024, 256] : Fin 2 → ℕ) i ≤ (![1024, 5632] : Fin 2 → ℕ) i)
    (pd : ∀ i, (![og, 0] : Fin 2 → ℕ) i + (![256, 1024] : Fin 2 → ℕ) i ≤ (![2816, 1024] : Fin 2 → ℕ) i)
    (hg : og = k.val * 256) (hu : ou = 2816 + k.val * 256) (r : Fin 128) (c : Fin 1024) (h : Fin 1024 → EReal)
    (hH : row H r = h) (s : EReal) (hA : A (ix2 r c) = s) :
    k0_pay16 (F := Ideal) H (View.ld (Val := Elt Ideal) (e' := .bf16) (S := ⟨2, ![1024, 5632]⟩) W (Rect.unit ![0, og] ![1024, 256] pg)) H
        (View.ld (Val := Elt Ideal) (e' := .bf16) (S := ⟨2, ![1024, 5632]⟩) W (Rect.unit ![0, ou] ![1024, 256] pu)) A
        (View.ld (Val := Elt Ideal) (e' := .bf16) (S := ⟨2, ![2816, 1024]⟩) D (Rect.unit ![og, 0] ![256, 1024] pd)) (ix2 r c)
      = s + ∑ j : Fin 256, unit (row W) (row D) h ⟨k.val * 256 + j.val, by omega⟩ c := by
  subst hg hu hH hA
  pointwise [k0_pay16]
  refine congrArg (A (ix2 r c) + ·) (Finset.sum_congr rfl fun x _ => ?_)
  unfold unit gate
  simp only [Nat.add_assoc]

variable (H A : M 128 1024) (G U : M 1024 256) (D : M 256 1024)

/-! The eleven steps are written in several ways, each the same step. -/

theorem step_0 : k0_pay7 (F := Ideal) H (k0_pay6 G) (constant (F := Ideal) S128x256 FTy.f32 0#32) H U A D = k0_pay16 H G H U A D := by
  simp only [k0_pay7, k0_pay6, k0_pay16, shapeCast_self]
theorem step_1 : k0_pay9 (F := Ideal) (k0_pay8 H G) H U A D = k0_pay16 H G H U A D := by
  simp only [k0_pay9, k0_pay8, k0_pay16, shapeCast_self]
theorem step_2 : k0_pay13 (F := Ideal) (k0_pay10 H G) (k0_pay11 H U) (k0_pay12 H G) (FloatOps.ofBits (F := Ideal) FTy.f32 1065353216#32) A D
    = k0_pay16 H G H U A D := by
  simp only [k0_pay13, k0_pay10, k0_pay11, k0_pay12, k0_pay16, shapeCast_self]
theorem step_3 : k0_pay15 (F := Ideal) (k0_pay14 H G H U) A D = k0_pay16 H G H U A D := by
  simp only [k0_pay15, k0_pay14, k0_pay16, shapeCast_self]
theorem step_4 : k0_pay17 (F := Ideal) A = A := by
  simp only [k0_pay17, shapeCast_self]
theorem step_5 : k0_pay18 (F := Ideal) H G H U A D = k0_pay16 H G H U A D := by
  simp only [k0_pay18, k0_pay16, shapeCast_self]
theorem step_6 : k0_pay19 (F := Ideal) H G H U A D = k0_pay16 H G H U A D := by
  simp only [k0_pay19, k0_pay16, shapeCast_self]
theorem step_7 : k0_pay21 (F := Ideal) (k0_pay20 H G) H U A D = k0_pay16 H G H U A D := by
  simp only [k0_pay21, k0_pay20, k0_pay16, shapeCast_self]
theorem step_8 : k0_pay24 (F := Ideal) (k0_pay22 H G) H (k0_pay23 U) (constant (F := Ideal) S128x256 FTy.f32 0#32) A D = k0_pay16 H G H U A D := by
  simp only [k0_pay24, k0_pay22, k0_pay23, k0_pay16, shapeCast_self]
theorem step_9 : k0_pay27 (F := Ideal) (k0_pay25 H U) (k0_pay26 H G) A D = k0_pay16 H G H U A D := by
  simp only [k0_pay27, k0_pay25, k0_pay26, k0_pay16, shapeCast_self]
theorem step_10 : k0_pay1 (F := Ideal) (k0_pay28 H G H U) A (k0_pay29 D) = k0_pay16 H G H U A D := by
  simp only [k0_pay1, k0_pay28, k0_pay29, k0_pay16, shapeCast_self]
theorem start_mid (X B : M 128 1024) (W : M 1024 1024) : k0_pay5 (F := Ideal) X B W = k0_pay3 X B W := by
  simp only [k0_pay5, k0_pay3, shapeCast_self]

end Cert.FS

end
-- ==== Proof.FS.Out.lean ====
/-
  The output array of the feed-forward call on the sample batch: its row `r` is the row's formula over row `r` of the arguments, rows counted
  over the batch.
-/
module

public import proofs.«01_k».proof.Proof.FS.Block
public import Idealize.ShloMosaic.Lib.Tactic.CleanTypes
public import Idealize.ShloMosaic.Lib.StableHlo.ReadAt

@[expose] public section

set_option maxRecDepth 16384

noncomputable section

namespace Cert.FS

open Cert.KernelFfnSampleIdeal Cert.KernelFfnSampleIdeal.Gen
open Idealize.ShloMosaic Idealize.ShloMosaic.TcCoe Cert.FF

variable (m : (ℓ : Loc nD τ sig) → Buf (Elt Ideal) ℓ) (c : Dev nD)

/-- The arguments. -/
abbrev X0 : (⟨3, ![8, 16, 1024]⟩ : Shape).Idx → EReal := m (c.tc.loc main_arg0)
abbrev X1 : (⟨3, ![8, 16, 1024]⟩ : Shape).Idx → EReal := m (c.tc.loc main_arg1)
abbrev X2 : M 1024 1024 := m (c.tc.loc main_arg2)
abbrev X3 : (⟨1, ![1024]⟩ : Shape).Idx → EReal := m (c.tc.loc main_arg3)
abbrev X4 : M 1024 5632 := m (c.tc.loc main_arg4)
abbrev X5 : M 2816 1024 := m (c.tc.loc main_arg5)
abbrev X6 : (⟨1, ![1024]⟩ : Shape).Idx → EReal := m (c.tc.loc main_arg6)

/-- Row `r`, the batch's rows counted on, of an argument. -/
abbrev flat (X : (⟨3, ![8, 16, 1024]⟩ : Shape).Idx → EReal) (r : Fin 128) (j : Fin 1024) : EReal :=
  X (ix3 ⟨r.val / 16, by omega⟩ ⟨r.val % 16, by omega⟩ j)

theorem V_x (r : Fin 128) (j : Fin 1024) : V m c main_v0 (ix2 r j) = flat (X0 m c) r j := by
  unfold V hostOps0
  simp only [List.flatten_cons, List.flatten_nil, List.append_nil, List.cons_append, List.nil_append]
  after_reads_at
  try rfl
theorem V_a (r : Fin 128) (j : Fin 1024) : V m c main_v2 (ix2 r j) = flat (X1 m c) r j := by
  unfold V hostOps0
  simp only [List.flatten_cons, List.flatten_nil, List.append_nil, List.cons_append, List.nil_append]
  after_reads_at
  try rfl
theorem V_wo (i j : Fin 1024) : V m c main_v3 (ix2 i j) = X2 m c (ix2 i j) := by
  unfold V hostOps0
  simp only [List.flatten_cons, List.flatten_nil, List.append_nil, List.cons_append, List.nil_append]
  after_reads_at
  try rfl
theorem V_g (j : Fin 1024) : V m c main_v6 (ix2 0 j) = X3 m c (ix1 j) := by
  unfold V hostOps0
  simp only [List.flatten_cons, List.flatten_nil, List.append_nil, List.cons_append, List.nil_append]
  after_reads_at
  try rfl
theorem V_wg (i : Fin 1024) (j : Fin 5632) : V m c main_v4 (ix2 i j) = X4 m c (ix2 i j) := by
  unfold V hostOps0
  simp only [List.flatten_cons, List.flatten_nil, List.append_nil, List.cons_append, List.nil_append]
  after_reads_at
  try rfl
theorem V_wd (i : Fin 2816) (j : Fin 1024) : V m c main_v5 (ix2 i j) = X5 m c (ix2 i j) := by
  unfold V hostOps0
  simp only [List.flatten_cons, List.flatten_nil, List.append_nil, List.cons_append, List.nil_append]
  after_reads_at
  try rfl
theorem V_gf (j : Fin 1024) : V m c main_v7 (ix2 0 j) = X6 m c (ix1 j) := by
  unfold V hostOps0
  simp only [List.flatten_cons, List.flatten_nil, List.append_nil, List.cons_append, List.nil_append]
  after_reads_at
  try rfl

theorem index_x : ∀ t : Fin cfg0.N, win0_0.index t = ![t.val, 0] := by decide +kernel
theorem index_a : ∀ t : Fin cfg0.N, win0_1.index t = ![t.val, 0] := by decide +kernel
theorem index_wo : ∀ t : Fin cfg0.N, win0_2.index t = ![0, 0] := by decide +kernel
theorem index_g : ∀ t : Fin cfg0.N, win0_3.index t = ![0, 0] := by decide +kernel
theorem index_wg : ∀ t : Fin cfg0.N, win0_4.index t = ![0, 0] := by decide +kernel
theorem index_wd : ∀ t : Fin cfg0.N, win0_5.index t = ![0, 0] := by decide +kernel
theorem index_gf : ∀ t : Fin cfg0.N, win0_6.index t = ![0, 0] := by decide +kernel
theorem index_o : ∀ t : Fin cfg0.N, win0_7.index t = ![t.val, 0] := by decide +kernel

section Point

variable (t : Fin cfg0.N)

/-- The array's row of row `r` of the point's block. -/
abbrev arow (r : Fin 128) : Fin 128 :=
  ⟨t.val * 128 + r.val, by have h : t.val < 1 := t.isLt; have := r.isLt; omega⟩

theorem blk_x (r : Fin 128) (j : Fin 1024) : iblk m c 0 t (ix2 r j) = flat (X0 m c) (arow t r) j := by
  refine Eq.trans (?_ : _ = V m c main_v0 (ix2 (arow t r) j)) (V_x m c (arow t r) j)
  blk_ext [iblk, index_x t]
  all_goals omega
theorem blk_a (r : Fin 128) (j : Fin 1024) : iblk m c 1 t (ix2 r j) = flat (X1 m c) (arow t r) j := by
  refine Eq.trans (?_ : _ = V m c main_v2 (ix2 (arow t r) j)) (V_a m c (arow t r) j)
  blk_ext [iblk, index_a t]
  all_goals omega
theorem blk_wo (i j : Fin 1024) : iblk m c 2 t (ix2 i j) = X2 m c (ix2 i j) := by
  refine Eq.trans (?_ : _ = V m c main_v3 (ix2 i j)) (V_wo m c i j)
  blk_ext [iblk, index_wo t]
theorem blk_g (j : Fin 1024) : iblk m c 3 t (ix2 0 j) = X3 m c (ix1 j) := by
  refine Eq.trans (?_ : _ = V m c main_v6 (ix2 0 j)) (V_g m c j)
  blk_ext [iblk, index_g t]
theorem blk_wg (i : Fin 1024) (j : Fin 5632) : iblk m c 4 t (ix2 i j) = X4 m c (ix2 i j) := by
  refine Eq.trans (?_ : _ = V m c main_v4 (ix2 i j)) (V_wg m c i j)
  blk_ext [iblk, index_wg t]
theorem blk_wd (i : Fin 2816) (j : Fin 1024) : iblk m c 5 t (ix2 i j) = X5 m c (ix2 i j) := by
  refine Eq.trans (?_ : _ = V m c main_v5 (ix2 i j)) (V_wd m c i j)
  blk_ext [iblk, index_wd t]
theorem blk_gf (j : Fin 1024) : iblk m c 6 t (ix2 0 j) = X6 m c (ix1 j) := by
  refine Eq.trans (?_ : _ = V m c main_v7 (ix2 0 j)) (V_gf m c j)
  blk_ext [iblk, index_gf t]

theorem outs_block (r : Fin 128) : row (a := 128) (b := 1024) (outsAt0 m c t) r
    = rowOut (row (a := 128) (b := 1024) (iblk m c 0 t) r) (row (a := 128) (b := 1024) (iblk m c 1 t) r)
        (row (a := 1024) (b := 1024) (iblk m c 2 t)) (row (a := 1) (b := 1024) (iblk m c 3 t) 0)
        (row (a := 1024) (b := 5632) (iblk m c 4 t)) (row (a := 2816) (b := 1024) (iblk m c 5 t))
        (row (a := 1) (b := 1024) (iblk m c 6 t) 0) := by
  unfold outsAt0
  frame_out
  generalize iblk m c 0 t = B0
  generalize iblk m c 1 t = B1
  generalize iblk m c 2 t = B2
  generalize iblk m c 3 t = B3
  generalize iblk m c 4 t = B4
  generalize iblk m c 5 t = B5
  generalize iblk m c 6 t = B6
  rw [last_block]
  unfold rowOut
  refine congrArg (rms · _) (funext fun j => ?_)
  show (_ : M 128 1024) (ix2 r j) = _
  rw [step_10, step_9, step_8, step_7, step_6, step_5, step_4, step_3, step_2, step_1, step_0, start_mid]
  have hH : row (k0_pay4 (F := Ideal) B0 B1 B2 B3) r = _ := hidden_block _ _ _ _ r
  rw [mid_block] at hH
  refine Eq.trans ?_ (stretches _ _ (fun k => ∑ i : Fin 256, unit (row B4) (row B5) _ ⟨k.val * 256 + i.val, by omega⟩ j)
    fun _ => rfl)
  iterate 11 refine step_block _ _ B4 B5 _ _ _ _ _ _ (by decide) (by decide) r j _ hH _ ?_
  exact congrFun (mid_block _ _ _ r) j

/-- The same over the arguments. -/
theorem outs_apply (r : Fin 128) (j : Fin 1024) : outsAt0 m c t (ix2 r j)
    = rowOut (flat (X0 m c) (arow t r)) (flat (X1 m c) (arow t r)) (row (X2 m c)) (fun j => X3 m c (ix1 j)) (row (X4 m c))
        (row (X5 m c)) (fun j => X6 m c (ix1 j)) j := by
  refine (congrFun (outs_block m c t r) j).trans ?_
  have h0 : row (a := 128) (b := 1024) (iblk m c 0 t) r = flat (X0 m c) (arow t r) := funext fun j => blk_x m c t r j
  have h1 : row (a := 128) (b := 1024) (iblk m c 1 t) r = flat (X1 m c) (arow t r) := funext fun j => blk_a m c t r j
  have h2 : row (a := 1024) (b := 1024) (iblk m c 2 t) = row (X2 m c) := funext fun i => funext fun j => blk_wo m c t i j
  have h3 : row (a := 1) (b := 1024) (iblk m c 3 t) 0 = fun j => X3 m c (ix1 j) := funext fun j => blk_g m c t j
  have h4 : row (a := 1024) (b := 5632) (iblk m c 4 t) = row (X4 m c) := funext fun i => funext fun j => blk_wg m c t i j
  have h5 : row (a := 2816) (b := 1024) (iblk m c 5 t) = row (X5 m c) := funext fun i => funext fun j => blk_wd m c t i j
  have h6 : row (a := 1) (b := 1024) (iblk m c 6 t) 0 = fun j => X6 m c (ix1 j) := funext fun j => blk_gf m c t j
  rw [h0, h1, h2, h3, h4, h5, h6]

end Point

theorem covers : (cfg0.win 7).Covers := by decide +kernel

/-- The result, laid out as the output array is. -/
def resOut (x a : (⟨3, ![8, 16, 1024]⟩ : Shape).Idx → EReal) (wo : M 1024 1024) (g : (⟨1, ![1024]⟩ : Shape).Idx → EReal)
    (wg : M 1024 5632) (wd : M 2816 1024) (gf : (⟨1, ![1024]⟩ : Shape).Idx → EReal) : M 128 1024 := fun y =>
  rowOut (flat x (y 0)) (flat a (y 0)) (row wo) (fun j => g (ix1 j)) (row wg) (row wd) (fun j => gf (ix1 j)) (y 1)

theorem resOut_at (x a : (⟨3, ![8, 16, 1024]⟩ : Shape).Idx → EReal) (wo : M 1024 1024) (g : (⟨1, ![1024]⟩ : Shape).Idx → EReal)
    (wg : M 1024 5632) (wd : M 2816 1024) (gf : (⟨1, ![1024]⟩ : Shape).Idx → EReal) (y : (⟨2, ![128, 1024]⟩ : Shape).Idx)
    {r : Fin 128} {j : Fin 1024} (h0 : (y 0).val = r.val) (h1 : (y 1).val = j.val) : resOut x a wo g wg wd gf y
      = rowOut (flat x r) (flat a r) (row wo) (fun j => g (ix1 j)) (row wg) (row wd) (fun j => gf (ix1 j)) j := by
  obtain rfl : y 0 = r := Fin.ext h0
  obtain rfl : y 1 = j := Fin.ext h1
  rfl

/-- The output array after the run. -/
theorem out_eq : (dats m 0 c).arrAt 7 cfg0.N = resOut (X0 m c) (X1 m c) (X2 m c) (X3 m c) (X4 m c) (X5 m c) (X6 m c) := by
  refine (dats m 0 c).arrAt_eq_of_covers 7 _ covers fun t hf y => ?_
  blk_simp
  rw [after0_7]
  idx_vars y
  rw [outs_apply]
  refine (resOut_at _ _ _ _ _ _ _ _ ?_ ?_).symm
  · blk_simp [index_o t]
    have ht : t.val < 1 := t.isLt
    show _ = t.val * 128 + y0.val
    omega
  · blk_simp [index_o t]
    try omega

end Cert.FS

end
-- ==== Proof.FS.Ref.lean ====
/-
  The sample batch's reference: its result at an index is the row's formula over the row of its arguments.
-/
module

public import proofs.«01_k».proof.Proof.Gen.ReferenceFfnSampleIdeal.Run
public import proofs.«01_k».proof.Proof.FF.Pure
public import Idealize.ShloMosaic.Lib.Tactic.CleanTypes

@[expose] public section

set_option maxRecDepth 16384

noncomputable section

namespace Cert.FSRef

open Cert.ReferenceFfnSampleIdeal
open Idealize.ShloMosaic Idealize.ShloMosaic.TcCoe Cert.FF

variable (m : (ℓ : Loc nD τ sig) → Buf (Elt Ideal) ℓ) (c : Dev nD)

/-- The arguments. -/
abbrev X0 : (⟨3, ![8, 16, 1024]⟩ : Shape).Idx → EReal := m (c.tc.loc main_arg0)
abbrev X1 : (⟨3, ![8, 16, 1024]⟩ : Shape).Idx → EReal := m (c.tc.loc main_arg1)
abbrev X2 : (⟨2, ![1024, 1024]⟩ : Shape).Idx → EReal := m (c.tc.loc main_arg2)
abbrev X3 : (⟨1, ![1024]⟩ : Shape).Idx → EReal := m (c.tc.loc main_arg3)
abbrev X4 : (⟨2, ![1024, 5632]⟩ : Shape).Idx → EReal := m (c.tc.loc main_arg4)
abbrev X5 : (⟨2, ![2816, 1024]⟩ : Shape).Idx → EReal := m (c.tc.loc main_arg5)
abbrev X6 : (⟨1, ![1024]⟩ : Shape).Idx → EReal := m (c.tc.loc main_arg6)

theorem ref_apply (r : Fin 128) (k : Fin 1024) :
    Value.res_main_v35 m c (ix2 r k)
      = rowOut (fun j => X0 m c (ix3 ⟨r.val / 16, by omega⟩ ⟨r.val % 16, by omega⟩ j))
          (fun j => X1 m c (ix3 ⟨r.val / 16, by omega⟩ ⟨r.val % 16, by omega⟩ j)) (fun i j => X2 m c (ix2 i j))
          (fun j => X3 m c (ix1 j)) (fun i j => X4 m c (ix2 i j)) (fun i j => X5 m c (ix2 i j)) (fun j => X6 m c (ix1 j)) k := by
  unfold Value.res_main_v35
  clean_types
  pointwise
  simp only [gate_eq]
  rfl

end Cert.FSRef

end
-- ==== Proof.FS.Equation.lean ====
/-
  The equation of the feed-forward call on the sample batch: both results are the row's formula over the row of the arguments.
-/
module

public import proofs.«01_k».proof.Proof.FS.Out
public import proofs.«01_k».proof.Proof.FS.Ref

@[expose] public section

noncomputable section

namespace Cert.FSEq

open Idealize.ShloMosaic Idealize.ShloMosaic.TcCoe Cert.FF Cert.FS

/-- The reference's result, over its arguments. -/
theorem ref_out (m : (ℓ : Loc Cert.ReferenceFfnSampleIdeal.nD Cert.ReferenceFfnSampleIdeal.τ Cert.ReferenceFfnSampleIdeal.sig) → Buf (Elt Ideal) ℓ)
    (c : Dev Cert.ReferenceFfnSampleIdeal.nD) : Cert.ReferenceFfnSampleIdeal.Value.res_main_v35 m c
      = resOut (Cert.FSRef.X0 m c) (Cert.FSRef.X1 m c) (Cert.FSRef.X2 m c) (Cert.FSRef.X3 m c) (Cert.FSRef.X4 m c)
          (Cert.FSRef.X5 m c) (Cert.FSRef.X6 m c) := by
  have h : ∀ y : (⟨2, ![128, 1024]⟩ : Shape).Idx, Cert.ReferenceFfnSampleIdeal.Value.res_main_v35 m c y
      = resOut (Cert.FSRef.X0 m c) (Cert.FSRef.X1 m c) (Cert.FSRef.X2 m c) (Cert.FSRef.X3 m c) (Cert.FSRef.X4 m c)
          (Cert.FSRef.X5 m c) (Cert.FSRef.X6 m c) y := by
    intro y
    idx_vars y
    exact Cert.FSRef.ref_apply m c y0 y1
  exact funext h

end Cert.FSEq

end
-- ==== Proof.QS.Block.lean ====
/-
  What one grid point of the stick-breaking layer's projection call on the sample batch writes: each lane of each row of its blocks is the lane's formula over the
  row of the input blocks.
-/
module

public import proofs.«01_k».proof.Proof.Gen.KernelQkvSampleIdeal.Value
public import proofs.«01_k».proof.Proof.QK.Pure

@[expose] public section

set_option maxRecDepth 16384

noncomputable section

namespace Cert.QS

open Cert.KernelQkvSampleIdeal Cert.KernelQkvSampleIdeal.Gen
open Idealize.ShloMosaic Idealize.ShloMosaic.TcCoe Cert.QK

variable (B0 : Vec Ideal S128x1024 .f32) (B1 : Vec Ideal S1x1024 .f32) (B2 : Vec Ideal S1024x3072 .bf16)

theorem out_q (r : Fin 128) (j : Fin 1024) : out0_3 B0 B1 B2 (ix2 r j)
    = lane (row (a := 128) (b := 1024) B0 r) (row (a := 1) (b := 1024) B1 0)
        (row (a := 1024) (b := 3072) B2) ⟨j.val, by omega⟩ * scale 128 := by
  unfold_out out0_3
  frame_out
  pointwise [k0_pay3, k0_pay2]
  rfl

theorem out_k (r : Fin 128) (j : Fin 1024) : out0_4 B0 B1 B2 (ix2 r j)
    = lane (row (a := 128) (b := 1024) B0 r) (row (a := 1) (b := 1024) B1 0)
        (row (a := 1024) (b := 3072) B2) ⟨1024 + j.val, by omega⟩ := by
  unfold_out out0_4
  frame_out
  pointwise [k0_pay4, k0_pay2]
  rfl

theorem out_v (r : Fin 128) (j : Fin 1024) : out0_5 B0 B1 B2 (ix2 r j)
    = lane (row (a := 128) (b := 1024) B0 r) (row (a := 1) (b := 1024) B1 0)
        (row (a := 1024) (b := 3072) B2) ⟨2048 + j.val, by omega⟩ := by
  unfold_out out0_5
  frame_out
  pointwise [k0_pay6, k0_pay2]
  rfl

theorem out_kb (r : Fin 128) (j : Fin 1024) : out0_6 B0 B1 B2 (ix2 r j)
    = lane (row (a := 128) (b := 1024) B0 r) (row (a := 1) (b := 1024) B1 0)
        (row (a := 1024) (b := 3072) B2) ⟨1024 + j.val, by omega⟩ := by
  unfold_out out0_6
  frame_out
  pointwise [k0_pay5, k0_pay4, k0_pay2]
  rfl

theorem out_vb (r : Fin 128) (j : Fin 1024) : out0_7 B0 B1 B2 (ix2 r j)
    = lane (row (a := 128) (b := 1024) B0 r) (row (a := 1) (b := 1024) B1 0)
        (row (a := 1024) (b := 3072) B2) ⟨2048 + j.val, by omega⟩ := by
  unfold_out out0_7
  frame_out
  pointwise [k0_pay1, k0_pay6, k0_pay2]
  rfl

end Cert.QS

end
-- ==== Proof.QS.Out.lean ====
/-
  The output arrays of the stick-breaking layer's projection call on the sample batch: a row of queries, keys or values per row of the input, rows counted over
  the batch.
-/
module

public import proofs.«01_k».proof.Proof.QS.Block
public import Idealize.ShloMosaic.Lib.Tactic.CleanTypes
public import Idealize.ShloMosaic.Lib.StableHlo.ReadAt

@[expose] public section

set_option maxRecDepth 16384

noncomputable section

namespace Cert.QS

open Cert.KernelQkvSampleIdeal Cert.KernelQkvSampleIdeal.Gen
open Idealize.ShloMosaic Idealize.ShloMosaic.TcCoe Cert.QK

variable (m : (ℓ : Loc nD τ sig) → Buf (Elt Ideal) ℓ) (c : Dev nD)

/-- The arguments: the rows of the input, the gains and the weights. -/
abbrev x (r : Fin 128) : Fin 1024 → EReal :=
  rowsOf (n := 128) (b := 8) (s := 16) rfl (m (c.tc.loc main_arg0)) r
abbrev g (j : Fin 1024) : EReal := (m (c.tc.loc main_arg1) : (⟨1, ![1024]⟩ : Shape).Idx → EReal) (ix1 j)
abbrev w : Fin 1024 → Fin 3072 → EReal := row (m (c.tc.loc main_arg2) : M 1024 3072)

theorem V_x (r : Fin 128) (j : Fin 1024) : V m c main_v0 (ix2 r j) = x m c r j := by
  unfold V hostOps0
  simp only [List.flatten_cons, List.flatten_nil, List.append_nil, List.cons_append, List.nil_append]
  after_reads_at
  try rfl
theorem V_g (j : Fin 1024) : V m c main_v2 (ix2 0 j) = g m c j := by
  unfold V hostOps0
  simp only [List.flatten_cons, List.flatten_nil, List.append_nil, List.cons_append, List.nil_append]
  after_reads_at
  try rfl
theorem V_w (i : Fin 1024) (j : Fin 3072) : V m c main_v1 (ix2 i j) = w m c i j := by
  unfold V hostOps0
  simp only [List.flatten_cons, List.flatten_nil, List.append_nil, List.cons_append, List.nil_append]
  after_reads_at
  try rfl
theorem index_x : ∀ t : Fin cfg0.N, win0_0.index t = ![t.val, 0] := by decide +kernel
theorem index_g : ∀ t : Fin cfg0.N, win0_1.index t = ![0, 0] := by decide +kernel
theorem index_w : ∀ t : Fin cfg0.N, win0_2.index t = ![0, 0] := by decide +kernel
theorem index_q : ∀ t : Fin cfg0.N, win0_3.index t = ![t.val, 0] := by decide +kernel
theorem index_k : ∀ t : Fin cfg0.N, win0_4.index t = ![t.val, 0] := by decide +kernel
theorem index_v : ∀ t : Fin cfg0.N, win0_5.index t = ![t.val, 0] := by decide +kernel
theorem index_kb : ∀ t : Fin cfg0.N, win0_6.index t = ![t.val, 0] := by decide +kernel
theorem index_vb : ∀ t : Fin cfg0.N, win0_7.index t = ![t.val, 0] := by decide +kernel

section Point

variable (t : Fin cfg0.N)

/-- The array's row of row `r` of the point's block. -/
abbrev arow (r : Fin 128) : Fin 128 :=
  ⟨t.val * 128 + r.val, by have h : t.val < 1 := t.isLt; have := r.isLt; omega⟩

theorem blk_x (r : Fin 128) (j : Fin 1024) : iblk m c 0 t (ix2 r j) = x m c (arow t r) j := by
  refine Eq.trans (?_ : _ = V m c main_v0 (ix2 (arow t r) j)) (V_x m c (arow t r) j)
  blk_ext [iblk, index_x t]
  all_goals omega
theorem blk_g (j : Fin 1024) : iblk m c 1 t (ix2 0 j) = g m c j := by
  refine Eq.trans (?_ : _ = V m c main_v2 (ix2 0 j)) (V_g m c j)
  blk_ext [iblk, index_g t]
theorem blk_w (i : Fin 1024) (j : Fin 3072) : iblk m c 2 t (ix2 i j) = w m c i j := by
  refine Eq.trans (?_ : _ = V m c main_v1 (ix2 i j)) (V_w m c i j)
  blk_ext [iblk, index_w t]

/-- A lane over the point's blocks is the lane over the arguments. -/
theorem lane_blk (r : Fin 128) (p : Fin 3) (j : Fin 1024) :
    lane (row (a := 128) (b := 1024) (iblk m c 0 t) r) (row (a := 1) (b := 1024) (iblk m c 1 t) 0)
        (row (a := 1024) (b := 3072) (iblk m c 2 t)) (col p j) = part p (x m c) (g m c) (w m c) (arow t r) j := by
  have h0 : row (a := 128) (b := 1024) (iblk m c 0 t) r = x m c (arow t r) := funext fun j => blk_x m c t r j
  have h1 : row (a := 1) (b := 1024) (iblk m c 1 t) 0 = g m c := funext fun j => blk_g m c t j
  have h2 : row (a := 1024) (b := 3072) (iblk m c 2 t) = w m c := funext fun i => funext fun j => blk_w m c t i j
  rw [h0, h1, h2]
  rfl

end Point

theorem covers_q : (cfg0.win 3).Covers := by decide +kernel
theorem covers_kb : (cfg0.win 6).Covers := by decide +kernel
theorem covers_vb : (cfg0.win 7).Covers := by decide +kernel
theorem covers_k : (cfg0.win 4).Covers := by decide +kernel
theorem covers_v : (cfg0.win 5).Covers := by decide +kernel

theorem out_q_arg (t : Fin cfg0.N) (r : Fin 128) (j : Fin 1024) :
    out0_3 (iblk m c 0 t) (iblk m c 1 t) (iblk m c 2 t) (ix2 r j) = queries 128 (x m c) (g m c) (w m c) (arow t r) j := by
  unfold queries
  rw [out_q, ← lane_blk m c t r 0 j]
  have e : (⟨j.val, by omega⟩ : Fin 3072) = col 0 j := Fin.ext (by simp)
  rw [e]

theorem q_eq : (dats m 0 c).arrAt 3 cfg0.N = arr (queries 128 (x m c) (g m c) (w m c)) := by
  refine (dats m 0 c).arrAt_eq_of_covers 3 _ covers_q fun t hf y => ?_
  blk_simp
  rw [after0_3]
  idx_vars y
  refine (out_q_arg m c t y0 y1).trans (arr_at _ _ ?_ ?_).symm
  · blk_simp [index_q t]
    have ht : t.val < 1 := t.isLt
    show _ = t.val * 128 + y0.val
    omega
  · blk_simp [index_q t]
    try omega

theorem kb_eq : (dats m 0 c).arrAt 6 cfg0.N = arr (part 1 (x m c) (g m c) (w m c)) := by
  refine (dats m 0 c).arrAt_eq_of_covers 6 _ covers_kb fun t hf y => ?_
  blk_simp
  rw [after0_6]
  idx_vars y
  refine (out_kb _ _ _ y0 y1).trans ((lane_blk m c t y0 1 y1).trans (arr_at _ _ ?_ ?_).symm)
  · blk_simp [index_kb t]
    have ht : t.val < 1 := t.isLt
    show _ = t.val * 128 + y0.val
    omega
  · blk_simp [index_kb t]
    try omega

theorem k_eq : (dats m 0 c).arrAt 4 cfg0.N = arr (part 1 (x m c) (g m c) (w m c)) := by
  refine (dats m 0 c).arrAt_eq_of_covers 4 _ covers_k fun t hf y => ?_
  blk_simp
  rw [after0_4]
  idx_vars y
  refine (out_k _ _ _ y0 y1).trans ((lane_blk m c t y0 1 y1).trans (arr_at _ _ ?_ ?_).symm)
  · blk_simp [index_k t]
    have ht : t.val < 1 := t.isLt
    show _ = t.val * 128 + y0.val
    omega
  · blk_simp [index_k t]
    try omega

theorem v_eq : (dats m 0 c).arrAt 5 cfg0.N = arr (part 2 (x m c) (g m c) (w m c)) := by
  refine (dats m 0 c).arrAt_eq_of_covers 5 _ covers_v fun t hf y => ?_
  blk_simp
  rw [after0_5]
  idx_vars y
  refine (out_v _ _ _ y0 y1).trans ((lane_blk m c t y0 2 y1).trans (arr_at _ _ ?_ ?_).symm)
  · blk_simp [index_v t]
    have ht : t.val < 1 := t.isLt
    show _ = t.val * 128 + y0.val
    omega
  · blk_simp [index_v t]
    try omega

theorem vb_eq : (dats m 0 c).arrAt 7 cfg0.N = arr (part 2 (x m c) (g m c) (w m c)) := by
  refine (dats m 0 c).arrAt_eq_of_covers 7 _ covers_vb fun t hf y => ?_
  blk_simp
  rw [after0_7]
  idx_vars y
  refine (out_vb _ _ _ y0 y1).trans ((lane_blk m c t y0 2 y1).trans (arr_at _ _ ?_ ?_).symm)
  · blk_simp [index_vb t]
    have ht : t.val < 1 := t.isLt
    show _ = t.val * 128 + y0.val
    omega
  · blk_simp [index_vb t]
    try omega

end Cert.QS

end
-- ==== Proof.QS.Ref.lean ====
/-
  The reference of the stick-breaking layer's projection of the sample batch: each of its results at an index is the lane's formula over the row of its arguments.
-/
module

public import proofs.«01_k».proof.Proof.Gen.ReferenceQkvSampleIdeal.Run
public import proofs.«01_k».proof.Proof.QK.Pure
public import Idealize.ShloMosaic.Lib.Tactic.CleanTypes

@[expose] public section

set_option maxRecDepth 16384

noncomputable section

namespace Cert.QSRef

open Cert.ReferenceQkvSampleIdeal
open Idealize.ShloMosaic Idealize.ShloMosaic.TcCoe Idealize.SL.Sem Cert.QK

variable (m : (ℓ : Loc nD τ sig) → Buf (Elt Ideal) ℓ) (ρ : Dev nD → PrngReg) (c : Dev nD)

/-- The arguments. -/
abbrev x (r : Fin 128) : Fin 1024 → EReal :=
  rowsOf (n := 128) (b := 8) (s := 16) rfl (m (c.tc.loc main_arg0)) r
abbrev g (j : Fin 1024) : EReal := (m (c.tc.loc main_arg1) : (⟨1, ![1024]⟩ : Shape).Idx → EReal) (ix1 j)
abbrev w : Fin 1024 → Fin 3072 → EReal := row (m (c.tc.loc main_arg2) : M 1024 3072)

/-- The run's results, over the arguments. -/
theorem run : θ_run defs (onTc (τ := τ) (main (F := Ideal))) ⟨m, fun _ => 0, ρ⟩ fun r => ∀ c : Dev nD,
      r.2.mem (c.tc.loc main_v27) = arr (queries 128 (x m c) (g m c) (w m c))
      ∧ r.2.mem (c.tc.loc main_v28) = arr (part 1 (x m c) (g m c) (w m c))
      ∧ r.2.mem (c.tc.loc main_v29) = arr (part 2 (x m c) (g m c) (w m c))
      ∧ r.2.mem (c.tc.loc main_v31) = arr (part 1 (x m c) (g m c) (w m c))
      ∧ r.2.mem (c.tc.loc main_v33) = arr (part 2 (x m c) (g m c) (w m c))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ?_) (Value.run m ρ)
  obtain ⟨h0, h1, h2, h3, h4, h5⟩ := h c
  refine ⟨h0.trans ?_, h1.trans ?_, h2.trans ?_, h3.trans ?_, h4.trans ?_, h5⟩
  all_goals clear h0 h1 h2 h3 h4 h5 h r
  all_goals
    funext y
    idx_vars y
    clean_types
    pointwise
  · refine queries_128 (x m c) (g m c) (w m c) y0 y1 _ ?_
    simp
    omega
  · refine part_of 1 (x m c) (g m c) (w m c) y0 y1 _ ?_
    simp
    omega
  · refine part_of 2 (x m c) (g m c) (w m c) y0 y1 _ ?_
    simp
    omega
  · refine part_of 1 (x m c) (g m c) (w m c) y0 y1 _ ?_
    simp
    omega
  · refine part_of 2 (x m c) (g m c) (w m c) y0 y1 _ ?_
    simp
    omega

end Cert.QSRef

end
-- ==== Proof.BS.Block.lean ====
/-
  What one grid point of the band layer's projection call on the sample batch writes: each lane of each row of its blocks is the lane's formula over the
  row of the input blocks.
-/
module

public import proofs.«01_k».proof.Proof.Gen.KernelBandQkvSampleIdeal.Value
public import proofs.«01_k».proof.Proof.QK.Pure

@[expose] public section

set_option maxRecDepth 16384

noncomputable section

namespace Cert.BS

open Cert.KernelBandQkvSampleIdeal Cert.KernelBandQkvSampleIdeal.Gen
open Idealize.ShloMosaic Idealize.ShloMosaic.TcCoe Cert.QK

variable (B0 : Vec Ideal S128x1024 .f32) (B1 : Vec Ideal S1x1024 .f32) (B2 : Vec Ideal S1024x3072 .bf16)

theorem out_q (r : Fin 128) (j : Fin 1024) : out0_3 B0 B1 B2 (ix2 r j)
    = lane (row (a := 128) (b := 1024) B0 r) (row (a := 1) (b := 1024) B1 0)
        (row (a := 1024) (b := 3072) B2) ⟨j.val, by omega⟩ * scale 64 := by
  unfold_out out0_3
  frame_out
  pointwise [k0_pay4, k0_pay3]
  rfl

theorem out_k (r : Fin 128) (j : Fin 1024) : out0_4 B0 B1 B2 (ix2 r j)
    = lane (row (a := 128) (b := 1024) B0 r) (row (a := 1) (b := 1024) B1 0)
        (row (a := 1024) (b := 3072) B2) ⟨1024 + j.val, by omega⟩ := by
  unfold_out out0_4
  frame_out
  pointwise [k0_pay5, k0_pay3]
  rfl

theorem out_v (r : Fin 128) (j : Fin 1024) : out0_5 B0 B1 B2 (ix2 r j)
    = lane (row (a := 128) (b := 1024) B0 r) (row (a := 1) (b := 1024) B1 0)
        (row (a := 1024) (b := 3072) B2) ⟨2048 + j.val, by omega⟩ := by
  unfold_out out0_5
  frame_out
  pointwise [k0_pay7, k0_pay3]
  rfl

theorem out_kb (r : Fin 128) (j : Fin 1024) : out0_6 B0 B1 B2 (ix2 r j)
    = lane (row (a := 128) (b := 1024) B0 r) (row (a := 1) (b := 1024) B1 0)
        (row (a := 1024) (b := 3072) B2) ⟨1024 + j.val, by omega⟩ := by
  unfold_out out0_6
  frame_out
  pointwise [k0_pay6, k0_pay5, k0_pay3]
  rfl

/-- The lanes of the values and the ones, as the stores take them. -/
theorem lane_v (r : Fin 128) (j : Fin 1024) : k0_pay7 B0 B1 (View.ld B2 r0_4) (ix2 r j)
    = lane (row (a := 128) (b := 1024) B0 r) (row (a := 1) (b := 1024) B1 0) (row (a := 1024) (b := 3072) B2) (col 2 j) := by
  pointwise [k0_pay7, k0_pay3]
  rfl
theorem ones (r : Fin 128) (j : Fin 128) : k0_pay8 (F := Ideal) (ix2 r j) = 1 := by
  pointwise [k0_pay8]

theorem out_vb (r : Fin 128) (j : Fin 2048) : out0_7 B0 B1 B2 (ix2 r j)
    = withOnes (fun r j => lane (row (a := 128) (b := 1024) B0 r) (row (a := 1) (b := 1024) B1 0)
        (row (a := 1024) (b := 3072) B2) (col 2 j)) r j := by
  unfold_out out0_7
  frame_out
  have hV := lane_v B0 B1 B2
  generalize k0_pay7 B0 B1 (View.ld B2 r0_4) = A at hV ⊢
  generalize hf : (fun (r : Fin 128) (j : Fin 1024) => lane (row (a := 128) (b := 1024) B0 r) (row (a := 1) (b := 1024) B1 0)
    (row (a := 1024) (b := 3072) B2) (col 2 j)) = f
  replace hV : ∀ (r : Fin 128) (j : Fin 1024), A (ix2 r j) = f r j := fun r j => (hV r j).trans (by rw [← hf])
  canon_tiles x h
  all_goals
    idx_vars x
    replace h0 : r.val = _ := h0
    replace h1 : j.val = _ := h1
    first
      | refine (ones _ _).trans (withOnes_one _ _ _ ?_).symm
        omega
      | pointwise [k0_pay1, k0_pay2, k0_pay9, k0_pay10, k0_pay11, k0_pay12, k0_pay13, k0_pay14]
        refine (hV _ _).trans (withOnes_lane f _ _ _ _ ?_ ?_ ?_).symm
        all_goals first | omega | (simp; omega)

end Cert.BS

end
-- ==== Proof.BS.Out.lean ====
/-
  The output arrays of the band layer's projection call on the sample batch: a row of queries, keys or values per row of the input, rows counted over
  the batch; in the last array ones stand after each stretch of 128 lanes.
-/
module

public import proofs.«01_k».proof.Proof.BS.Block
public import Idealize.ShloMosaic.Lib.Tactic.CleanTypes
public import Idealize.ShloMosaic.Lib.StableHlo.ReadAt

@[expose] public section

set_option maxRecDepth 16384

noncomputable section

namespace Cert.BS

open Cert.KernelBandQkvSampleIdeal Cert.KernelBandQkvSampleIdeal.Gen
open Idealize.ShloMosaic Idealize.ShloMosaic.TcCoe Cert.QK

variable (m : (ℓ : Loc nD τ sig) → Buf (Elt Ideal) ℓ) (c : Dev nD)

/-- The arguments: the rows of the input, the gains and the weights. -/
abbrev x (r : Fin 128) : Fin 1024 → EReal :=
  rowsOf (n := 128) (b := 8) (s := 16) rfl (m (c.tc.loc main_arg0)) r
abbrev g (j : Fin 1024) : EReal := (m (c.tc.loc main_arg1) : (⟨1, ![1024]⟩ : Shape).Idx → EReal) (ix1 j)
abbrev w : Fin 1024 → Fin 3072 → EReal := row (m (c.tc.loc main_arg2) : M 1024 3072)

theorem V_x (r : Fin 128) (j : Fin 1024) : V m c main_v0 (ix2 r j) = x m c r j := by
  unfold V hostOps0
  simp only [List.flatten_cons, List.flatten_nil, List.append_nil, List.cons_append, List.nil_append]
  after_reads_at
  try rfl
theorem V_g (j : Fin 1024) : V m c main_v2 (ix2 0 j) = g m c j := by
  unfold V hostOps0
  simp only [List.flatten_cons, List.flatten_nil, List.append_nil, List.cons_append, List.nil_append]
  after_reads_at
  try rfl
theorem V_w (i : Fin 1024) (j : Fin 3072) : V m c main_v1 (ix2 i j) = w m c i j := by
  unfold V hostOps0
  simp only [List.flatten_cons, List.flatten_nil, List.append_nil, List.cons_append, List.nil_append]
  after_reads_at
  try rfl
theorem index_x : ∀ t : Fin cfg0.N, win0_0.index t = ![t.val, 0] := by decide +kernel
theorem index_g : ∀ t : Fin cfg0.N, win0_1.index t = ![0, 0] := by decide +kernel
theorem index_w : ∀ t : Fin cfg0.N, win0_2.index t = ![0, 0] := by decide +kernel
theorem index_q : ∀ t : Fin cfg0.N, win0_3.index t = ![t.val, 0] := by decide +kernel
theorem index_k : ∀ t : Fin cfg0.N, win0_4.index t = ![t.val, 0] := by decide +kernel
theorem index_v : ∀ t : Fin cfg0.N, win0_5.index t = ![t.val, 0] := by decide +kernel
theorem index_kb : ∀ t : Fin cfg0.N, win0_6.index t = ![t.val, 0] := by decide +kernel
theorem index_vb : ∀ t : Fin cfg0.N, win0_7.index t = ![t.val, 0] := by decide +kernel

section Point

variable (t : Fin cfg0.N)

/-- The array's row of row `r` of the point's block. -/
abbrev arow (r : Fin 128) : Fin 128 :=
  ⟨t.val * 128 + r.val, by have h : t.val < 1 := t.isLt; have := r.isLt; omega⟩

theorem blk_x (r : Fin 128) (j : Fin 1024) : iblk m c 0 t (ix2 r j) = x m c (arow t r) j := by
  refine Eq.trans (?_ : _ = V m c main_v0 (ix2 (arow t r) j)) (V_x m c (arow t r) j)
  blk_ext [iblk, index_x t]
  all_goals omega
theorem blk_g (j : Fin 1024) : iblk m c 1 t (ix2 0 j) = g m c j := by
  refine Eq.trans (?_ : _ = V m c main_v2 (ix2 0 j)) (V_g m c j)
  blk_ext [iblk, index_g t]
theorem blk_w (i : Fin 1024) (j : Fin 3072) : iblk m c 2 t (ix2 i j) = w m c i j := by
  refine Eq.trans (?_ : _ = V m c main_v1 (ix2 i j)) (V_w m c i j)
  blk_ext [iblk, index_w t]

/-- A lane over the point's blocks is the lane over the arguments. -/
theorem lane_blk (r : Fin 128) (p : Fin 3) (j : Fin 1024) :
    lane (row (a := 128) (b := 1024) (iblk m c 0 t) r) (row (a := 1) (b := 1024) (iblk m c 1 t) 0)
        (row (a := 1024) (b := 3072) (iblk m c 2 t)) (col p j) = part p (x m c) (g m c) (w m c) (arow t r) j := by
  have h0 : row (a := 128) (b := 1024) (iblk m c 0 t) r = x m c (arow t r) := funext fun j => blk_x m c t r j
  have h1 : row (a := 1) (b := 1024) (iblk m c 1 t) 0 = g m c := funext fun j => blk_g m c t j
  have h2 : row (a := 1024) (b := 3072) (iblk m c 2 t) = w m c := funext fun i => funext fun j => blk_w m c t i j
  rw [h0, h1, h2]
  rfl

end Point

theorem covers_q : (cfg0.win 3).Covers := by decide +kernel
theorem covers_kb : (cfg0.win 6).Covers := by decide +kernel
theorem covers_vb : (cfg0.win 7).Covers := by decide +kernel
theorem covers_k : (cfg0.win 4).Covers := by decide +kernel
theorem covers_v : (cfg0.win 5).Covers := by decide +kernel

theorem out_q_arg (t : Fin cfg0.N) (r : Fin 128) (j : Fin 1024) :
    out0_3 (iblk m c 0 t) (iblk m c 1 t) (iblk m c 2 t) (ix2 r j) = queries 64 (x m c) (g m c) (w m c) (arow t r) j := by
  unfold queries
  rw [out_q, ← lane_blk m c t r 0 j]
  have e : (⟨j.val, by omega⟩ : Fin 3072) = col 0 j := Fin.ext (by simp)
  rw [e]

theorem q_eq : (dats m 0 c).arrAt 3 cfg0.N = arr (queries 64 (x m c) (g m c) (w m c)) := by
  refine (dats m 0 c).arrAt_eq_of_covers 3 _ covers_q fun t hf y => ?_
  blk_simp
  rw [after0_3]
  idx_vars y
  refine (out_q_arg m c t y0 y1).trans (arr_at _ _ ?_ ?_).symm
  · blk_simp [index_q t]
    have ht : t.val < 1 := t.isLt
    show _ = t.val * 128 + y0.val
    omega
  · blk_simp [index_q t]
    try omega

theorem kb_eq : (dats m 0 c).arrAt 6 cfg0.N = arr (part 1 (x m c) (g m c) (w m c)) := by
  refine (dats m 0 c).arrAt_eq_of_covers 6 _ covers_kb fun t hf y => ?_
  blk_simp
  rw [after0_6]
  idx_vars y
  refine (out_kb _ _ _ y0 y1).trans ((lane_blk m c t y0 1 y1).trans (arr_at _ _ ?_ ?_).symm)
  · blk_simp [index_kb t]
    have ht : t.val < 1 := t.isLt
    show _ = t.val * 128 + y0.val
    omega
  · blk_simp [index_kb t]
    try omega

theorem k_eq : (dats m 0 c).arrAt 4 cfg0.N = arr (part 1 (x m c) (g m c) (w m c)) := by
  refine (dats m 0 c).arrAt_eq_of_covers 4 _ covers_k fun t hf y => ?_
  blk_simp
  rw [after0_4]
  idx_vars y
  refine (out_k _ _ _ y0 y1).trans ((lane_blk m c t y0 1 y1).trans (arr_at _ _ ?_ ?_).symm)
  · blk_simp [index_k t]
    have ht : t.val < 1 := t.isLt
    show _ = t.val * 128 + y0.val
    omega
  · blk_simp [index_k t]
    try omega

theorem v_eq : (dats m 0 c).arrAt 5 cfg0.N = arr (part 2 (x m c) (g m c) (w m c)) := by
  refine (dats m 0 c).arrAt_eq_of_covers 5 _ covers_v fun t hf y => ?_
  blk_simp
  rw [after0_5]
  idx_vars y
  refine (out_v _ _ _ y0 y1).trans ((lane_blk m c t y0 2 y1).trans (arr_at _ _ ?_ ?_).symm)
  · blk_simp [index_v t]
    have ht : t.val < 1 := t.isLt
    show _ = t.val * 128 + y0.val
    omega
  · blk_simp [index_v t]
    try omega

theorem out_vb_arg (t : Fin cfg0.N) (r : Fin 128) (j : Fin 2048) :
    out0_7 (iblk m c 0 t) (iblk m c 1 t) (iblk m c 2 t) (ix2 r j) = withOnes (part 2 (x m c) (g m c) (w m c)) (arow t r) j := by
  rw [out_vb]
  unfold withOnes
  simp only [lane_blk]

theorem vb_eq : (dats m 0 c).arrAt 7 cfg0.N = arr (withOnes (part 2 (x m c) (g m c) (w m c))) := by
  refine (dats m 0 c).arrAt_eq_of_covers 7 _ covers_vb fun t hf y => ?_
  blk_simp
  rw [after0_7]
  idx_vars y
  refine (out_vb_arg m c t y0 y1).trans (arr_at _ _ ?_ ?_).symm
  · blk_simp [index_vb t]
    have ht : t.val < 1 := t.isLt
    show _ = t.val * 128 + y0.val
    omega
  · blk_simp [index_vb t]
    try omega

end Cert.BS

end
-- ==== Proof.BS.Ref.lean ====
/-
  The reference of the band layer's projection of the sample batch: each of its results at an index is the lane's formula over the row of its arguments.
-/
module

public import proofs.«01_k».proof.Proof.Gen.ReferenceBandQkvSampleIdeal.Run
public import proofs.«01_k».proof.Proof.QK.Stack
public import Idealize.ShloMosaic.Lib.Tactic.CleanTypes

@[expose] public section

set_option maxRecDepth 16384

noncomputable section

namespace Cert.BSRef

open Cert.ReferenceBandQkvSampleIdeal
open Idealize.ShloMosaic Idealize.ShloMosaic.TcCoe Idealize.SL.Sem Cert.QK

variable (m : (ℓ : Loc nD τ sig) → Buf (Elt Ideal) ℓ) (ρ : Dev nD → PrngReg) (c : Dev nD)

/-- The arguments. -/
abbrev x (r : Fin 128) : Fin 1024 → EReal :=
  rowsOf (n := 128) (b := 8) (s := 16) rfl (m (c.tc.loc main_arg0)) r
abbrev g (j : Fin 1024) : EReal := (m (c.tc.loc main_arg1) : (⟨1, ![1024]⟩ : Shape).Idx → EReal) (ix1 j)
abbrev w : Fin 1024 → Fin 3072 → EReal := row (m (c.tc.loc main_arg2) : M 1024 3072)

/-- The run's results, over the arguments. -/
theorem run : θ_run defs (onTc (τ := τ) (main (F := Ideal))) ⟨m, fun _ => 0, ρ⟩ fun r => ∀ c : Dev nD,
      r.2.mem (c.tc.loc main_v32) = arr (queries 64 (x m c) (g m c) (w m c))
      ∧ r.2.mem (c.tc.loc main_v33) = arr (part 1 (x m c) (g m c) (w m c))
      ∧ r.2.mem (c.tc.loc main_v34) = arr (part 2 (x m c) (g m c) (w m c))
      ∧ r.2.mem (c.tc.loc main_v36) = arr (part 1 (x m c) (g m c) (w m c))
      ∧ r.2.mem (c.tc.loc main_v25) = arr (withOnes (part 2 (x m c) (g m c) (w m c)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine (θ_run defs _ _).mono (fun r h c => ?_) (Value.run m ρ)
  obtain ⟨h0, h1, h2, h3, h4, h5⟩ := h c
  refine ⟨h0.trans ?_, h1.trans ?_, h2.trans ?_, h3.trans ?_, h4.trans ?_, h5⟩
  all_goals clear h0 h1 h2 h3 h4 h5 h r
  all_goals
    funext y
    idx_vars y
    clean_types
    pointwise
  · refine queries_64 (x m c) (g m c) (w m c) y0 y1 _ ?_
    simp
    omega
  · refine part_of 1 (x m c) (g m c) (w m c) y0 y1 _ ?_
    simp
    omega
  · refine part_of 2 (x m c) (g m c) (w m c) y0 y1 _ ?_
    simp
    omega
  · refine part_of 1 (x m c) (g m c) (w m c) y0 y1 _ ?_
    simp
    omega
  · refine withOnes_of (part 2 (x m c) (g m c) (w m c)) y0 y1 _ fun h => ?_
    refine part_of 2 (x m c) (g m c) (w m c) y0 _ _ ?_
    simp
    omega

end Cert.BSRef

end
-- ==== Proof.lean ====
/-
  The assembly: for each call its frames as printed and over the extended reals, the frame of its reference, the named
  constants, and the equation of the results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Value
public import proofs.«01_k».proof.Proof.Gen.ReferenceFfnIdeal
public import proofs.«01_k».proof.Proof.Gen.ReferenceFfnIdeal.Run
public import proofs.«01_k».proof.Proof.Gen.KernelQkv
public import proofs.«01_k».proof.Proof.Gen.KernelQkv.Skeleton
public import proofs.«01_k».proof.Proof.Gen.KernelQkv.Launch
public import proofs.«01_k».proof.Proof.Gen.KernelQkv.Points
public import proofs.«01_k».proof.Proof.Gen.KernelQkv.Frame
public import proofs.«01_k».proof.Proof.Gen.KernelQkvIdeal
public import proofs.«01_k».proof.Proof.Gen.KernelQkvIdeal.Skeleton
public import proofs.«01_k».proof.Proof.Gen.KernelQkvIdeal.Launch
public import proofs.«01_k».proof.Proof.Gen.KernelQkvIdeal.Points
public import proofs.«01_k».proof.Proof.Gen.KernelQkvIdeal.Value
public import proofs.«01_k».proof.Proof.Gen.ReferenceQkvIdeal
public import proofs.«01_k».proof.Proof.Gen.ReferenceQkvIdeal.Run
public import proofs.«01_k».proof.Proof.Gen.KernelBandQkv
public import proofs.«01_k».proof.Proof.Gen.KernelBandQkv.Skeleton
public import proofs.«01_k».proof.Proof.Gen.KernelBandQkv.Launch
public import proofs.«01_k».proof.Proof.Gen.KernelBandQkv.Points
public import proofs.«01_k».proof.Proof.Gen.KernelBandQkv.Frame
public import proofs.«01_k».proof.Proof.Gen.KernelBandQkvIdeal
public import proofs.«01_k».proof.Proof.Gen.KernelBandQkvIdeal.Skeleton
public import proofs.«01_k».proof.Proof.Gen.KernelBandQkvIdeal.Launch
public import proofs.«01_k».proof.Proof.Gen.KernelBandQkvIdeal.Points
public import proofs.«01_k».proof.Proof.Gen.KernelBandQkvIdeal.Value
public import proofs.«01_k».proof.Proof.Gen.ReferenceBandQkvIdeal
public import proofs.«01_k».proof.Proof.Gen.ReferenceBandQkvIdeal.Run
public import proofs.«01_k».proof.Proof.Gen.KernelFfnSample
public import proofs.«01_k».proof.Proof.Gen.KernelFfnSample.Skeleton
public import proofs.«01_k».proof.Proof.Gen.KernelFfnSample.Launch
public import proofs.«01_k».proof.Proof.Gen.KernelFfnSample.Points
public import proofs.«01_k».proof.Proof.Gen.KernelFfnSample.Frame
public import proofs.«01_k».proof.Proof.Gen.KernelFfnSampleIdeal
public import proofs.«01_k».proof.Proof.Gen.KernelFfnSampleIdeal.Skeleton
public import proofs.«01_k».proof.Proof.Gen.KernelFfnSampleIdeal.Launch
public import proofs.«01_k».proof.Proof.Gen.KernelFfnSampleIdeal.Points
public import proofs.«01_k».proof.Proof.Gen.KernelFfnSampleIdeal.Value
public import proofs.«01_k».proof.Proof.Gen.ReferenceFfnSampleIdeal
public import proofs.«01_k».proof.Proof.Gen.ReferenceFfnSampleIdeal.Run
public import proofs.«01_k».proof.Proof.Gen.KernelQkvSample
public import proofs.«01_k».proof.Proof.Gen.KernelQkvSample.Skeleton
public import proofs.«01_k».proof.Proof.Gen.KernelQkvSample.Launch
public import proofs.«01_k».proof.Proof.Gen.KernelQkvSample.Points
public import proofs.«01_k».proof.Proof.Gen.KernelQkvSample.Frame
public import proofs.«01_k».proof.Proof.Gen.KernelQkvSampleIdeal
public import proofs.«01_k».proof.Proof.Gen.KernelQkvSampleIdeal.Skeleton
public import proofs.«01_k».proof.Proof.Gen.KernelQkvSampleIdeal.Launch
public import proofs.«01_k».proof.Proof.Gen.KernelQkvSampleIdeal.Points
public import proofs.«01_k».proof.Proof.Gen.KernelQkvSampleIdeal.Value
public import proofs.«01_k».proof.Proof.Gen.ReferenceQkvSampleIdeal
public import proofs.«01_k».proof.Proof.Gen.ReferenceQkvSampleIdeal.Run
public import proofs.«01_k».proof.Proof.Gen.KernelBandQkvSample
public import proofs.«01_k».proof.Proof.Gen.KernelBandQkvSample.Skeleton
public import proofs.«01_k».proof.Proof.Gen.KernelBandQkvSample.Launch
public import proofs.«01_k».proof.Proof.Gen.KernelBandQkvSample.Points
public import proofs.«01_k».proof.Proof.Gen.KernelBandQkvSample.Frame
public import proofs.«01_k».proof.Proof.Gen.KernelBandQkvSampleIdeal
public import proofs.«01_k».proof.Proof.Gen.KernelBandQkvSampleIdeal.Skeleton
public import proofs.«01_k».proof.Proof.Gen.KernelBandQkvSampleIdeal.Launch
public import proofs.«01_k».proof.Proof.Gen.KernelBandQkvSampleIdeal.Points
public import proofs.«01_k».proof.Proof.Gen.KernelBandQkvSampleIdeal.Value
public import proofs.«01_k».proof.Proof.Gen.ReferenceBandQkvSampleIdeal
public import proofs.«01_k».proof.Proof.Gen.ReferenceBandQkvSampleIdeal.Run
public import proofs.«01_k».proof.Proof.SB.Run
public import proofs.«01_k».proof.Proof.SBK.Run
public import proofs.«01_k».proof.Proof.SB.Equation
public import proofs.«01_k».proof.Proof.FF.Equation
public import proofs.«01_k».proof.Proof.QK.Out
public import proofs.«01_k».proof.Proof.QK.Ref
public import proofs.«01_k».proof.Proof.BD.Out
public import proofs.«01_k».proof.Proof.BD.Ref
public import proofs.«01_k».proof.Proof.FS.Equation
public import proofs.«01_k».proof.Proof.QS.Out
public import proofs.«01_k».proof.Proof.QS.Ref
public import proofs.«01_k».proof.Proof.BS.Out
public import proofs.«01_k».proof.Proof.BS.Ref
public import Idealize.ShloMosaic.Adequacy
public import Idealize.ShloMosaic.Init

@[expose] public section

noncomputable section

namespace Cert.Proof

open Idealize.ShloMosaic Idealize.SL.Sem

/-- The kernel's literals stand for the named constants. -/
theorem preserves_named : Cert.preserves_Kernel_KernelIdeal :=
  ⟨IdealRules.named_const.statement _ _ _ _ _ rfl, IdealRules.named_const.statement _ _ _ _ _ rfl⟩

/-- The reference ends with its arguments as they were and every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The attention call's result is the reference's. -/
theorem value_SB : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.SB.attnOut (Cert.SB.aq m c) (Cert.SB.ak m c) (Cert.SB.av m c), ?_, ?_⟩
  · refine (θ_run Cert.KernelIdeal.defs _ _).mono (fun r h c => ⟨?_, Cert.SB.args_of m h.1 c⟩) (Cert.SB.run m ρ)
    exact ((h.1 c).1 4).trans (Cert.SB.out_eq m c)
  · refine (θ_run Cert.ReferenceIdeal.defs _ _).mono (fun r h c => ⟨?_, (h c).2⟩) (Cert.ReferenceIdeal.Value.run m' ρ')
    obtain ⟨e0, e1, e2⟩ := hagree c
    rw [(h c).1, Cert.SBEq.ref_out, e0, e1, e2]

/-- The feed-forward call's frames. -/
theorem frame_ffn : Cert.quiescent_KernelFfn (hKernelFfn := Cert.KernelFfn.Gen.facts) := fun m ρ _ =>
  Cert.KernelFfn.Gen.frame (F := Bits) m ρ
theorem frame_ffn_ideal : Cert.quiescent_KernelFfnIdeal (hKernelFfnIdeal := Cert.KernelFfnIdeal.Gen.facts) := fun m ρ _ =>
  Cert.KernelFfnIdeal.Gen.frame (F := Ideal) m ρ

theorem frame_ffn_reference : Cert.quiescent_ReferenceFfnIdeal (hReferenceFfnIdeal := Cert.ReferenceFfnIdeal.Gen.facts) := fun m ρ _ =>
  (θ_run Cert.ReferenceFfnIdeal.defs _ _).mono (fun r h => ⟨fun c => (h c).2, sem_eq_zero_of_no_sems (by decide) r.2⟩)
    (Cert.ReferenceFfnIdeal.Value.run m ρ)

/-- The feed-forward call's result is the reference's. -/
theorem value_ffn : Cert.algebraic_KernelFfnIdeal_ReferenceFfnIdeal (hKernelFfnIdeal := Cert.KernelFfnIdeal.Gen.facts)
    (hReferenceFfnIdeal := Cert.ReferenceFfnIdeal.Gen.facts) := by
  intro m ρ m' ρ' _ hagree
  refine ⟨fun c => Cert.FF.resOut (Cert.FF.X0 m c) (Cert.FF.X1 m c) (Cert.FF.X2 m c) (Cert.FF.X3 m c) (Cert.FF.X4 m c)
    (Cert.FF.X5 m c) (Cert.FF.X6 m c), ?_, ?_⟩
  · exact (θ_run Cert.KernelFfnIdeal.defs _ _).mono (fun r h c => ⟨(h c).1.trans (Cert.FF.out_eq m c), (h c).2⟩)
      (Cert.KernelFfnIdeal.Value.run_blocks m ρ)
  · refine (θ_run Cert.ReferenceFfnIdeal.defs _ _).mono (fun r h c => ⟨?_, (h c).2⟩) (Cert.ReferenceFfnIdeal.Value.run m' ρ')
    obtain ⟨e0, e1, e2, e3, e4, e5, e6⟩ := hagree c
    rw [(h c).1, Cert.FFEq.ref_out]
    unfold Cert.FFRef.X0 Cert.FFRef.X1 Cert.FFRef.X2 Cert.FFRef.X3 Cert.FFRef.X4 Cert.FFRef.X5 Cert.FFRef.X6
    rw [e0, e1, e2, e3, e4, e5, e6]

/-- The stick-breaking layer's projection call: its frames. -/
theorem frame_qkv : Cert.quiescent_KernelQkv (hKernelQkv := Cert.KernelQkv.Gen.facts) := fun m ρ _ =>
  Cert.KernelQkv.Gen.frame (F := Bits) m ρ
theorem frame_qkv_ideal : Cert.quiescent_KernelQkvIdeal (hKernelQkvIdeal := Cert.KernelQkvIdeal.Gen.facts) := fun m ρ _ =>
  Cert.KernelQkvIdeal.Gen.frame (F := Ideal) m ρ
theorem frame_qkv_reference : Cert.quiescent_ReferenceQkvIdeal (hReferenceQkvIdeal := Cert.ReferenceQkvIdeal.Gen.facts) := fun m ρ _ =>
  (θ_run Cert.ReferenceQkvIdeal.defs _ _).mono
    (fun r h => ⟨fun c => (h c).2.2.2.2.2, sem_eq_zero_of_no_sems (by decide) r.2⟩) (Cert.ReferenceQkvIdeal.Value.run m ρ)

/-- Its literal stands for the named constant. -/
theorem preserves_qkv : Cert.preserves_KernelQkv_KernelQkvIdeal := IdealRules.named_const.statement _ _ _ _ _ rfl

/-- Its five results are the reference's. -/
theorem value_qkv : Cert.algebraic_KernelQkvIdeal_ReferenceQkvIdeal (hKernelQkvIdeal := Cert.KernelQkvIdeal.Gen.facts)
    (hReferenceQkvIdeal := Cert.ReferenceQkvIdeal.Gen.facts) := by
  intro m ρ m' ρ' _ hagree
  refine ⟨fun c => Cert.QK.arr (Cert.QK.queries 128 (Cert.QK.x m c) (Cert.QK.g m c) (Cert.QK.w m c)),
    fun c => Cert.QK.stack (Cert.QK.part 1 (Cert.QK.x m c) (Cert.QK.g m c) (Cert.QK.w m c)) (Cert.QK.kbuf m c),
    fun c => Cert.QK.stack (Cert.QK.part 2 (Cert.QK.x m c) (Cert.QK.g m c) (Cert.QK.w m c)) (Cert.QK.vbuf m c),
    fun c => Cert.QK.arr (Cert.QK.part 1 (Cert.QK.x m c) (Cert.QK.g m c) (Cert.QK.w m c)),
    fun c => Cert.QK.arr (Cert.QK.part 2 (Cert.QK.x m c) (Cert.QK.g m c) (Cert.QK.w m c)), ?_, ?_⟩
  · refine (θ_run Cert.KernelQkvIdeal.defs _ _).mono (fun r h c => ?_) (Cert.KernelQkvIdeal.Value.run_blocks m ρ)
    obtain ⟨h0, h1, h2, h3, h4, h5⟩ := h c
    exact ⟨h0.trans (Cert.QK.q_eq m c), h1.trans (Cert.QK.k_eq m c), h2.trans (Cert.QK.v_eq m c), h3.trans (Cert.QK.kb_eq m c),
      h4.trans (Cert.QK.vb_eq m c), h5⟩
  · refine (θ_run Cert.ReferenceQkvIdeal.defs _ _).mono (fun r h c => ?_) (Cert.QKRef.run m' ρ')
    obtain ⟨e0, e1, e2, e3, e4⟩ := hagree c
    have := h c
    unfold Cert.QKRef.x Cert.QKRef.g Cert.QKRef.w Cert.QKRef.kbuf Cert.QKRef.vbuf at this
    rw [e0, e1, e2, e3, e4] at this ⊢
    exact this

/-- The band layer's projection call: its frames. -/
theorem frame_band : Cert.quiescent_KernelBandQkv (hKernelBandQkv := Cert.KernelBandQkv.Gen.facts) := fun m ρ _ =>
  Cert.KernelBandQkv.Gen.frame (F := Bits) m ρ
theorem frame_band_ideal : Cert.quiescent_KernelBandQkvIdeal (hKernelBandQkvIdeal := Cert.KernelBandQkvIdeal.Gen.facts) := fun m ρ _ =>
  Cert.KernelBandQkvIdeal.Gen.frame (F := Ideal) m ρ
theorem frame_band_reference :
    Cert.quiescent_ReferenceBandQkvIdeal (hReferenceBandQkvIdeal := Cert.ReferenceBandQkvIdeal.Gen.facts) := fun m ρ _ =>
  (θ_run Cert.ReferenceBandQkvIdeal.defs _ _).mono
    (fun r h => ⟨fun c => (h c).2.2.2.2.2, sem_eq_zero_of_no_sems (by decide) r.2⟩) (Cert.ReferenceBandQkvIdeal.Value.run m ρ)

/-- Its literal stands for the named constant. -/
theorem preserves_band : Cert.preserves_KernelBandQkv_KernelBandQkvIdeal := IdealRules.named_const.statement _ _ _ _ _ rfl

/-- Its five results are the reference's. -/
theorem value_band : Cert.algebraic_KernelBandQkvIdeal_ReferenceBandQkvIdeal (hKernelBandQkvIdeal := Cert.KernelBandQkvIdeal.Gen.facts)
    (hReferenceBandQkvIdeal := Cert.ReferenceBandQkvIdeal.Gen.facts) := by
  intro m ρ m' ρ' _ hagree
  refine ⟨fun c => Cert.QK.arr (Cert.QK.queries 64 (Cert.BD.x m c) (Cert.BD.g m c) (Cert.BD.w m c)),
    fun c => Cert.QK.arr (Cert.QK.part 1 (Cert.BD.x m c) (Cert.BD.g m c) (Cert.BD.w m c)),
    fun c => Cert.QK.arr (Cert.QK.part 2 (Cert.BD.x m c) (Cert.BD.g m c) (Cert.BD.w m c)),
    fun c => Cert.QK.arr (Cert.QK.part 1 (Cert.BD.x m c) (Cert.BD.g m c) (Cert.BD.w m c)),
    fun c => Cert.QK.arr (Cert.QK.withOnes (Cert.QK.part 2 (Cert.BD.x m c) (Cert.BD.g m c) (Cert.BD.w m c))), ?_, ?_⟩
  · refine (θ_run Cert.KernelBandQkvIdeal.defs _ _).mono (fun r h c => ?_) (Cert.KernelBandQkvIdeal.Value.run_blocks m ρ)
    obtain ⟨h0, h1, h2, h3, h4, h5⟩ := h c
    exact ⟨h0.trans (Cert.BD.q_eq m c), h1.trans (Cert.BD.k_eq m c), h2.trans (Cert.BD.v_eq m c), h3.trans (Cert.BD.kb_eq m c),
      h4.trans (Cert.BD.vb_eq m c), h5⟩
  · refine (θ_run Cert.ReferenceBandQkvIdeal.defs _ _).mono (fun r h c => ?_) (Cert.BDRef.run m' ρ')
    obtain ⟨e0, e1, e2⟩ := hagree c
    have := h c
    unfold Cert.BDRef.x Cert.BDRef.g Cert.BDRef.w at this
    rw [e0, e1, e2] at this ⊢
    exact this

/-- The feed-forward call on the sample batch: its frames. -/
theorem frame_ffn_sample : Cert.quiescent_KernelFfnSample (hKernelFfnSample := Cert.KernelFfnSample.Gen.facts) := fun m ρ _ =>
  Cert.KernelFfnSample.Gen.frame (F := Bits) m ρ
theorem frame_ffn_sample_ideal : Cert.quiescent_KernelFfnSampleIdeal (hKernelFfnSampleIdeal := Cert.KernelFfnSampleIdeal.Gen.facts) := fun m ρ _ =>
  Cert.KernelFfnSampleIdeal.Gen.frame (F := Ideal) m ρ

theorem frame_ffn_sample_reference : Cert.quiescent_ReferenceFfnSampleIdeal (hReferenceFfnSampleIdeal := Cert.ReferenceFfnSampleIdeal.Gen.facts) := fun m ρ _ =>
  (θ_run Cert.ReferenceFfnSampleIdeal.defs _ _).mono (fun r h => ⟨fun c => (h c).2, sem_eq_zero_of_no_sems (by decide) r.2⟩)
    (Cert.ReferenceFfnSampleIdeal.Value.run m ρ)

/-- The feed-forward call on the sample batch: its result is the reference's. -/
theorem value_ffn_sample : Cert.algebraic_KernelFfnSampleIdeal_ReferenceFfnSampleIdeal (hKernelFfnSampleIdeal := Cert.KernelFfnSampleIdeal.Gen.facts)
    (hReferenceFfnSampleIdeal := Cert.ReferenceFfnSampleIdeal.Gen.facts) := by
  intro m ρ m' ρ' _ hagree
  refine ⟨fun c => Cert.FS.resOut (Cert.FS.X0 m c) (Cert.FS.X1 m c) (Cert.FS.X2 m c) (Cert.FS.X3 m c) (Cert.FS.X4 m c)
    (Cert.FS.X5 m c) (Cert.FS.X6 m c), ?_, ?_⟩
  · exact (θ_run Cert.KernelFfnSampleIdeal.defs _ _).mono (fun r h c => ⟨(h c).1.trans (Cert.FS.out_eq m c), (h c).2⟩)
      (Cert.KernelFfnSampleIdeal.Value.run_blocks m ρ)
  · refine (θ_run Cert.ReferenceFfnSampleIdeal.defs _ _).mono (fun r h c => ⟨?_, (h c).2⟩) (Cert.ReferenceFfnSampleIdeal.Value.run m' ρ')
    obtain ⟨e0, e1, e2, e3, e4, e5, e6⟩ := hagree c
    rw [(h c).1, Cert.FSEq.ref_out]
    unfold Cert.FSRef.X0 Cert.FSRef.X1 Cert.FSRef.X2 Cert.FSRef.X3 Cert.FSRef.X4 Cert.FSRef.X5 Cert.FSRef.X6
    rw [e0, e1, e2, e3, e4, e5, e6]

/-- The stick-breaking layer's projection call on the sample batch: its frames. -/
theorem frame_qkv_sample : Cert.quiescent_KernelQkvSample (hKernelQkvSample := Cert.KernelQkvSample.Gen.facts) := fun m ρ _ =>
  Cert.KernelQkvSample.Gen.frame (F := Bits) m ρ
theorem frame_qkv_sample_ideal : Cert.quiescent_KernelQkvSampleIdeal (hKernelQkvSampleIdeal := Cert.KernelQkvSampleIdeal.Gen.facts) := fun m ρ _ =>
  Cert.KernelQkvSampleIdeal.Gen.frame (F := Ideal) m ρ
theorem frame_qkv_sample_reference :
    Cert.quiescent_ReferenceQkvSampleIdeal (hReferenceQkvSampleIdeal := Cert.ReferenceQkvSampleIdeal.Gen.facts) := fun m ρ _ =>
  (θ_run Cert.ReferenceQkvSampleIdeal.defs _ _).mono
    (fun r h => ⟨fun c => (h c).2.2.2.2.2, sem_eq_zero_of_no_sems (by decide) r.2⟩) (Cert.ReferenceQkvSampleIdeal.Value.run m ρ)

/-- Its literal stands for the named constant. -/
theorem preserves_qkv_sample : Cert.preserves_KernelQkvSample_KernelQkvSampleIdeal := IdealRules.named_const.statement _ _ _ _ _ rfl

/-- Its five results are the reference's. -/
theorem value_qkv_sample : Cert.algebraic_KernelQkvSampleIdeal_ReferenceQkvSampleIdeal (hKernelQkvSampleIdeal := Cert.KernelQkvSampleIdeal.Gen.facts)
    (hReferenceQkvSampleIdeal := Cert.ReferenceQkvSampleIdeal.Gen.facts) := by
  intro m ρ m' ρ' _ hagree
  refine ⟨fun c => Cert.QK.arr (Cert.QK.queries 128 (Cert.QS.x m c) (Cert.QS.g m c) (Cert.QS.w m c)),
    fun c => Cert.QK.arr (Cert.QK.part 1 (Cert.QS.x m c) (Cert.QS.g m c) (Cert.QS.w m c)),
    fun c => Cert.QK.arr (Cert.QK.part 2 (Cert.QS.x m c) (Cert.QS.g m c) (Cert.QS.w m c)),
    fun c => Cert.QK.arr (Cert.QK.part 1 (Cert.QS.x m c) (Cert.QS.g m c) (Cert.QS.w m c)),
    fun c => Cert.QK.arr (Cert.QK.part 2 (Cert.QS.x m c) (Cert.QS.g m c) (Cert.QS.w m c)), ?_, ?_⟩
  · refine (θ_run Cert.KernelQkvSampleIdeal.defs _ _).mono (fun r h c => ?_) (Cert.KernelQkvSampleIdeal.Value.run_blocks m ρ)
    obtain ⟨h0, h1, h2, h3, h4, h5⟩ := h c
    exact ⟨h0.trans (Cert.QS.q_eq m c), h1.trans (Cert.QS.k_eq m c), h2.trans (Cert.QS.v_eq m c), h3.trans (Cert.QS.kb_eq m c),
      h4.trans (Cert.QS.vb_eq m c), h5⟩
  · refine (θ_run Cert.ReferenceQkvSampleIdeal.defs _ _).mono (fun r h c => ?_) (Cert.QSRef.run m' ρ')
    obtain ⟨e0, e1, e2⟩ := hagree c
    have := h c
    unfold Cert.QSRef.x Cert.QSRef.g Cert.QSRef.w at this
    rw [e0, e1, e2] at this ⊢
    exact this

/-- The band layer's projection call on the sample batch: its frames. -/
theorem frame_band_sample : Cert.quiescent_KernelBandQkvSample (hKernelBandQkvSample := Cert.KernelBandQkvSample.Gen.facts) := fun m ρ _ =>
  Cert.KernelBandQkvSample.Gen.frame (F := Bits) m ρ
theorem frame_band_sample_ideal : Cert.quiescent_KernelBandQkvSampleIdeal (hKernelBandQkvSampleIdeal := Cert.KernelBandQkvSampleIdeal.Gen.facts) := fun m ρ _ =>
  Cert.KernelBandQkvSampleIdeal.Gen.frame (F := Ideal) m ρ
theorem frame_band_sample_reference :
    Cert.quiescent_ReferenceBandQkvSampleIdeal (hReferenceBandQkvSampleIdeal := Cert.ReferenceBandQkvSampleIdeal.Gen.facts) := fun m ρ _ =>
  (θ_run Cert.ReferenceBandQkvSampleIdeal.defs _ _).mono
    (fun r h => ⟨fun c => (h c).2.2.2.2.2, sem_eq_zero_of_no_sems (by decide) r.2⟩) (Cert.ReferenceBandQkvSampleIdeal.Value.run m ρ)

/-- Its literal stands for the named constant. -/
theorem preserves_band_sample : Cert.preserves_KernelBandQkvSample_KernelBandQkvSampleIdeal := IdealRules.named_const.statement _ _ _ _ _ rfl

/-- Its five results are the reference's. -/
theorem value_band_sample : Cert.algebraic_KernelBandQkvSampleIdeal_ReferenceBandQkvSampleIdeal (hKernelBandQkvSampleIdeal := Cert.KernelBandQkvSampleIdeal.Gen.facts)
    (hReferenceBandQkvSampleIdeal := Cert.ReferenceBandQkvSampleIdeal.Gen.facts) := by
  intro m ρ m' ρ' _ hagree
  refine ⟨fun c => Cert.QK.arr (Cert.QK.queries 64 (Cert.BS.x m c) (Cert.BS.g m c) (Cert.BS.w m c)),
    fun c => Cert.QK.arr (Cert.QK.part 1 (Cert.BS.x m c) (Cert.BS.g m c) (Cert.BS.w m c)),
    fun c => Cert.QK.arr (Cert.QK.part 2 (Cert.BS.x m c) (Cert.BS.g m c) (Cert.BS.w m c)),
    fun c => Cert.QK.arr (Cert.QK.part 1 (Cert.BS.x m c) (Cert.BS.g m c) (Cert.BS.w m c)),
    fun c => Cert.QK.arr (Cert.QK.withOnes (Cert.QK.part 2 (Cert.BS.x m c) (Cert.BS.g m c) (Cert.BS.w m c))), ?_, ?_⟩
  · refine (θ_run Cert.KernelBandQkvSampleIdeal.defs _ _).mono (fun r h c => ?_) (Cert.KernelBandQkvSampleIdeal.Value.run_blocks m ρ)
    obtain ⟨h0, h1, h2, h3, h4, h5⟩ := h c
    exact ⟨h0.trans (Cert.BS.q_eq m c), h1.trans (Cert.BS.k_eq m c), h2.trans (Cert.BS.v_eq m c), h3.trans (Cert.BS.kb_eq m c),
      h4.trans (Cert.BS.vb_eq m c), h5⟩
  · refine (θ_run Cert.ReferenceBandQkvSampleIdeal.defs _ _).mono (fun r h c => ?_) (Cert.BSRef.run m' ρ')
    obtain ⟨e0, e1, e2⟩ := hagree c
    have := h c
    unfold Cert.BSRef.x Cert.BSRef.g Cert.BSRef.w at this
    rw [e0, e1, e2] at this ⊢
    exact this

theorem claim : Cert.Claim := ⟨Cert.Kernel.Gen.facts, Cert.KernelIdeal.Gen.facts, Cert.ReferenceIdeal.Gen.facts,
  Cert.KernelFfn.Gen.facts, Cert.KernelFfnIdeal.Gen.facts, Cert.ReferenceFfnIdeal.Gen.facts,
  Cert.KernelQkv.Gen.facts, Cert.KernelQkvIdeal.Gen.facts, Cert.ReferenceQkvIdeal.Gen.facts,
  Cert.KernelBandQkv.Gen.facts, Cert.KernelBandQkvIdeal.Gen.facts, Cert.ReferenceBandQkvIdeal.Gen.facts,
  Cert.KernelFfnSample.Gen.facts, Cert.KernelFfnSampleIdeal.Gen.facts, Cert.ReferenceFfnSampleIdeal.Gen.facts,
  Cert.KernelQkvSample.Gen.facts, Cert.KernelQkvSampleIdeal.Gen.facts, Cert.ReferenceQkvSampleIdeal.Gen.facts,
  Cert.KernelBandQkvSample.Gen.facts, Cert.KernelBandQkvSampleIdeal.Gen.facts, Cert.ReferenceBandQkvSampleIdeal.Gen.facts,
  fun m ρ _ => Cert.SBK.frame_all m ρ, fun m ρ _ => Cert.SB.frame_all m ρ, frame_reference,
  frame_ffn, frame_ffn_ideal, frame_ffn_reference,
  frame_qkv, frame_qkv_ideal, frame_qkv_reference,
  frame_band, frame_band_ideal, frame_band_reference,
  frame_ffn_sample, frame_ffn_sample_ideal, frame_ffn_sample_reference,
  frame_qkv_sample, frame_qkv_sample_ideal, frame_qkv_sample_reference,
  frame_band_sample, frame_band_sample_ideal, frame_band_sample_reference,
  preserves_named, value_SB, trivial, value_ffn, preserves_qkv, value_qkv,
  preserves_band, value_band, trivial, value_ffn_sample, preserves_qkv_sample, value_qkv_sample,
  preserves_band_sample, value_band_sample⟩

end Cert.Proof

end
